-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_ClippedIdeal (m : (ℓ : Loc Cert.ClippedIdeal.nD Cert.ClippedIdeal.τ Cert.ClippedIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ClippedIdeal [hClippedIdeal : Cert.ClippedIdeal.Facts] : Prop :=
  ∀ (m : (ℓ : Loc Cert.ClippedIdeal.nD Cert.ClippedIdeal.τ Cert.ClippedIdeal.sig) → Buf (Elt Ideal) ℓ) (g : Dev Cert.ClippedIdeal.nD → PrngReg), Pre_ClippedIdeal m →
    θ_run (Cert.ClippedIdeal.defs (F := Ideal)) (onTc (τ := Cert.ClippedIdeal.τ) (Cert.ClippedIdeal.main (F := Ideal))) ⟨m, fun _ => 0, g⟩ (fun r => (∀ c : Dev Cert.ClippedIdeal.nD,
      r.2.mem ((c.tc : Thread Cert.ClippedIdeal.nD Cert.ClippedIdeal.τ).loc Cert.ClippedIdeal.main_arg0) = m ((c.tc : Thread Cert.ClippedIdeal.nD Cert.ClippedIdeal.τ).loc Cert.ClippedIdeal.main_arg0)
      ∧ r.2.mem ((c.tc : Thread Cert.ClippedIdeal.nD Cert.ClippedIdeal.τ).loc Cert.ClippedIdeal.main_arg1) = m ((c.tc : Thread Cert.ClippedIdeal.nD Cert.ClippedIdeal.τ).loc Cert.ClippedIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ReferenceIdeal.nD).tc : Thread Cert.ReferenceIdeal.nD Cert.ReferenceIdeal.τ).loc Cert.ReferenceIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ReferenceIdeal.nD).tc : Thread Cert.ReferenceIdeal.nD Cert.ReferenceIdeal.τ).loc Cert.ReferenceIdeal.main_arg1))) →
    ∃ (v0 : Buf (Elt Ideal) (((0 : Dev Cert.ReferenceIdeal.nD).tc : Thread Cert.ReferenceIdeal.nD Cert.ReferenceIdeal.τ).loc Cert.ReferenceIdeal.main_v5)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = Layout.block ⟨2, ![512, 2048]⟩ ⟨2, ![4096, 2048]⟩ 0 8 c v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v5) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1))

def algebraic_KernelIdeal_ClippedIdeal_on_in_range [hKernelIdeal : Cert.KernelIdeal.Facts] [hClippedIdeal : Cert.ClippedIdeal.Facts] [hOn_in_range : Cert.On_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ClippedIdeal.nD Cert.ClippedIdeal.τ Cert.ClippedIdeal.sig) → Buf (Elt Ideal) ℓ) (g' : Dev Cert.ClippedIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![4096, 512]⟩ ⟨2, ![4096, 4096]⟩ 1 8 c (m' (((0 : Dev Cert.ClippedIdeal.nD).tc : Thread Cert.ClippedIdeal.nD Cert.ClippedIdeal.τ).loc Cert.ClippedIdeal.main_arg0))
      ∧ m ((c.tc : Thread Cert.KernelIdeal.nD Cert.KernelIdeal.τ).loc Cert.KernelIdeal.main_arg1) = Layout.block ⟨2, ![512, 2048]⟩ ⟨2, ![4096, 2048]⟩ 0 8 c (m' (((0 : Dev Cert.ClippedIdeal.nD).tc : Thread Cert.ClippedIdeal.nD Cert.ClippedIdeal.τ).loc Cert.ClippedIdeal.main_arg1))) →
    ∃ (v0 : Buf (Elt Ideal) (((0 : Dev Cert.ClippedIdeal.nD).tc : Thread Cert.ClippedIdeal.nD Cert.ClippedIdeal.τ).loc Cert.ClippedIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![512, 2048]⟩ : Shape).Idx, (Layout.block ⟨2, ![512, 2048]⟩ ⟨2, ![4096, 2048]⟩ 0 8 c ((Cert.On_in_range.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1)))) : (⟨2, ![512, 2048]⟩ : Shape).Idx → _) i = 1#1 → r.2.mem ((c.tc : Thread Cert.KernelIdeal.nD Cert.KernelIdeal.τ).loc Cert.KernelIdeal.main_v1) i = (Layout.block ⟨2, ![512, 2048]⟩ ⟨2, ![4096, 2048]⟩ 0 8 c v0 : (⟨2, ![512, 2048]⟩ : Shape).Idx → _) i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ClippedIdeal.defs (F := Ideal)) (onTc (τ := Cert.ClippedIdeal.τ) (Cert.ClippedIdeal.main (F := Ideal))) ⟨m', fun _ => 0, g'⟩ (fun r =>
          (∀ i : (⟨2, ![4096, 2048]⟩ : Shape).Idx, (Cert.On_in_range.fn (F := Ideal) (m' (((0 : Dev Cert.ClippedIdeal.nD).tc : Thread Cert.ClippedIdeal.nD Cert.ClippedIdeal.τ).loc Cert.ClippedIdeal.main_arg0)) (m' (((0 : Dev Cert.ClippedIdeal.nD).tc : Thread Cert.ClippedIdeal.nD Cert.ClippedIdeal.τ).loc Cert.ClippedIdeal.main_arg1))) i = 1#1 → r.2.mem (((0 : Dev Cert.ClippedIdeal.nD).tc : Thread Cert.ClippedIdeal.nD Cert.ClippedIdeal.τ).loc Cert.ClippedIdeal.main_v6) i = v0 i)
          ∧ r.2.mem (((0 : Dev Cert.ClippedIdeal.nD).tc : Thread Cert.ClippedIdeal.nD Cert.ClippedIdeal.τ).loc Cert.ClippedIdeal.main_arg0) = m' (((0 : Dev Cert.ClippedIdeal.nD).tc : Thread Cert.ClippedIdeal.nD Cert.ClippedIdeal.τ).loc Cert.ClippedIdeal.main_arg0)
          ∧ r.2.mem (((0 : Dev Cert.ClippedIdeal.nD).tc : Thread Cert.ClippedIdeal.nD Cert.ClippedIdeal.τ).loc Cert.ClippedIdeal.main_arg1) = m' (((0 : Dev Cert.ClippedIdeal.nD).tc : Thread Cert.ClippedIdeal.nD Cert.ClippedIdeal.τ).loc Cert.ClippedIdeal.main_arg1))

def Claim : Prop :=
  ∃ (hKernel : Cert.Kernel.Facts) (hKernelIdeal : Cert.KernelIdeal.Facts) (hReferenceIdeal : Cert.ReferenceIdeal.Facts) (hClippedIdeal : Cert.ClippedIdeal.Facts) (hOn_in_range : Cert.On_in_range.Facts),
    quiescent_Kernel (hKernel := hKernel)
    ∧ quiescent_KernelIdeal (hKernelIdeal := hKernelIdeal)
    ∧ quiescent_ReferenceIdeal (hReferenceIdeal := hReferenceIdeal)
    ∧ quiescent_ClippedIdeal (hClippedIdeal := hClippedIdeal)
    ∧ preserves_Kernel_KernelIdeal
    ∧ algebraic_KernelIdeal_ReferenceIdeal (hKernelIdeal := hKernelIdeal) (hReferenceIdeal := hReferenceIdeal)
    ∧ algebraic_KernelIdeal_ClippedIdeal_on_in_range (hKernelIdeal := hKernelIdeal) (hClippedIdeal := hClippedIdeal) (hOn_in_range := hOn_in_range)
-- ==== On_in_range.lean ====
abbrev S4096x4096 : Shape := ⟨2, ![4096, 4096]⟩
abbrev S4096x2048 : Shape := ⟨2, ![4096, 2048]⟩
abbrev S_ : Shape := ⟨0, ![]⟩

class Facts : Prop where
  bcast_S_S4096x2048 : S_.BroadcastsInDim S4096x2048 (![] : Fin 0 → Fin S4096x2048.rank)
  dot_S4096x4096_S4096x2048_S4096x2048_1_0_0_1_n_n_wf : DotDims.WF S4096x4096 S4096x2048 S4096x2048 [1] [0] [0] [1] [] []

variable [Facts]

def dot_S4096x4096_S4096x2048_S4096x2048_1_0_0_1_n_n : DotDims S4096x4096 S4096x2048 S4096x2048 where
  lhsContracting := [1]
  rhsContracting := [0]
  lhsNonContracting := [0]
  rhsNonContracting := [1]
  lhsBatch := []
  rhsBatch := []
  wf := dot_S4096x4096_S4096x2048_S4096x2048_1_0_0_1_n_n_wf
def fn {F : FTy → Type} [FloatOps F] (main_arg0 : FVec F S4096x4096 .f32) (main_arg1 : FVec F S4096x2048 .f32) : IVec S4096x2048 1 :=
  let main_v0 : FVec F S4096x2048 .f32 := (fun l r => Host.dotGeneral dot_S4096x4096_S4096x2048_S4096x2048_1_0_0_1_n_n none l r) main_arg0 main_arg1
  let main_v1 : FVec F S4096x2048 .f32 := Host.absf main_v0
  let main_cst : FVec F S_ .f32 := constant S_ .f32 0x42700000#32
  let main_v2 : FVec F S4096x2048 .f32 := broadcastInDim S4096x2048 ![] bcast_S_S4096x2048 main_cst
  let main_v3 : IVec S4096x2048 1 := cmpf .ole main_v1 main_v2
  main_v3
-- ==== Kernel.lean ====
abbrev S4096x512 : Shape := ⟨2, ![4096, 512]⟩
abbrev S512x2048 : Shape := ⟨2, ![512, 2048]⟩
abbrev S8x512x2048 : Shape := ⟨3, ![8, 512, 2048]⟩
abbrev S7x512x768 : Shape := ⟨3, ![7, 512, 768]⟩
abbrev S7x512x640 : Shape := ⟨3, ![7, 512, 640]⟩
abbrev S2x512x512 : Shape := ⟨3, ![2, 512, 512]⟩
abbrev S2 : Shape := ⟨1, ![2]⟩
abbrev S3 : Shape := ⟨1, ![3]⟩
abbrev S7 : Shape := ⟨1, ![7]⟩
abbrev S1 : Shape := ⟨1, ![1]⟩
abbrev S_ : Shape := ⟨0, ![]⟩
abbrev S1x512x512 : Shape := ⟨3, ![1, 512, 512]⟩
abbrev S512x512 : Shape := ⟨2, ![512, 512]⟩
abbrev S1x512x2048 : Shape := ⟨3, ![1, 512, 2048]⟩
abbrev S1x512x768 : Shape := ⟨3, ![1, 512, 768]⟩
abbrev S512x768 : Shape := ⟨2, ![512, 768]⟩
abbrev S1x512x640 : Shape := ⟨3, ![1, 512, 640]⟩
abbrev S512x640 : Shape := ⟨2, ![512, 640]⟩

abbrev nBuf : Space → Nat
  | .hbm => 3
  | .vmem => 8
  | .smem => 0
  | _ => 0

abbrev bufTy : (tb : Table) → Fin (tcTables nBuf tb) → BufTy
  | .hbm, ⟨0, _⟩ => ⟨S4096x512, .f32⟩
  | .hbm, ⟨1, _⟩ => ⟨S512x2048, .f32⟩
  | .hbm, ⟨2, _⟩ => ⟨S512x2048, .f32⟩
  | .local _ .vmem, ⟨0, _⟩ => ⟨S512x2048, .f32⟩
  | .local _ .vmem, ⟨1, _⟩ => ⟨S8x512x2048, .bf16⟩
  | .local _ .vmem, ⟨2, _⟩ => ⟨S7x512x768, .bf16⟩
  | .local _ .vmem, ⟨3, _⟩ => ⟨S7x512x640, .bf16⟩
  | .local _ .vmem, ⟨4, _⟩ => ⟨S7x512x640, .bf16⟩
  | .local _ .vmem, ⟨5, _⟩ => ⟨S512x2048, .bf16⟩
  | .local _ .vmem, ⟨6, _⟩ => ⟨S2x512x512, .f32⟩
  | .local _ .vmem, ⟨7, _⟩ => ⟨S512x2048, .f32⟩
  | _, _ => ⟨S4096x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 1 → Bool
  | ⟨0, _⟩ => false
  | _ => false

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  (ofTc nBuf bufTy 1 48 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_v1 : Ref sig .tc := ⟨.hbm, 2, rfl⟩
abbrev cc0_stg0_0 : Ref sig .tc := ⟨.vmem, 0, rfl⟩
abbrev cc0_scratch0 : Ref sig .tc := ⟨.vmem, 1, rfl⟩
abbrev cc0_scratch1 : Ref sig .tc := ⟨.vmem, 2, rfl⟩
abbrev cc0_scratch2 : Ref sig .tc := ⟨.vmem, 3, rfl⟩
abbrev cc0_scratch3 : Ref sig .tc := ⟨.vmem, 4, rfl⟩
abbrev cc0_scratch4 : Ref sig .tc := ⟨.vmem, 5, rfl⟩
abbrev cc0_scratch5 : Ref sig .tc := ⟨.vmem, 6, rfl⟩
abbrev cc0_scratch6 : Ref sig .tc := ⟨.vmem, 7, rfl⟩
abbrev cc0_sem0_0 : DmaSem sig := 0
abbrev barrier0 : Sem sig := 0

abbrev nD : Nat := 8
abbrev τ : Topo := Topo.v7x

variable {F : FTy → Type} [FloatOps F]

abbrev grid0 : Pipeline.Grid := .none

def k0_off1 (d0 : Dev nD) (c2_i32 : BitVec 32) : Fin 2 → Nat :=
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let v3 : BitVec 32 := Scalar.xori v2 c2_i32
  let c512_i32 : BitVec 32 := 512#32
  let v4 : BitVec 32 := Scalar.muli v3 c512_i32
  let c0_i32_3 : BitVec 32 := 0#32
  ![v4.toNat, 0]
def k0_dev1 (d0 : Dev nD) : Nat :=
  let c0_i32_7 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_4 : BitVec 32 := 1#32
  let v11 : BitVec 32 := Scalar.xori v2 c1_i32_4
  let c1_i32_6 : BitVec 32 := 1#32
  let v12 : BitVec 32 := Scalar.muli v11 c1_i32_6
  let v13 : BitVec 32 := Scalar.addi c0_i32_7 v12
  v13.toNat
def k0_dev2 (d0 : Dev nD) : Nat :=
  let c0_i32_10 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32 : BitVec 32 := 3#32
  let v14 : BitVec 32 := Scalar.xori v2 c3_i32
  let c1_i32_9 : BitVec 32 := 1#32
  let v15 : BitVec 32 := Scalar.muli v14 c1_i32_9
  let v16 : BitVec 32 := Scalar.addi c0_i32_10 v15
  v16.toNat
def k0_dev3 (d0 : Dev nD) : Nat :=
  let c0_i32_13 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32 : BitVec 32 := 4#32
  let v17 : BitVec 32 := Scalar.xori v2 c4_i32
  let c1_i32_12 : BitVec 32 := 1#32
  let v18 : BitVec 32 := Scalar.muli v17 c1_i32_12
  let v19 : BitVec 32 := Scalar.addi c0_i32_13 v18
  v19.toNat
def k0_dev4 (d0 : Dev nD) : Nat :=
  let c0_i32_43 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_37 : BitVec 32 := 1#32
  let v47 : BitVec 32 := Scalar.xori v2 c1_i32_37
  let c1_i32_42 : BitVec 32 := 1#32
  let v48 : BitVec 32 := Scalar.muli v47 c1_i32_42
  let v49 : BitVec 32 := Scalar.addi c0_i32_43 v48
  v49.toNat
def k0_dev5 (d0 : Dev nD) : Nat :=
  let c0_i32_73 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_67 : BitVec 32 := 3#32
  let v79 : BitVec 32 := Scalar.xori v2 c3_i32_67
  let c1_i32_72 : BitVec 32 := 1#32
  let v80 : BitVec 32 := Scalar.muli v79 c1_i32_72
  let v81 : BitVec 32 := Scalar.addi c0_i32_73 v80
  v81.toNat
def k0_dev6 (d0 : Dev nD) : Nat :=
  let c0_i32_103 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_97 : BitVec 32 := 4#32
  let v111 : BitVec 32 := Scalar.xori v2 c4_i32_97
  let c1_i32_102 : BitVec 32 := 1#32
  let v112 : BitVec 32 := Scalar.muli v111 c1_i32_102
  let v113 : BitVec 32 := Scalar.addi c0_i32_103 v112
  v113.toNat
def k0_dev7 (d0 : Dev nD) : Nat :=
  let c0_i32_134 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_128 : BitVec 32 := 1#32
  let v143 : BitVec 32 := Scalar.xori v2 c1_i32_128
  let c1_i32_133 : BitVec 32 := 1#32
  let v144 : BitVec 32 := Scalar.muli v143 c1_i32_133
  let v145 : BitVec 32 := Scalar.addi c0_i32_134 v144
  v145.toNat
def k0_dev8 (d0 : Dev nD) : Nat :=
  let c0_i32_145 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_139 : BitVec 32 := 1#32
  let v154 : BitVec 32 := Scalar.xori v2 c1_i32_139
  let c1_i32_144 : BitVec 32 := 1#32
  let v155 : BitVec 32 := Scalar.muli v154 c1_i32_144
  let v156 : BitVec 32 := Scalar.addi c0_i32_145 v155
  v156.toNat
def k0_dev9 (d0 : Dev nD) : Nat :=
  let c0_i32_156 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_150 : BitVec 32 := 3#32
  let v165 : BitVec 32 := Scalar.xori v2 c3_i32_150
  let c1_i32_155 : BitVec 32 := 1#32
  let v166 : BitVec 32 := Scalar.muli v165 c1_i32_155
  let v167 : BitVec 32 := Scalar.addi c0_i32_156 v166
  v167.toNat
def k0_dev10 (d0 : Dev nD) : Nat :=
  let c0_i32_167 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_161 : BitVec 32 := 3#32
  let v176 : BitVec 32 := Scalar.xori v2 c3_i32_161
  let c1_i32_166 : BitVec 32 := 1#32
  let v177 : BitVec 32 := Scalar.muli v176 c1_i32_166
  let v178 : BitVec 32 := Scalar.addi c0_i32_167 v177
  v178.toNat
def k0_dev11 (d0 : Dev nD) : Nat :=
  let c0_i32_178 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_172 : BitVec 32 := 4#32
  let v187 : BitVec 32 := Scalar.xori v2 c4_i32_172
  let c1_i32_177 : BitVec 32 := 1#32
  let v188 : BitVec 32 := Scalar.muli v187 c1_i32_177
  let v189 : BitVec 32 := Scalar.addi c0_i32_178 v188
  v189.toNat
def k0_dev12 (d0 : Dev nD) : Nat :=
  let c0_i32_189 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_183 : BitVec 32 := 4#32
  let v198 : BitVec 32 := Scalar.xori v2 c4_i32_183
  let c1_i32_188 : BitVec 32 := 1#32
  let v199 : BitVec 32 := Scalar.muli v198 c1_i32_188
  let v200 : BitVec 32 := Scalar.addi c0_i32_189 v199
  v200.toNat
def k0_dev13 (d0 : Dev nD) : Nat :=
  let c0_i32_222 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_216 : BitVec 32 := 1#32
  let v230 : BitVec 32 := Scalar.xori v2 c1_i32_216
  let c1_i32_221 : BitVec 32 := 1#32
  let v231 : BitVec 32 := Scalar.muli v230 c1_i32_221
  let v232 : BitVec 32 := Scalar.addi c0_i32_222 v231
  v232.toNat
def k0_dev14 (d0 : Dev nD) : Nat :=
  let c0_i32_254 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_248 : BitVec 32 := 3#32
  let v262 : BitVec 32 := Scalar.xori v2 c3_i32_248
  let c1_i32_253 : BitVec 32 := 1#32
  let v263 : BitVec 32 := Scalar.muli v262 c1_i32_253
  let v264 : BitVec 32 := Scalar.addi c0_i32_254 v263
  v264.toNat
def k0_dev15 (d0 : Dev nD) : Nat :=
  let c0_i32_286 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_280 : BitVec 32 := 4#32
  let v294 : BitVec 32 := Scalar.xori v2 c4_i32_280
  let c1_i32_285 : BitVec 32 := 1#32
  let v295 : BitVec 32 := Scalar.muli v294 c1_i32_285
  let v296 : BitVec 32 := Scalar.addi c0_i32_286 v295
  v296.toNat
def k0_dev16 (d0 : Dev nD) : Nat :=
  let c0_i32_390 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_384 : BitVec 32 := 4#32
  let v387 : BitVec 32 := Scalar.xori v2 c4_i32_384
  let c1_i32_389 : BitVec 32 := 1#32
  let v388 : BitVec 32 := Scalar.muli v387 c1_i32_389
  let v389 : BitVec 32 := Scalar.addi c0_i32_390 v388
  v389.toNat
def k0_dev17 (d0 : Dev nD) : Nat :=
  let c0_i32_401 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_395 : BitVec 32 := 4#32
  let v398 : BitVec 32 := Scalar.xori v2 c4_i32_395
  let c1_i32_400 : BitVec 32 := 1#32
  let v399 : BitVec 32 := Scalar.muli v398 c1_i32_400
  let v400 : BitVec 32 := Scalar.addi c0_i32_401 v399
  v400.toNat
def k0_dev18 (d0 : Dev nD) : Nat :=
  let c0_i32_432 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_426 : BitVec 32 := 1#32
  let v426 : BitVec 32 := Scalar.xori v2 c1_i32_426
  let c1_i32_431 : BitVec 32 := 1#32
  let v427 : BitVec 32 := Scalar.muli v426 c1_i32_431
  let v428 : BitVec 32 := Scalar.addi c0_i32_432 v427
  v428.toNat
def k0_dev19 (d0 : Dev nD) : Nat :=
  let c0_i32_443 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_437 : BitVec 32 := 1#32
  let v437 : BitVec 32 := Scalar.xori v2 c1_i32_437
  let c1_i32_442 : BitVec 32 := 1#32
  let v438 : BitVec 32 := Scalar.muli v437 c1_i32_442
  let v439 : BitVec 32 := Scalar.addi c0_i32_443 v438
  v439.toNat
def k0_dev20 (d0 : Dev nD) : Nat :=
  let c0_i32_474 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_468 : BitVec 32 := 3#32
  let v465 : BitVec 32 := Scalar.xori v2 c3_i32_468
  let c1_i32_473 : BitVec 32 := 1#32
  let v466 : BitVec 32 := Scalar.muli v465 c1_i32_473
  let v467 : BitVec 32 := Scalar.addi c0_i32_474 v466
  v467.toNat
def k0_dev21 (d0 : Dev nD) : Nat :=
  let c0_i32_485 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_479 : BitVec 32 := 3#32
  let v476 : BitVec 32 := Scalar.xori v2 c3_i32_479
  let c1_i32_484 : BitVec 32 := 1#32
  let v477 : BitVec 32 := Scalar.muli v476 c1_i32_484
  let v478 : BitVec 32 := Scalar.addi c0_i32_485 v477
  v478.toNat
def k0_dev22 (d0 : Dev nD) : Nat :=
  let c0_i32_636 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c1_i32_630 : BitVec 32 := 1#32
  let v606 : BitVec 32 := Scalar.xori v2 c1_i32_630
  let c1_i32_635 : BitVec 32 := 1#32
  let v607 : BitVec 32 := Scalar.muli v606 c1_i32_635
  let v608 : BitVec 32 := Scalar.addi c0_i32_636 v607
  v608.toNat
def k0_dev23 (d0 : Dev nD) : Nat :=
  let c0_i32_667 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c3_i32_661 : BitVec 32 := 3#32
  let v634 : BitVec 32 := Scalar.xori v2 c3_i32_661
  let c1_i32_666 : BitVec 32 := 1#32
  let v635 : BitVec 32 := Scalar.muli v634 c1_i32_666
  let v636 : BitVec 32 := Scalar.addi c0_i32_667 v635
  v636.toNat
def k0_dev24 (d0 : Dev nD) : Nat :=
  let c0_i32_698 : BitVec 32 := 0#32
  let v0 : BitVec 32 := Dev.word d0
  let c1_i32 : BitVec 32 := 1#32
  let v1 : BitVec 32 := Scalar.divsi v0 c1_i32
  let c8_i32 : BitVec 32 := 8#32
  let v2 : BitVec 32 := Scalar.remsi v1 c8_i32
  let c4_i32_692 : BitVec 32 := 4#32
  let v662 : BitVec 32 := Scalar.xori v2 c4_i32_692
  let c1_i32_697 : BitVec 32 := 1#32
  let v663 : BitVec 32 := Scalar.muli v662 c1_i32_697
  let v664 : BitVec 32 := Scalar.addi c0_i32_698 v663
  v664.toNat
abbrev stage0_0 : Fin 1 → Memref sig .tc .vmem S512x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
-- ==== ReferenceIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S4096x2048, .f32⟩
  | .hbm, ⟨4, _⟩ => ⟨S4096x2048, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== ClippedIdeal.lean ====
abbrev S4096x4096 : Shape := ⟨2, ![4096, 4096]⟩
abbrev S4096x2048 : Shape := ⟨2, ![4096, 2048]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x2048, .f32⟩
  | .hbm, ⟨2, _⟩ => ⟨S4096x2048, .f32⟩
  | .hbm, ⟨3, _⟩ => ⟨S_, .f32⟩
  | .hbm, ⟨4, _⟩ => ⟨S_, .f32⟩
  | .hbm, ⟨5, _⟩ => ⟨S_, .f32⟩
  | .hbm, ⟨6, _⟩ => ⟨S4096x2048, .f32⟩
  | .hbm, ⟨7, _⟩ => ⟨S4096x2048, .f32⟩
  | .hbm, ⟨8, _⟩ => ⟨S_, .f32⟩
  | .hbm, ⟨9, _⟩ => ⟨S4096x2048, .f32⟩
  | .hbm, ⟨10, _⟩ => ⟨S4096x2048, .f32⟩
  | .hbm, ⟨11, _⟩ => ⟨S4096x2048, .f32⟩
  | .hbm, ⟨12, _⟩ => ⟨S4096x2048, .f32⟩
  | .hbm, ⟨13, _⟩ => ⟨S_, .f32⟩
  | .hbm, ⟨14, _⟩ => ⟨S4096x2048, .f32⟩
  | .hbm, ⟨15, _⟩ => ⟨S4096x2048, .f32⟩
  | .hbm, ⟨16, _⟩ => ⟨S4096x2048, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_cst_0 : Ref sig .tc := ⟨.hbm, 4, rfl⟩
abbrev main_call0_v0 : Ref sig .tc := ⟨.hbm, 5, rfl⟩
abbrev main_call0_v1 : Ref sig .tc := ⟨.hbm, 6, rfl⟩
abbrev main_call0_v2 : Ref sig .tc := ⟨.hbm, 7, rfl⟩
abbrev main_call0_v3 : Ref sig .tc := ⟨.hbm, 8, rfl⟩
abbrev main_call0_v4 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst_1 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩

abbrev nD : Nat := 1
abbrev τ : Topo := Topo.v7x

variable {F : FTy → Type} [FloatOps F]
-- ==== Proof.Common.lean ====
/-
# The common vocabulary of the butterfly kernel's proof

Eight devices sit at the corners of a cube; the three masks 1, 3, 4 name each device's three partners (`peer`).
The columns fall into three groups, and each group runs the same three-phase reduce-scatter with its masks in its own
order. A transfer is named by its group and its slot (`X`): seven per group, four in phase 0, two in phase 1, one in
phase 2. This module fixes those tables, the semaphore cells, and the pieces the buffers are cut into.
-/
module

public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import Idealize.ShloMosaic.Lib.Pipeline.Launch
public import Idealize.ShloMosaic.Lib.Pipeline.Kit
public import Idealize.ShloMosaic.Lib.Tactic
public import Idealize.ShloMosaic.Lib.ValueIdxCore
public import Idealize.ShloMosaic.Lib.ValueIdxCoords
public import Idealize.ShloMosaic.Lib.Transfers

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## The resource algebra: the pipeline's rounds, the kernel's rounds, the local copies' counters -/

abbrev UB : Type := URounds (GSem nD τ sig) (Fin 3)
abbrev UU : Type := UR sig nD τ × (UB × Counters)

variable {F : FTy → Type}

local notation "𝕄" => MT nD τ sig Unit (Elt F) ℕ UU ℕ

abbrev EP : Emb (UR sig nD τ) (MT nD τ sig Unit (Elt F) ℕ UU ℕ) := embL
/-- The kernel's own rounds: the left half of the right factor. -/
def ER : Emb UB (MT nD τ sig Unit (Elt F) ℕ UU ℕ) :=
  ((Emb.inl : Emb UB (UB × Counters)).trans (Emb.inr : Emb (UB × Counters) UU)).trans
    (uEmb (nD := nD) (sig := sig) (Ix := Unit) (Val := Elt F) (Name := ℕ) (U := UU) (Lvl := ℕ)).toEmb
instance ER_landsIn : (ER : Emb UB 𝕄).LandsIn (upEmb : UEmb _ 𝕄) := by unfold ER; infer_instance
abbrev EC : UEmb Counters (MT nD τ sig Unit (Elt F) ℕ UU ℕ) := countersEmb

/-! ## The cube, the groups and the transfers -/

/-- The three masks. -/
abbrev msk : Fin 3 → ℕ := ![1, 3, 4]

theorem xor_lt8 : ∀ (i : Fin 3) (c : Fin 8), c.val ^^^ msk i < 8 := by decide

/-- The row `r` becomes under mask `i`. -/
def flip (i : Fin 3) (r : Fin 8) : Fin 8 := ⟨r.val ^^^ msk i, xor_lt8 i r⟩
theorem flip_flip (i : Fin 3) (r : Fin 8) : flip i (flip i r) = r := by revert i r; decide

/-- Device `c`'s partner under mask `i`. -/
def peer (i : Fin 3) (c : Dev nD) : Dev nD := flip i c
theorem peer_peer (i : Fin 3) (c : Dev nD) : peer i (peer i c) = c := flip_flip i c

/-- A transfer: its column group and its slot. -/
abbrev X : Type := Fin 3 × Fin 7

/-- The phase a slot belongs to. -/
def ph : Fin 7 → ℕ := ![0, 0, 0, 0, 1, 1, 2]
/-- The mask of group `g` in phase `p`. -/
def gmask (g : Fin 3) (p : ℕ) : Fin 3 := ⟨(g.val + p) % 3, Nat.mod_lt _ (by decide)⟩
/-- A transfer's mask. -/
def mi (x : X) : Fin 3 := gmask x.1 (ph x.2)
/-- The row of the accumulator a transfer sends. -/
def srow : X → Fin 8
  | (0, j) => (![2, 6, 5, 1, 7, 3, 4] : Fin 7 → Fin 8) j
  | (1, j) => (![7, 6, 2, 3, 5, 4, 1] : Fin 7 → Fin 8) j
  | (2, j) => (![5, 6, 7, 4, 2, 1, 3] : Fin 7 → Fin 8) j
/-- The row it is added into where it arrives. -/
def drow (x : X) : Fin 8 := flip (mi x) (srow x)

/-- A group's first column and its number of columns. -/
abbrev gcol : Fin 3 → ℕ := ![0, 768, 1408]
abbrev gwid : Fin 3 → ℕ := ![768, 640, 640]
/-- The group a column lies in. -/
def grp (q : ℕ) : Fin 3 := if q < 768 then 0 else if q < 1408 then 1 else 2

theorem grp_eq_iff (g : Fin 3) (q : ℕ) (hq : q < 2048) : grp q = g ↔ gcol g ≤ q ∧ q < gcol g + gwid g := by
  unfold grp
  fin_cases g <;> (simp [gcol, gwid]; split_ifs <;> simp <;> omega)

theorem gcol_add_lt (g : Fin 3) (q : ℕ) (hq : q < gwid g) : gcol g + q < 2048 := by
  fin_cases g <;> (simp [gcol, gwid] at *; omega)
theorem grp_gcol_add (g : Fin 3) (q : ℕ) (hq : q < gwid g) : grp (gcol g + q) = g :=
  (grp_eq_iff g _ (gcol_add_lt g q hq)).2 ⟨Nat.le_add_right _ _, Nat.add_lt_add_left hq _⟩

/-! ## The semaphore cells -/

/-- The runtime's barrier semaphore of collective id 0 (not scoped to the launch). -/
abbrev barS : Sem sig := (SemArray.scalar (sig.barrier 0 rfl) : Sems sig S_).sem

theorem sx_lt (x : X) : 6 + 7 * x.1.val + x.2.val < 48 := by obtain ⟨⟨g, hg⟩, ⟨j, hj⟩⟩ := x; dsimp only; omega
theorem rx_lt (x : X) : 27 + 7 * x.1.val + x.2.val < 48 := by obtain ⟨⟨g, hg⟩, ⟨j, hj⟩⟩ := x; dsimp only; omega
def sendS (x : X) : DmaSem sig := ⟨6 + 7 * x.1.val + x.2.val, sx_lt x⟩
def recvS (x : X) : DmaSem sig := ⟨27 + 7 * x.1.val + x.2.val, rx_lt x⟩
def xS (p : Fin 2) : DmaSem sig := ⟨1 + p.val, show 1 + p.val < 48 by omega⟩
def oS (g : Fin 3) : DmaSem sig := ⟨3 + g.val, show 3 + g.val < 48 by omega⟩

abbrev barCell (c : Dev nD) : GSem nD τ sig := ((c : Thread nD τ), .reg barS)
abbrev sendCell (c : Dev nD) (x : X) : GSem nD τ sig := ((c : Thread nD τ), .dma (sendS x))
abbrev recvCell (c : Dev nD) (x : X) : GSem nD τ sig := ((c : Thread nD τ), .dma (recvS x))
abbrev xCell (c : Dev nD) (p : Fin 2) : GSem nD τ sig := ((c : Thread nD τ), .dma (xS p))
abbrev oCell (c : Dev nD) (g : Fin 3) : GSem nD τ sig := ((c : Thread nD τ), .dma (oS g))

/-- What a cell of the protocol is for: the barrier, a transfer's departure (`false`) or its arrival (`true`). -/
abbrev CK : Type := Option (Bool × X)

/-- The semaphore of each. -/
def csem : CK → SemLoc sig
  | none => .reg barS
  | some (false, x) => .dma (sendS x)
  | some (true, x) => .dma (recvS x)

def xOf (n : ℕ) : X := (⟨n / 7 % 3, Nat.mod_lt _ (by decide)⟩, ⟨n % 7, Nat.mod_lt _ (by decide)⟩)

/-- Which of them a semaphore is, if any. -/
def cls : SemLoc sig → Option CK
  | .reg s => if s = barS then some none else none
  | .dma q => if q.val < 6 then none else if q.val < 27 then some (some (false, xOf (q.val - 6))) else some (some (true, xOf (q.val - 27)))

theorem cls_bar : cls (.reg barS) = some none := by unfold cls; exact if_pos rfl
theorem xOf_eq : ∀ x : X, xOf (7 * x.1.val + x.2.val) = x := by decide
theorem cls_send (x : X) : cls (.dma (sendS x)) = some (some (false, x)) := by
  have h1 : (sendS x).val = 6 + 7 * x.1.val + x.2.val := rfl
  have h2 := x.1.isLt; have h3 := x.2.isLt
  unfold cls
  dsimp only
  rw [h1, if_neg (by omega), if_pos (by omega), show 6 + 7 * x.1.val + x.2.val - 6 = 7 * x.1.val + x.2.val by omega, xOf_eq]
theorem cls_recv (x : X) : cls (.dma (recvS x)) = some (some (true, x)) := by
  have h1 : (recvS x).val = 27 + 7 * x.1.val + x.2.val := rfl
  have h2 := x.1.isLt; have h3 := x.2.isLt
  unfold cls
  dsimp only
  rw [h1, if_neg (by omega), if_neg (by omega), show 27 + 7 * x.1.val + x.2.val - 27 = 7 * x.1.val + x.2.val by omega, xOf_eq]
theorem cls_xS (p : Fin 2) : cls (.dma (xS p)) = none := by unfold cls; exact if_pos (show 1 + p.val < 6 by omega)
theorem cls_oS (g : Fin 3) : cls (.dma (oS g)) = none := by unfold cls; exact if_pos (show 3 + g.val < 6 by omega)
theorem cls_csem (k : CK) : cls (csem k) = some k := by
  rcases k with _ | ⟨_ | _, x⟩
  · exact cls_bar
  · exact cls_send x
  · exact cls_recv x
theorem csem_injective : Function.Injective csem := fun a b h => by
  have := congrArg cls h
  rw [cls_csem, cls_csem] at this
  exact Option.some.inj this

abbrev kcell (ck : Dev nD × CK) : GSem nD τ sig := ((ck.1 : Thread nD τ), csem ck.2)
theorem kcell_injective : Function.Injective kcell := by
  rintro ⟨c, k⟩ ⟨c', k'⟩ h
  have h1 : c = c' := congrArg (fun g : GSem nD τ sig => g.1.1) h
  have h2 : k = k' := csem_injective (congrArg Prod.snd h)
  rw [h1, h2]

/-! ## The pieces of the buffers -/

/-- Row `r` of the accumulator; its columns of group `g`. -/
def rowSet (r : Fin 8) : Finset S8x512x2048.Idx := Finset.univ.filter fun i => (i 0).val = r.val
def pieceSet (r : Fin 8) (g : Fin 3) : Finset S8x512x2048.Idx := Finset.univ.filter fun i => (i 0).val = r.val ∧ grp (i 2).val = g
/-- Slot `j` of a landing buffer. -/
def slotSet {n : ℕ} (j : Fin 7) : Finset (⟨3, ![7, 512, n]⟩ : Shape).Idx := Finset.univ.filter fun i => (i 0).val = j.val
/-- Half `p` of the two blocks of `x` on chip. -/
def halfSet (p : Fin 2) : Finset S2x512x512.Idx := Finset.univ.filter fun i => (i 0).val = p.val
/-- The columns of group `g` of the result. -/
def colSet (g : Fin 3) : Finset S512x2048.Idx := Finset.univ.filter fun i => grp (i 1).val = g

theorem mem_rowSet {r : Fin 8} {i : S8x512x2048.Idx} : i ∈ rowSet r ↔ (i 0).val = r.val := by unfold rowSet; simp
theorem mem_pieceSet {r : Fin 8} {g : Fin 3} {i : S8x512x2048.Idx} : i ∈ pieceSet r g ↔ (i 0).val = r.val ∧ grp (i 2).val = g := by unfold pieceSet; simp
theorem mem_slotSet {n : ℕ} {j : Fin 7} {i : (⟨3, ![7, 512, n]⟩ : Shape).Idx} : i ∈ slotSet j ↔ (i 0).val = j.val := by unfold slotSet; simp
theorem mem_halfSet {p : Fin 2} {i : S2x512x512.Idx} : i ∈ halfSet p ↔ (i 0).val = p.val := by unfold halfSet; simp
theorem mem_colSet {g : Fin 3} {i : S512x2048.Idx} : i ∈ colSet g ↔ grp (i 1).val = g := by unfold colSet; simp

end Cert.Butterfly
-- ==== Proof.Values.lean ====
/-
# What the buffers hold

The contents every buffer of the kernel holds as it runs, on each device: the block of `x` copied on chip, the narrowed
weights, the accumulator after each phase (`AB`), what lands in the landing buffers (`SB`), the result (`OB`).
`AB 0 c` at row `r` is device `c`'s partial product for the rows of device `r` with `c`'s bits flipped; each phase adds
the partner's piece, group by group.
-/
module

public import proofs.«01_k».proof.Proof.Common

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
variable (m : (ℓ : Loc nD τ sig) → Buf (Elt F) ℓ)

/-- The block of `x` device `c` multiplies for row `r` of its accumulator: rows `512 (c xor r) …` of its columns. -/
def xrd (c : Dev nD) (r : Fin 8) : S512x512.Idx → Elt F .f32 :=
  ((Memref.whole main_arg0 : Memref sig .tc .hbm S4096x512 .f32).slice
    (Rect.unit (s := S4096x512) (k0_off1 c (BitVec.ofNat 32 r.val)) S512x512.size (k0_off1_inb c r)) (fun _ => rfl)).view.read (Elt F)
    (m ((c : Thread nD τ).loc main_arg0))

/-- Its place on chip, in either half. -/
def XB (c : Dev nD) (r : Fin 8) : S2x512x512.Idx → Elt F .f32 := fun i => xrd m c r (ix2 (i 1) (i 2))
/-- The block as the kernel loads it. -/
def xld (c : Dev nD) (r : Fin 8) : S1x512x512.Idx → Elt F .f32 := fun i => xrd m c r (ix2 (i 1) (i 2))

/-- The device's block of the weights. -/
def wst (c : Dev nD) : S512x2048.Idx → Elt F .f32 :=
  (win0_0.blk (0 : Fin 1)).view.read (Elt F) (m ((c : Thread nD τ).loc main_arg1))
/-- The weights narrowed. -/
def W16 (c : Dev nD) : S512x2048.Idx → Elt F .bf16 := k0_pay1 (wst m c)

/-- Device `c`'s partial product for row `r` of its accumulator. -/
def dotv (c : Dev nD) (r : Fin 8) : S1x512x2048.Idx → Elt F .bf16 := k0_pay2 (xld m c r) (W16 m c)

/-- The accumulator after `p` phases (each piece of it that is still being accumulated). -/
def AB : ℕ → Dev nD → (S8x512x2048.Idx → Elt F .bf16)
  | 0, c => fun i => dotv m c (i 0) (ix3 0 (i 1) (i 2))
  | p + 1, c => fun i => FloatOps.addf (AB p c i)
      (AB p (peer (gmask (grp (i 2).val) p) c) (ix3 (flip (gmask (grp (i 2).val) p) (i 0)) (i 1) (i 2)))

/-- What lands in group `g`'s landing buffer on device `c`: slot `j` is the partner's piece. -/
def SB (g : Fin 3) {n : ℕ} (hn : ∀ q : Fin n, gcol g + q.val < 2048) (c : Dev nD) : (⟨3, ![7, 512, n]⟩ : Shape).Idx → Elt F .bf16 :=
  fun i => AB m (ph (i 0)) (peer (mi (g, i 0)) c) (ix3 (srow (g, i 0)) (i 1) ⟨gcol g + (i 2).val, hn (i 2)⟩)

theorem hn0 (q : Fin 768) : gcol 0 + q.val < 2048 := gcol_add_lt 0 q.val q.isLt
theorem hn1 (q : Fin 640) : gcol 1 + q.val < 2048 := gcol_add_lt 1 q.val q.isLt
theorem hn2 (q : Fin 640) : gcol 2 + q.val < 2048 := gcol_add_lt 2 q.val q.isLt

/-- What the last step makes of an accumulated entry: itself times its logistic. -/
def act (y : F .bf16) : F .f32 :=
  FloatOps.mulf (FloatOps.extf .f32 bitsLt_bf16_f32 y) (FloatOps.logistic (FloatOps.extf .f32 bitsLt_bf16_f32 y))

/-- The result on device `c`. -/
def OB (c : Dev nD) : S512x2048.Idx → Elt F .f32 := fun i => act (AB m 3 c (ix3 0 (i 0) (i 1)))

end Cert.Butterfly
-- ==== Proof.Partial.lean ====
/-
# A partial product over the reals

What one device multiplies, read at an index: a sum over its own 512 columns of `x` and rows of `w`.
-/
module

public import proofs.«01_k».proof.Proof.Values
public import Idealize.ShloMosaic.Lib.MatmulPlain
public import Idealize.ShloMosaic.Lib.Pipeline.Value

@[expose] public section

noncomputable section

namespace Cert.Butterfly

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ)

/-- The row of `x` a device starts its block for row `r` at. -/
theorem off_row (c : Dev nD) (r : Fin 8) : k0_off1 c (BitVec.ofNat 32 r.val) 0 = 512 * (c.val ^^^ r.val) := by
  revert c r; decide
theorem off_col (c : Dev nD) (r : Fin 8) : k0_off1 c (BitVec.ofNat 32 r.val) 1 = 0 := by
  revert c r; decide

theorem row_lt (c : Dev nD) (r : Fin 8) (a : Fin 512) : 512 * (c.val ^^^ r.val) + a.val < 4096 := by
  have h : c.val ^^^ r.val < 8 := Nat.xor_lt_two_pow (n := 3) c.isLt r.isLt
  omega

/-- The block of `x` for row `r`, entry by entry. -/
theorem xrd_apply (c : Dev nD) (r : Fin 8) (a k : Fin 512) :
    xrd m c r (ix2 a k) = m ((c : Thread nD τ).loc main_arg0) (ix2 ⟨512 * (c.val ^^^ r.val) + a.val, row_lt c r a⟩ k) := by
  refine congrArg (m ((c : Thread nD τ).loc main_arg0)) ?_
  funext d; apply Fin.ext
  match d with
  | ⟨0, _⟩ =>
    show k0_off1 c (BitVec.ofNat 32 r.val) 0 + _ = _
    rw [off_row]
    exact congrArg (_ + ·) (Nat.one_mul _)
  | ⟨1, _⟩ =>
    show k0_off1 c (BitVec.ofNat 32 r.val) 1 + _ = _
    rw [off_col]
    exact (Nat.zero_add _).trans (Nat.one_mul _)

/-- The device's block of the weights is its whole argument. -/
theorem wst_apply (c : Dev nD) (k : Fin 512) (b : Fin 2048) :
    wst m c (ix2 k b) = m ((c : Thread nD τ).loc main_arg1) (ix2 k b) := by
  exact congrFun (Memref.read_access_unit_zero (Elt Ideal) main_arg1 (funext fun a => Nat.zero_mul _) _
    (m ((c : Thread nD τ).loc main_arg1))) (ix2 k b)

/-- The narrowed weights over the reals. -/
theorem W16_apply (c : Dev nD) (k : Fin 512) (b : Fin 2048) :
    W16 m c (ix2 k b) = m ((c : Thread nD τ).loc main_arg1) (ix2 k b) := by
  refine Eq.trans ?_ (wst_apply m c k b)
  show shapeCast S512x2048 (shapeCast S512x2048 (wst m c) _) _ (ix2 k b) = _
  rw [shapeCast_self, shapeCast_self]

/-- The product's dimension numbers are the plain ones. -/
theorem dims_plain : dot_S512x512_S512x2048_S512x2048_1_0_0_1_n_n = DotDims.plain 512 512 2048 := rfl

/-- A device's argument `x`, and its argument `w`, as arrays of extended reals. -/
abbrev xArg (c : Dev nD) : S4096x512.Idx → EReal := m ((c : Thread nD τ).loc main_arg0)
abbrev wArg (c : Dev nD) : S512x2048.Idx → EReal := m ((c : Thread nD τ).loc main_arg1)

/-- A product narrowed and stored with a leading unit axis, read back: over the reals, the product. -/
theorem stored (v : FVec Ideal S512x2048 .f32) (a : Fin 512) (b : Fin 2048) :
    (shapeCast S1x512x2048 (truncf .bf16 v bitsLt_bf16_f32) shapeCasts_S512x2048_S1x512x2048 (ix3 0 a b) : EReal) = v (ix2 a b) := by
  refine (shapeCast_addUnit_apply (![512, 2048]) (truncf .bf16 v bitsLt_bf16_f32) shapeCasts_S512x2048_S1x512x2048 (ix3 0 a b)).trans ?_
  have hi : (fun i : Fin 2 => ix3 (0 : Fin 1) a b i.succ : S512x2048.Idx) = ix2 a b := by
    funext i
    match i with
    | ⟨0, _⟩ => rfl
    | ⟨1, _⟩ => rfl
  exact congrArg v hi

/-- A partial product, entry by entry. -/
theorem dotv_apply (c : Dev nD) (r : Fin 8) (a : Fin 512) (b : Fin 2048) :
    (dotv m c r (ix3 0 a b) : EReal)
      = ∑ k : Fin 512, xArg m c (ix2 ⟨512 * (c.val ^^^ r.val) + a.val, row_lt c r a⟩ k) * wArg m c (ix2 k b) := by
  have h := Ideal.matmul_plain_apply (φ₁ := .bf16) (φ₂ := .bf16) none
    (shapeCast S512x512 (xld m c r) shapeCasts_S1x512x512_S512x512) (W16 m c) (constant (F := Ideal) S512x2048 .f32 0x00000000#32) a b
  have hz : (constant (F := Ideal) S512x2048 .f32 0x00000000#32 (ix2 a b) : EReal) = 0 := Ideal.ofBits_zero_f32
  refine Eq.trans ?_ (h.trans ?_)
  · exact stored _ a b
  · refine (congrArg₂ (· + ·) hz (Finset.sum_congr rfl fun k _ => ?_)).trans (zero_add _)
    refine congrArg₂ (· * ·) ?_ (W16_apply m c k b)
    exact (shapeCast_dropUnit_apply (![512, 512]) _ shapeCasts_S1x512x512_S512x512 (ix2 a k)).trans (xrd_apply m c r a k)

end Cert.Butterfly

end
-- ==== Proof.Total.lean ====
/-
# The accumulated sum over the reals

After the three phases, row 0 of device `c`'s accumulator is the sum over the devices `d` of what `d` multiplied for the
rows of `c`. The three masks of a column group are 1, 3 and 4 in some order, and their combinations are all of 0 … 7: each
device's product is added once.
-/
module

public import proofs.«01_k».proof.Proof.Partial
public import Mathlib.Tactic.Abel

@[expose] public section

noncomputable section

namespace Cert.Butterfly

open Cert.KernelIdeal Cert.KernelIdeal.Gen
open Idealize.ShloMosaic Idealize.ShloMosaic.TcCoe Idealize.SL.Sem Idealize.ShloMosaic.ValueIdx
open scoped BigOperators

variable (m : (ℓ : Loc nD τ sig) → Buf (Elt Ideal) ℓ)

/-- The row of device `d`'s accumulator that holds the rows of `c`. -/
def rowFor (d c : Fin 8) : Fin 8 := ⟨d.val ^^^ c.val, Nat.xor_lt_two_pow (n := 3) d.isLt c.isLt⟩

/-- One phase of a table `D` (device, row) under a mask. -/
def phase (i : Fin 3) (D : Fin 8 → Fin 8 → EReal) (c r : Fin 8) : EReal := D c r + D (flip i c) (flip i r)

/-- Three phases under the masks of a group sum the devices' rows. -/
theorem three_phases (g : Fin 3) (D : Fin 8 → Fin 8 → EReal) (c : Fin 8) :
    phase (gmask g 2) (phase (gmask g 1) (phase (gmask g 0) D)) c 0 = ∑ d : Fin 8, D d (rowFor d c) := by
  rw [Fin.sum_univ_eight]
  fin_cases g <;> fin_cases c <;> simp [phase, flip, gmask, msk, rowFor] <;> abel

/-- A phase of the accumulator, at one entry of each row. -/
theorem AB_phase (p : ℕ) (a : Fin 512) (b : Fin 2048) :
    (fun (c r : Fin 8) => (AB m (p + 1) c (ix3 r a b) : EReal))
      = phase (gmask (grp b.val) p) (fun c r => AB m p c (ix3 r a b)) := rfl

/-- Row 0 of the accumulator after the three phases. -/
theorem AB_total (c : Fin 8) (a : Fin 512) (b : Fin 2048) :
    (AB m 3 c (ix3 0 a b) : EReal) = ∑ d : Fin 8, (dotv m d (rowFor d c) (ix3 0 a b) : EReal) := by
  have h := three_phases (grp b.val) (fun c r => (AB m 0 c (ix3 r a b) : EReal)) c
  rw [← AB_phase, ← AB_phase, ← AB_phase] at h
  exact h

theorem rowFor_xor (d c : Fin 8) : d.val ^^^ (rowFor d c).val = c.val := by
  revert d c; decide

theorem glob_lt {n : ℕ} (d : Fin 8) (k : Fin n) : n * d.val + k.val < 8 * n := by
  have := d.isLt
  have := k.isLt
  calc n * d.val + k.val < n * d.val + n := by omega
    _ = n * (d.val + 1) := by ring
    _ ≤ n * 8 := Nat.mul_le_mul_left _ (by omega)
    _ = 8 * n := Nat.mul_comm _ _

/-- A sum over 4096 positions, device by device. -/
theorem sum_devices (f : Fin 4096 → EReal) :
    ∑ d : Fin 8, ∑ k : Fin 512, f ⟨512 * d.val + k.val, glob_lt d k⟩ = ∑ K : Fin 4096, f K := by
  rw [← Fintype.sum_prod_type', ← Equiv.sum_comp (finProdFinEquiv : Fin 8 × Fin 512 ≃ Fin 4096)]
  refine Finset.sum_congr rfl fun x _ => congrArg f (Fin.ext ?_)
  exact Nat.add_comm _ _

/-- The product of the whole arrays, entry by entry. -/
def prod (X : (⟨2, ![4096, 4096]⟩ : Shape).Idx → EReal) (W : (⟨2, ![4096, 2048]⟩ : Shape).Idx → EReal) (p : Fin 4096) (q : Fin 2048) : EReal :=
  ∑ K : Fin 4096, X (ix2 p K) * W (ix2 K q)

/-- Where the devices' arguments are the blocks of whole arrays `X` and `W`, row 0 of the accumulator is the devices' rows of
    the whole product. -/
theorem AB_prod (X : (⟨2, ![4096, 4096]⟩ : Shape).Idx → EReal) (W : (⟨2, ![4096, 2048]⟩ : Shape).Idx → EReal)
    (hX : ∀ c, xArg m c = Layout.block ⟨2, ![4096, 512]⟩ ⟨2, ![4096, 4096]⟩ 1 8 c X)
    (hW : ∀ c, wArg m c = Layout.block ⟨2, ![512, 2048]⟩ ⟨2, ![4096, 2048]⟩ 0 8 c W)
    (c : Fin 8) (a : Fin 512) (b : Fin 2048) :
    (AB m 3 c (ix3 0 a b) : EReal) = prod X W ⟨512 * c.val + a.val, glob_lt c a⟩ b := by
  rw [AB_total, prod, ← sum_devices]
  refine Finset.sum_congr rfl fun d _ => (dotv_apply m d (rowFor d c) a b).trans (Finset.sum_congr rfl fun k _ => ?_)
  rw [hX, hW, Layout.block_apply, Layout.block_apply]
  refine congrArg₂ (· * ·) (congrArg X ?_) (congrArg W ?_)
  · funext i; apply Fin.ext
    match i with
    | ⟨0, _⟩ =>
      refine (Layout.idx_cols_val _ d _).1.trans ?_
      show 512 * (d.val ^^^ (rowFor d c).val) + a.val = 512 * c.val + a.val
      rw [rowFor_xor]
    | ⟨1, _⟩ =>
      refine (Layout.idx_cols_val _ d _).2.trans ?_
      exact congrArg (· + k.val) (Nat.mul_comm d.val 512)
  · funext i; apply Fin.ext
    match i with
    | ⟨0, _⟩ =>
      refine (Layout.idx_rows_val _ d _).1.trans ?_
      exact congrArg (· + k.val) (Nat.mul_comm d.val 512)
    | ⟨1, _⟩ => exact (Layout.idx_rows_val _ d _).2

end Cert.Butterfly

end
-- ==== Proof.Silu.lean ====
/-
# The activation over the reals

The kernel multiplies an entry by its logistic; the references divide it by one plus an exponential. Over the extended
reals these are the same number, at the infinities too. Where the entry lies within ±60 the clip leaves it alone.
-/
module

public import proofs.«01_k».proof.Proof.Values
public import proofs.«01_k».proof.On_in_range
public import Idealize.ShloMosaic.Lib.StackMember
public import Idealize.ShloMosaic.Lib.IdealHost

@[expose] public section

noncomputable section

namespace Cert.Butterfly

open Idealize.ShloMosaic Idealize.SL.Sem Idealize.ShloMosaic.ValueIdx

/-- An exponential is not negative. -/
theorem exp_nonneg (x : EReal) : 0 ≤ Ideal.exp x := by
  induction x with
  | bot => exact le_refl (0 : EReal)
  | top => exact le_top
  | coe r => exact EReal.coe_nonneg.2 (Real.exp_pos r).le

/-- The activation: `y / (1 + exp (-y))`. -/
def silu (y : EReal) : EReal := Ideal.div y (1 + Ideal.exp (-y))

/-- The kernel's form of it. -/
theorem act_eq (y : EReal) : (act (F := Ideal) y : EReal) = silu y := by
  have hD : (1 + Ideal.exp (-y) : EReal) ≠ 0 :=
    (lt_of_lt_of_le zero_lt_one (le_add_of_nonneg_right (exp_nonneg (-y)))).ne'
  show y * Ideal.div 1 (1 + Ideal.exp (-y)) = Ideal.div y (1 + Ideal.exp (-y))
  rw [Ideal.div, Ideal.div, if_neg hD, if_neg hD, one_mul]

/-- The two bounds of the clip. -/
theorem ofBits_60 : Ideal.ofBits .f32 0x42700000#32 = ((60 : ℝ) : EReal) := by
  simp [Ideal.ofBits, Ideal.ieee, -EReal.coe_mul]
  norm_num
theorem ofBits_neg_60 : Ideal.ofBits .f32 0xC2700000#32 = ((-60 : ℝ) : EReal) := by
  simp [Ideal.ofBits, Ideal.ieee, -EReal.coe_mul, -EReal.coe_neg]
  norm_num

/-- The clip leaves an entry within the bounds alone. -/
theorem clip_of_le (y : EReal) (h : max y (-y) ≤ ((60 : ℝ) : EReal)) :
    min ((60 : ℝ) : EReal) (max ((-60 : ℝ) : EReal) y) = y := by
  have h1 : y ≤ ((60 : ℝ) : EReal) := (le_max_left _ _).trans h
  have h2 : ((-60 : ℝ) : EReal) ≤ y := by
    have := EReal.neg_le_neg_iff.2 ((le_max_right y (-y)).trans h)
    rwa [neg_neg, ← EReal.coe_neg] at this
  rw [max_eq_right h2, min_eq_right h1]

/-- The side conditions of the mask. -/
theorem maskFacts : Cert.On_in_range.Facts where
  bcast_S_S4096x2048 := by decide
  dot_S4096x4096_S4096x2048_S4096x2048_1_0_0_1_n_n_wf := by decide

end Cert.Butterfly

end
-- ==== Proof.Views.lean ====
/-
# Reading and writing the pieces

The memrefs the kernel slices its buffers into, the pieces they cover, and what is read through each at an index. A write
through a memref leaves on its piece any contents that read back as what was written (`write_agree`).
-/
module

public import proofs.«01_k».proof.Proof.Values
public import Idealize.ShloMosaic.Lib.Pipeline.Value

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

/-! ## Rectangles of one row -/

theorem lt_of_inb3 {A B C r o1 o2 n1 n2 : ℕ} (h : ∀ a, (![r, o1, o2] : Fin 3 → ℕ) a + (⟨3, ![1, n1, n2]⟩ : Shape).size a ≤ (⟨3, ![A, B, C]⟩ : Shape).size a) :
    r < A ∧ o1 + n1 ≤ B ∧ o2 + n2 ≤ C := ⟨h 0, h 1, h 2⟩

/-- A one-row rectangle at an index of its own shape, -/
theorem emb_row {A B C r o1 o2 n1 n2 : ℕ} (inb : ∀ a, (![r, o1, o2] : Fin 3 → ℕ) a + (⟨3, ![1, n1, n2]⟩ : Shape).size a ≤ (⟨3, ![A, B, C]⟩ : Shape).size a)
    (x : (⟨3, ![1, n1, n2]⟩ : Shape).Idx) :
    (Rect.unit (s := ⟨3, ![A, B, C]⟩) ![r, o1, o2] (⟨3, ![1, n1, n2]⟩ : Shape).size inb).emb x
      = ix3 ⟨r, (lt_of_inb3 inb).1⟩ ⟨o1 + (x 1).val, lt_of_lt_of_le (Nat.add_lt_add_left (x 1).isLt _) (lt_of_inb3 inb).2.1⟩
          ⟨o2 + (x 2).val, lt_of_lt_of_le (Nat.add_lt_add_left (x 2).isLt _) (lt_of_inb3 inb).2.2⟩ := by
  have h0 : (x 0).val = 0 := Nat.lt_one_iff.mp (x 0).isLt
  funext a
  apply Fin.ext
  rw [Rect.emb_apply]
  match a with
  | ⟨0, _⟩ => show r + 1 * (x 0).val = r; omega
  | ⟨1, _⟩ => show o1 + 1 * (x 1).val = o1 + (x 1).val; rw [Nat.one_mul]
  | ⟨2, _⟩ => show o2 + 1 * (x 2).val = o2 + (x 2).val; rw [Nat.one_mul]

/-- the index of the one-row shape over an index of the squeezed shape. -/
theorem squeeze_ix {n1 n2 : ℕ} (h : (⟨2, ![n1, n2]⟩ : Shape).numel = (⟨3, ![1, n1, n2]⟩ : Shape).numel) (x : (⟨2, ![n1, n2]⟩ : Shape).Idx) :
    Shape.reshapeEquiv h x = ix3 (0 : Fin 1) (x 0) (x 1) := by
  rw [eq_ix3 (Shape.reshapeEquiv h x)]
  have := Shape.reshapeEquiv_cons_one (d := ![n1, n2]) h x
  rw [this]
  rfl

theorem unsqueeze_ix {n1 n2 : ℕ} (h : (⟨3, ![1, n1, n2]⟩ : Shape).numel = (⟨2, ![n1, n2]⟩ : Shape).numel) (x : (⟨3, ![1, n1, n2]⟩ : Shape).Idx) :
    Shape.reshapeEquiv h x = ix2 (x 1) (x 2) := by
  refine (Shape.reshapeEquiv h.symm).injective ?_
  rw [Shape.reshapeEquiv_reshapeEquiv, Shape.reshapeEquiv_self]
  refine Eq.trans ?_ (squeeze_ix h.symm (ix2 (x 1) (x 2))).symm
  refine (eq_ix3 x).trans ?_
  exact congrArg (fun z : Fin 1 => ix3 z (x 1) (x 2)) (Subsingleton.elim (α := Fin 1) (x 0) 0)

/-- Which indices a one-row rectangle covers. -/
theorem mem_row {A B C r o1 o2 n1 n2 : ℕ} (inb : ∀ a, (![r, o1, o2] : Fin 3 → ℕ) a + (⟨3, ![1, n1, n2]⟩ : Shape).size a ≤ (⟨3, ![A, B, C]⟩ : Shape).size a)
    (i : (⟨3, ![A, B, C]⟩ : Shape).Idx) :
    i ∈ (Rect.unit (s := ⟨3, ![A, B, C]⟩) ![r, o1, o2] (⟨3, ![1, n1, n2]⟩ : Shape).size inb).set
      ↔ (i 0).val = r ∧ (o1 ≤ (i 1).val ∧ (i 1).val < o1 + n1) ∧ (o2 ≤ (i 2).val ∧ (i 2).val < o2 + n2) := by
  rw [Rect.mem_set_unit]
  constructor
  · intro h
    have h0 : r ≤ (i 0).val ∧ (i 0).val < r + 1 := h 0
    exact ⟨by omega, h 1, h 2⟩
  · rintro ⟨h0, h1, h2⟩ a
    match a with
    | ⟨0, _⟩ => exact ⟨h0.ge, show (i 0).val < r + 1 by omega⟩
    | ⟨1, _⟩ => exact h1
    | ⟨2, _⟩ => exact h2

/-! ## Writes -/

/-- What a full write leaves on the view's set is any contents that read back as what was written. -/
theorem write_agree {Val : EltTy → Type} {κ : Kind} {sp : Space} {s : Shape} {e : EltTy} (v : View sig κ sp s e) (f g : v.ty.Contents Val) (w : s.Idx → Val e)
    (h : v.read Val g = w) : ∀ i ∈ v.set, v.write Val f w Finset.univ i = g i := by
  intro i hi
  obtain ⟨x, -, rfl⟩ := Finset.mem_map.mp hi
  rw [View.write_emb_of_mem _ _ (Finset.mem_univ x), ← h, View.read_apply, cast_cast, cast_eq]

end Cert.Butterfly
-- ==== Proof.Pieces.lean ====
/-
# The kernel's slices

Each slice the kernel takes of a buffer — a piece of the accumulator, a slot of a landing buffer, a half of the on-chip
blocks of `x`, a column group of the result — as the set of indices it covers and the entries read through it.
-/
module

public import proofs.«01_k».proof.Proof.Views

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
variable (m : (ℓ : Loc nD τ sig) → Buf (Elt F) ℓ)

abbrev accW : Memref sig .tc .vmem S8x512x2048 .bf16 := Memref.whole cc0_scratch0
abbrev stW0 : Memref sig .tc .vmem S7x512x768 .bf16 := Memref.whole cc0_scratch1
abbrev stW1 : Memref sig .tc .vmem S7x512x640 .bf16 := Memref.whole cc0_scratch2
abbrev stW2 : Memref sig .tc .vmem S7x512x640 .bf16 := Memref.whole cc0_scratch3
abbrev w16W : Memref sig .tc .vmem S512x2048 .bf16 := Memref.whole cc0_scratch4
abbrev xbW : Memref sig .tc .vmem S2x512x512 .f32 := Memref.whole cc0_scratch5
abbrev obW : Memref sig .tc .vmem S512x2048 .f32 := Memref.whole cc0_scratch6
abbrev xaW : Memref sig .tc .hbm S4096x512 .f32 := Memref.whole main_arg0
abbrev oaW : Memref sig .tc .hbm S512x2048 .f32 := Memref.whole main_v1
abbrev wsW : Memref sig .tc .vmem S512x2048 .f32 := Memref.whole cc0_stg0_0

/-! ## Group 0: columns 0 to 0 + 768 -/

/-- Row `r`'s columns of group 0 of the accumulator; slot `j` of the group's landing buffer; the result's columns. -/
abbrev accR0 (r : ℕ) (h : ∀ a, (![r, 0, 0] : Fin 3 → ℕ) a + S1x512x768.size a ≤ S8x512x2048.size a) : Rect S8x512x2048 := Rect.unit (s := S8x512x2048) ![r, 0, 0] S1x512x768.size h
abbrev stR0 (j : ℕ) (h : ∀ a, (![j, 0, 0] : Fin 3 → ℕ) a + S1x512x768.size a ≤ S7x512x768.size a) : Rect S7x512x768 := Rect.unit (s := S7x512x768) ![j, 0, 0] S1x512x768.size h
abbrev colR0 (h : ∀ a, (![0, 0] : Fin 2 → ℕ) a + S512x768.size a ≤ S512x2048.size a) : Rect S512x2048 := Rect.unit (s := S512x2048) ![0, 0] S512x768.size h
abbrev accM0 (r : ℕ) (h : ∀ a, (![r, 0, 0] : Fin 3 → ℕ) a + S1x512x768.size a ≤ S8x512x2048.size a) : Memref sig .tc .vmem S512x768 .bf16 :=
  (accW.slice (accR0 r h) (fun _ => rfl)).squeeze S512x768 squeezes_S1x512x768_S512x768
abbrev stM0 (j : ℕ) (h : ∀ a, (![j, 0, 0] : Fin 3 → ℕ) a + S1x512x768.size a ≤ S7x512x768.size a) : Memref sig .tc .vmem S512x768 .bf16 :=
  (stW0.slice (stR0 j h) (fun _ => rfl)).squeeze S512x768 squeezes_S1x512x768_S512x768

theorem accR0_set (r : Fin 8) (h) : (accR0 r.val h).set = pieceSet r 0 := by
  ext i
  have h1 : (i 1).val < 512 := (i 1).isLt
  have h2 : (i 2).val < 2048 := (i 2).isLt
  rw [mem_pieceSet, grp_eq_iff _ _ h2]
  refine (mem_row (A := 8) (B := 512) (C := 2048) h i).trans ?_
  show _ ∧ _ ↔ _ ∧ (0 ≤ _ ∧ _ < 0 + 768)
  constructor
  · rintro ⟨a, b, c⟩; exact ⟨a, c⟩
  · rintro ⟨a, c⟩; exact ⟨a, ⟨Nat.zero_le _, by omega⟩, c⟩
theorem stR0_set (j : Fin 7) (h) : (stR0 j.val h).set = slotSet j := by
  ext i
  have h1 : (i 1).val < 512 := (i 1).isLt
  have h2 : (i 2).val < 768 := (i 2).isLt
  rw [mem_slotSet]
  refine (mem_row (A := 7) (B := 512) (C := 768) h i).trans ?_
  constructor
  · rintro ⟨a, b, c⟩; exact a
  · intro a; exact ⟨a, ⟨Nat.zero_le _, by omega⟩, ⟨Nat.zero_le _, by omega⟩⟩
theorem colR0_set (h) : (colR0 h).set = colSet 0 := by
  ext i
  have h0 : (i 0).val < 512 := (i 0).isLt
  have h1 : (i 1).val < 2048 := (i 1).isLt
  rw [mem_colSet, grp_eq_iff _ _ h1, Rect.mem_set_unit]
  show _ ↔ (0 ≤ _ ∧ _ < 0 + 768)
  constructor
  · intro H; exact H 1
  · intro H a
    match a with
    | ⟨0, _⟩ => exact ⟨Nat.zero_le _, show (i 0).val < 0 + 512 by omega⟩
    | ⟨1, _⟩ => exact H

theorem accA0_set (r : Fin 8) (h) : (accW.access (accR0 r.val h)).set = pieceSet r 0 := (View.set_slice_whole _ _).trans (accR0_set r h)
theorem accM0_set (r : Fin 8) (h) : (accM0 r.val h).view.set = pieceSet r 0 := (View.set_reshape _ _).trans (accA0_set r h)
theorem stA0_set (j : Fin 7) (h) : (stW0.access (stR0 j.val h)).set = slotSet j := (View.set_slice_whole _ _).trans (stR0_set j h)
theorem stM0_set (j : Fin 7) (h) : (stM0 j.val h).view.set = slotSet j := (View.set_reshape _ _).trans (stA0_set j h)
theorem obA0_set (h) : (obW.access (colR0 h)).set = colSet 0 := (View.set_slice_whole _ _).trans (colR0_set h)
theorem oaA0_set (h) : (oaW.access (colR0 h)).set = colSet 0 := (View.set_slice_whole _ _).trans (colR0_set h)

omit [FloatOps F] in
theorem accA0_read (r : Fin 8) (h) (f : S8x512x2048.Idx → Elt F .bf16) (x : S1x512x768.Idx) :
    (accW.access (accR0 r.val h)).read (Elt F) f x = f (ix3 r (x 1) ⟨0 + (x 2).val, hn0 (x 2)⟩) := by
  refine congrArg f ((emb_row (A := 8) (B := 512) (C := 2048) h x).trans ?_)
  funext a
  match a with
  | ⟨0, _⟩ => rfl
  | ⟨1, _⟩ => exact Fin.ext (Nat.zero_add _)
  | ⟨2, _⟩ => rfl
omit [FloatOps F] in
theorem accM0_read (r : Fin 8) (h) (f : S8x512x2048.Idx → Elt F .bf16) (x : S512x768.Idx) :
    (accM0 r.val h).view.read (Elt F) f x = f (ix3 r (x 0) ⟨0 + (x 1).val, hn0 (x 1)⟩) := by
  refine Eq.trans ?_ (accA0_read r h f (ix3 (0 : Fin 1) (x 0) (x 1)))
  exact congrArg (fun z => (accW.access (accR0 r.val h)).read (Elt F) f z) (squeeze_ix (n1 := 512) (n2 := 768) _ x)
omit [FloatOps F] in
theorem stA0_read (j : Fin 7) (h) (f : S7x512x768.Idx → Elt F .bf16) (x : S1x512x768.Idx) :
    (stW0.access (stR0 j.val h)).read (Elt F) f x = f (ix3 j (x 1) (x 2)) := by
  refine congrArg f ((emb_row (A := 7) (B := 512) (C := 768) h x).trans ?_)
  funext a
  match a with
  | ⟨0, _⟩ => rfl
  | ⟨1, _⟩ => exact Fin.ext (Nat.zero_add _)
  | ⟨2, _⟩ => exact Fin.ext (Nat.zero_add _)
omit [FloatOps F] in
theorem stM0_read (j : Fin 7) (h) (f : S7x512x768.Idx → Elt F .bf16) (x : S512x768.Idx) :
    (stM0 j.val h).view.read (Elt F) f x = f (ix3 j (x 0) (x 1)) := by
  refine Eq.trans ?_ (stA0_read j h f (ix3 (0 : Fin 1) (x 0) (x 1)))
  exact congrArg (fun z => (stW0.access (stR0 j.val h)).read (Elt F) f z) (squeeze_ix (n1 := 512) (n2 := 768) _ x)
omit [FloatOps F] in
theorem obA0_read (h) (f : S512x2048.Idx → Elt F .f32) (x : S512x768.Idx) :
    (obW.access (colR0 h)).read (Elt F) f x = f (ix2 (x 0) ⟨0 + (x 1).val, hn0 (x 1)⟩) := by
  refine congrArg f (funext fun a => ?_)
  match a with
  | ⟨0, _⟩ => exact Fin.ext (show 0 + 1 * (x 0).val = (x 0).val by omega)
  | ⟨1, _⟩ => exact Fin.ext (show 0 + 1 * (x 1).val = 0 + (x 1).val by omega)

/-- What a transfer of the group carries is what the partner's landing buffer is to hold in its slot; -/
theorem land0 (j : Fin 7) (h h') (c : Dev nD) :
    (stM0 j.val h).view.read (Elt F) (SB m 0 hn0 (peer (mi (0, j)) c)) = (accM0 (srow (0, j)).val h').view.read (Elt F) (AB m (ph j) c) := by
  funext x
  rw [stM0_read, accM0_read]
  show AB m (ph j) (peer (mi (0, j)) (peer (mi (0, j)) c)) _ = _
  rw [peer_peer]
  rfl

/-- adding a landed piece to the row it belongs to gives the next phase's contents. -/
theorem add0 (j : Fin 7) (h h' h'') (c : Dev nD) (x : S1x512x768.Idx) :
    FloatOps.addf ((accW.access (accR0 (drow (0, j)).val h)).read (Elt F) (AB m (ph j) c) x)
        ((stW0.access (stR0 j.val h')).read (Elt F) (SB m 0 hn0 c) x)
      = (accW.access (accR0 (drow (0, j)).val h'')).read (Elt F) (AB m (ph j + 1) c) x := by
  rw [accA0_read, stA0_read, accA0_read]
  have hg : grp (0 + (x 2).val) = 0 := grp_gcol_add 0 (x 2).val (x 2).isLt
  show FloatOps.addf _ (AB m (ph j) (peer (gmask 0 (ph j)) c) (ix3 (srow (0, j)) (x 1) ⟨0 + (x 2).val, _⟩))
    = FloatOps.addf _ (AB m (ph j) (peer (gmask (grp (0 + (x 2).val)) (ph j)) c) (ix3 (flip (gmask (grp (0 + (x 2).val)) (ph j)) (drow (0, j))) (x 1) ⟨0 + (x 2).val, _⟩))
  rw [hg]
  have hf : flip (gmask 0 (ph j)) (drow (0, j)) = srow (0, j) := flip_flip _ _
  rw [hf]

/-! ## Group 1: columns 768 to 768 + 640 -/

/-- Row `r`'s columns of group 1 of the accumulator; slot `j` of the group's landing buffer; the result's columns. -/
abbrev accR1 (r : ℕ) (h : ∀ a, (![r, 0, 768] : Fin 3 → ℕ) a + S1x512x640.size a ≤ S8x512x2048.size a) : Rect S8x512x2048 := Rect.unit (s := S8x512x2048) ![r, 0, 768] S1x512x640.size h
abbrev stR1 (j : ℕ) (h : ∀ a, (![j, 0, 0] : Fin 3 → ℕ) a + S1x512x640.size a ≤ S7x512x640.size a) : Rect S7x512x640 := Rect.unit (s := S7x512x640) ![j, 0, 0] S1x512x640.size h
abbrev colR1 (h : ∀ a, (![0, 768] : Fin 2 → ℕ) a + S512x640.size a ≤ S512x2048.size a) : Rect S512x2048 := Rect.unit (s := S512x2048) ![0, 768] S512x640.size h
abbrev accM1 (r : ℕ) (h : ∀ a, (![r, 0, 768] : Fin 3 → ℕ) a + S1x512x640.size a ≤ S8x512x2048.size a) : Memref sig .tc .vmem S512x640 .bf16 :=
  (accW.slice (accR1 r h) (fun _ => rfl)).squeeze S512x640 squeezes_S1x512x640_S512x640
abbrev stM1 (j : ℕ) (h : ∀ a, (![j, 0, 0] : Fin 3 → ℕ) a + S1x512x640.size a ≤ S7x512x640.size a) : Memref sig .tc .vmem S512x640 .bf16 :=
  (stW1.slice (stR1 j h) (fun _ => rfl)).squeeze S512x640 squeezes_S1x512x640_S512x640

theorem accR1_set (r : Fin 8) (h) : (accR1 r.val h).set = pieceSet r 1 := by
  ext i
  have h1 : (i 1).val < 512 := (i 1).isLt
  have h2 : (i 2).val < 2048 := (i 2).isLt
  rw [mem_pieceSet, grp_eq_iff _ _ h2]
  refine (mem_row (A := 8) (B := 512) (C := 2048) h i).trans ?_
  show _ ∧ _ ↔ _ ∧ (768 ≤ _ ∧ _ < 768 + 640)
  constructor
  · rintro ⟨a, b, c⟩; exact ⟨a, c⟩
  · rintro ⟨a, c⟩; exact ⟨a, ⟨Nat.zero_le _, by omega⟩, c⟩
theorem stR1_set (j : Fin 7) (h) : (stR1 j.val h).set = slotSet j := by
  ext i
  have h1 : (i 1).val < 512 := (i 1).isLt
  have h2 : (i 2).val < 640 := (i 2).isLt
  rw [mem_slotSet]
  refine (mem_row (A := 7) (B := 512) (C := 640) h i).trans ?_
  constructor
  · rintro ⟨a, b, c⟩; exact a
  · intro a; exact ⟨a, ⟨Nat.zero_le _, by omega⟩, ⟨Nat.zero_le _, by omega⟩⟩
theorem colR1_set (h) : (colR1 h).set = colSet 1 := by
  ext i
  have h0 : (i 0).val < 512 := (i 0).isLt
  have h1 : (i 1).val < 2048 := (i 1).isLt
  rw [mem_colSet, grp_eq_iff _ _ h1, Rect.mem_set_unit]
  show _ ↔ (768 ≤ _ ∧ _ < 768 + 640)
  constructor
  · intro H; exact H 1
  · intro H a
    match a with
    | ⟨0, _⟩ => exact ⟨Nat.zero_le _, show (i 0).val < 0 + 512 by omega⟩
    | ⟨1, _⟩ => exact H

theorem accA1_set (r : Fin 8) (h) : (accW.access (accR1 r.val h)).set = pieceSet r 1 := (View.set_slice_whole _ _).trans (accR1_set r h)
theorem accM1_set (r : Fin 8) (h) : (accM1 r.val h).view.set = pieceSet r 1 := (View.set_reshape _ _).trans (accA1_set r h)
theorem stA1_set (j : Fin 7) (h) : (stW1.access (stR1 j.val h)).set = slotSet j := (View.set_slice_whole _ _).trans (stR1_set j h)
theorem stM1_set (j : Fin 7) (h) : (stM1 j.val h).view.set = slotSet j := (View.set_reshape _ _).trans (stA1_set j h)
theorem obA1_set (h) : (obW.access (colR1 h)).set = colSet 1 := (View.set_slice_whole _ _).trans (colR1_set h)
theorem oaA1_set (h) : (oaW.access (colR1 h)).set = colSet 1 := (View.set_slice_whole _ _).trans (colR1_set h)

omit [FloatOps F] in
theorem accA1_read (r : Fin 8) (h) (f : S8x512x2048.Idx → Elt F .bf16) (x : S1x512x640.Idx) :
    (accW.access (accR1 r.val h)).read (Elt F) f x = f (ix3 r (x 1) ⟨768 + (x 2).val, hn1 (x 2)⟩) := by
  refine congrArg f ((emb_row (A := 8) (B := 512) (C := 2048) h x).trans ?_)
  funext a
  match a with
  | ⟨0, _⟩ => rfl
  | ⟨1, _⟩ => exact Fin.ext (Nat.zero_add _)
  | ⟨2, _⟩ => rfl
omit [FloatOps F] in
theorem accM1_read (r : Fin 8) (h) (f : S8x512x2048.Idx → Elt F .bf16) (x : S512x640.Idx) :
    (accM1 r.val h).view.read (Elt F) f x = f (ix3 r (x 0) ⟨768 + (x 1).val, hn1 (x 1)⟩) := by
  refine Eq.trans ?_ (accA1_read r h f (ix3 (0 : Fin 1) (x 0) (x 1)))
  exact congrArg (fun z => (accW.access (accR1 r.val h)).read (Elt F) f z) (squeeze_ix (n1 := 512) (n2 := 640) _ x)
omit [FloatOps F] in
theorem stA1_read (j : Fin 7) (h) (f : S7x512x640.Idx → Elt F .bf16) (x : S1x512x640.Idx) :
    (stW1.access (stR1 j.val h)).read (Elt F) f x = f (ix3 j (x 1) (x 2)) := by
  refine congrArg f ((emb_row (A := 7) (B := 512) (C := 640) h x).trans ?_)
  funext a
  match a with
  | ⟨0, _⟩ => rfl
  | ⟨1, _⟩ => exact Fin.ext (Nat.zero_add _)
  | ⟨2, _⟩ => exact Fin.ext (Nat.zero_add _)
omit [FloatOps F] in
theorem stM1_read (j : Fin 7) (h) (f : S7x512x640.Idx → Elt F .bf16) (x : S512x640.Idx) :
    (stM1 j.val h).view.read (Elt F) f x = f (ix3 j (x 0) (x 1)) := by
  refine Eq.trans ?_ (stA1_read j h f (ix3 (0 : Fin 1) (x 0) (x 1)))
  exact congrArg (fun z => (stW1.access (stR1 j.val h)).read (Elt F) f z) (squeeze_ix (n1 := 512) (n2 := 640) _ x)
omit [FloatOps F] in
theorem obA1_read (h) (f : S512x2048.Idx → Elt F .f32) (x : S512x640.Idx) :
    (obW.access (colR1 h)).read (Elt F) f x = f (ix2 (x 0) ⟨768 + (x 1).val, hn1 (x 1)⟩) := by
  refine congrArg f (funext fun a => ?_)
  match a with
  | ⟨0, _⟩ => exact Fin.ext (show 0 + 1 * (x 0).val = (x 0).val by omega)
  | ⟨1, _⟩ => exact Fin.ext (show 768 + 1 * (x 1).val = 768 + (x 1).val by omega)

/-- What a transfer of the group carries is what the partner's landing buffer is to hold in its slot; -/
theorem land1 (j : Fin 7) (h h') (c : Dev nD) :
    (stM1 j.val h).view.read (Elt F) (SB m 1 hn1 (peer (mi (1, j)) c)) = (accM1 (srow (1, j)).val h').view.read (Elt F) (AB m (ph j) c) := by
  funext x
  rw [stM1_read, accM1_read]
  show AB m (ph j) (peer (mi (1, j)) (peer (mi (1, j)) c)) _ = _
  rw [peer_peer]
  rfl

/-- adding a landed piece to the row it belongs to gives the next phase's contents. -/
theorem add1 (j : Fin 7) (h h' h'') (c : Dev nD) (x : S1x512x640.Idx) :
    FloatOps.addf ((accW.access (accR1 (drow (1, j)).val h)).read (Elt F) (AB m (ph j) c) x)
        ((stW1.access (stR1 j.val h')).read (Elt F) (SB m 1 hn1 c) x)
      = (accW.access (accR1 (drow (1, j)).val h'')).read (Elt F) (AB m (ph j + 1) c) x := by
  rw [accA1_read, stA1_read, accA1_read]
  have hg : grp (768 + (x 2).val) = 1 := grp_gcol_add 1 (x 2).val (x 2).isLt
  show FloatOps.addf _ (AB m (ph j) (peer (gmask 1 (ph j)) c) (ix3 (srow (1, j)) (x 1) ⟨768 + (x 2).val, _⟩))
    = FloatOps.addf _ (AB m (ph j) (peer (gmask (grp (768 + (x 2).val)) (ph j)) c) (ix3 (flip (gmask (grp (768 + (x 2).val)) (ph j)) (drow (1, j))) (x 1) ⟨768 + (x 2).val, _⟩))
  rw [hg]
  have hf : flip (gmask 1 (ph j)) (drow (1, j)) = srow (1, j) := flip_flip _ _
  rw [hf]

/-! ## Group 2: columns 1408 to 1408 + 640 -/

/-- Row `r`'s columns of group 2 of the accumulator; slot `j` of the group's landing buffer; the result's columns. -/
abbrev accR2 (r : ℕ) (h : ∀ a, (![r, 0, 1408] : Fin 3 → ℕ) a + S1x512x640.size a ≤ S8x512x2048.size a) : Rect S8x512x2048 := Rect.unit (s := S8x512x2048) ![r, 0, 1408] S1x512x640.size h
abbrev stR2 (j : ℕ) (h : ∀ a, (![j, 0, 0] : Fin 3 → ℕ) a + S1x512x640.size a ≤ S7x512x640.size a) : Rect S7x512x640 := Rect.unit (s := S7x512x640) ![j, 0, 0] S1x512x640.size h
abbrev colR2 (h : ∀ a, (![0, 1408] : Fin 2 → ℕ) a + S512x640.size a ≤ S512x2048.size a) : Rect S512x2048 := Rect.unit (s := S512x2048) ![0, 1408] S512x640.size h
abbrev accM2 (r : ℕ) (h : ∀ a, (![r, 0, 1408] : Fin 3 → ℕ) a + S1x512x640.size a ≤ S8x512x2048.size a) : Memref sig .tc .vmem S512x640 .bf16 :=
  (accW.slice (accR2 r h) (fun _ => rfl)).squeeze S512x640 squeezes_S1x512x640_S512x640
abbrev stM2 (j : ℕ) (h : ∀ a, (![j, 0, 0] : Fin 3 → ℕ) a + S1x512x640.size a ≤ S7x512x640.size a) : Memref sig .tc .vmem S512x640 .bf16 :=
  (stW2.slice (stR2 j h) (fun _ => rfl)).squeeze S512x640 squeezes_S1x512x640_S512x640

theorem accR2_set (r : Fin 8) (h) : (accR2 r.val h).set = pieceSet r 2 := by
  ext i
  have h1 : (i 1).val < 512 := (i 1).isLt
  have h2 : (i 2).val < 2048 := (i 2).isLt
  rw [mem_pieceSet, grp_eq_iff _ _ h2]
  refine (mem_row (A := 8) (B := 512) (C := 2048) h i).trans ?_
  show _ ∧ _ ↔ _ ∧ (1408 ≤ _ ∧ _ < 1408 + 640)
  constructor
  · rintro ⟨a, b, c⟩; exact ⟨a, c⟩
  · rintro ⟨a, c⟩; exact ⟨a, ⟨Nat.zero_le _, by omega⟩, c⟩
theorem stR2_set (j : Fin 7) (h) : (stR2 j.val h).set = slotSet j := by
  ext i
  have h1 : (i 1).val < 512 := (i 1).isLt
  have h2 : (i 2).val < 640 := (i 2).isLt
  rw [mem_slotSet]
  refine (mem_row (A := 7) (B := 512) (C := 640) h i).trans ?_
  constructor
  · rintro ⟨a, b, c⟩; exact a
  · intro a; exact ⟨a, ⟨Nat.zero_le _, by omega⟩, ⟨Nat.zero_le _, by omega⟩⟩
theorem colR2_set (h) : (colR2 h).set = colSet 2 := by
  ext i
  have h0 : (i 0).val < 512 := (i 0).isLt
  have h1 : (i 1).val < 2048 := (i 1).isLt
  rw [mem_colSet, grp_eq_iff _ _ h1, Rect.mem_set_unit]
  show _ ↔ (1408 ≤ _ ∧ _ < 1408 + 640)
  constructor
  · intro H; exact H 1
  · intro H a
    match a with
    | ⟨0, _⟩ => exact ⟨Nat.zero_le _, show (i 0).val < 0 + 512 by omega⟩
    | ⟨1, _⟩ => exact H

theorem accA2_set (r : Fin 8) (h) : (accW.access (accR2 r.val h)).set = pieceSet r 2 := (View.set_slice_whole _ _).trans (accR2_set r h)
theorem accM2_set (r : Fin 8) (h) : (accM2 r.val h).view.set = pieceSet r 2 := (View.set_reshape _ _).trans (accA2_set r h)
theorem stA2_set (j : Fin 7) (h) : (stW2.access (stR2 j.val h)).set = slotSet j := (View.set_slice_whole _ _).trans (stR2_set j h)
theorem stM2_set (j : Fin 7) (h) : (stM2 j.val h).view.set = slotSet j := (View.set_reshape _ _).trans (stA2_set j h)
theorem obA2_set (h) : (obW.access (colR2 h)).set = colSet 2 := (View.set_slice_whole _ _).trans (colR2_set h)
theorem oaA2_set (h) : (oaW.access (colR2 h)).set = colSet 2 := (View.set_slice_whole _ _).trans (colR2_set h)

omit [FloatOps F] in
theorem accA2_read (r : Fin 8) (h) (f : S8x512x2048.Idx → Elt F .bf16) (x : S1x512x640.Idx) :
    (accW.access (accR2 r.val h)).read (Elt F) f x = f (ix3 r (x 1) ⟨1408 + (x 2).val, hn2 (x 2)⟩) := by
  refine congrArg f ((emb_row (A := 8) (B := 512) (C := 2048) h x).trans ?_)
  funext a
  match a with
  | ⟨0, _⟩ => rfl
  | ⟨1, _⟩ => exact Fin.ext (Nat.zero_add _)
  | ⟨2, _⟩ => rfl
omit [FloatOps F] in
theorem accM2_read (r : Fin 8) (h) (f : S8x512x2048.Idx → Elt F .bf16) (x : S512x640.Idx) :
    (accM2 r.val h).view.read (Elt F) f x = f (ix3 r (x 0) ⟨1408 + (x 1).val, hn2 (x 1)⟩) := by
  refine Eq.trans ?_ (accA2_read r h f (ix3 (0 : Fin 1) (x 0) (x 1)))
  exact congrArg (fun z => (accW.access (accR2 r.val h)).read (Elt F) f z) (squeeze_ix (n1 := 512) (n2 := 640) _ x)
omit [FloatOps F] in
theorem stA2_read (j : Fin 7) (h) (f : S7x512x640.Idx → Elt F .bf16) (x : S1x512x640.Idx) :
    (stW2.access (stR2 j.val h)).read (Elt F) f x = f (ix3 j (x 1) (x 2)) := by
  refine congrArg f ((emb_row (A := 7) (B := 512) (C := 640) h x).trans ?_)
  funext a
  match a with
  | ⟨0, _⟩ => rfl
  | ⟨1, _⟩ => exact Fin.ext (Nat.zero_add _)
  | ⟨2, _⟩ => exact Fin.ext (Nat.zero_add _)
omit [FloatOps F] in
theorem stM2_read (j : Fin 7) (h) (f : S7x512x640.Idx → Elt F .bf16) (x : S512x640.Idx) :
    (stM2 j.val h).view.read (Elt F) f x = f (ix3 j (x 0) (x 1)) := by
  refine Eq.trans ?_ (stA2_read j h f (ix3 (0 : Fin 1) (x 0) (x 1)))
  exact congrArg (fun z => (stW2.access (stR2 j.val h)).read (Elt F) f z) (squeeze_ix (n1 := 512) (n2 := 640) _ x)
omit [FloatOps F] in
theorem obA2_read (h) (f : S512x2048.Idx → Elt F .f32) (x : S512x640.Idx) :
    (obW.access (colR2 h)).read (Elt F) f x = f (ix2 (x 0) ⟨1408 + (x 1).val, hn2 (x 1)⟩) := by
  refine congrArg f (funext fun a => ?_)
  match a with
  | ⟨0, _⟩ => exact Fin.ext (show 0 + 1 * (x 0).val = (x 0).val by omega)
  | ⟨1, _⟩ => exact Fin.ext (show 1408 + 1 * (x 1).val = 1408 + (x 1).val by omega)

/-- What a transfer of the group carries is what the partner's landing buffer is to hold in its slot; -/
theorem land2 (j : Fin 7) (h h') (c : Dev nD) :
    (stM2 j.val h).view.read (Elt F) (SB m 2 hn2 (peer (mi (2, j)) c)) = (accM2 (srow (2, j)).val h').view.read (Elt F) (AB m (ph j) c) := by
  funext x
  rw [stM2_read, accM2_read]
  show AB m (ph j) (peer (mi (2, j)) (peer (mi (2, j)) c)) _ = _
  rw [peer_peer]
  rfl

/-- adding a landed piece to the row it belongs to gives the next phase's contents. -/
theorem add2 (j : Fin 7) (h h' h'') (c : Dev nD) (x : S1x512x640.Idx) :
    FloatOps.addf ((accW.access (accR2 (drow (2, j)).val h)).read (Elt F) (AB m (ph j) c) x)
        ((stW2.access (stR2 j.val h')).read (Elt F) (SB m 2 hn2 c) x)
      = (accW.access (accR2 (drow (2, j)).val h'')).read (Elt F) (AB m (ph j + 1) c) x := by
  rw [accA2_read, stA2_read, accA2_read]
  have hg : grp (1408 + (x 2).val) = 2 := grp_gcol_add 2 (x 2).val (x 2).isLt
  show FloatOps.addf _ (AB m (ph j) (peer (gmask 2 (ph j)) c) (ix3 (srow (2, j)) (x 1) ⟨1408 + (x 2).val, _⟩))
    = FloatOps.addf _ (AB m (ph j) (peer (gmask (grp (1408 + (x 2).val)) (ph j)) c) (ix3 (flip (gmask (grp (1408 + (x 2).val)) (ph j)) (drow (2, j))) (x 1) ⟨1408 + (x 2).val, _⟩))
  rw [hg]
  have hf : flip (gmask 2 (ph j)) (drow (2, j)) = srow (2, j) := flip_flip _ _
  rw [hf]

/-! ## Whole rows, the halves of the on-chip blocks -/

abbrev rowR (r : ℕ) (h : ∀ a, (![r, 0, 0] : Fin 3 → ℕ) a + S1x512x2048.size a ≤ S8x512x2048.size a) : Rect S8x512x2048 := Rect.unit (s := S8x512x2048) ![r, 0, 0] S1x512x2048.size h
abbrev halfR (p : ℕ) (h : ∀ a, (![p, 0, 0] : Fin 3 → ℕ) a + S1x512x512.size a ≤ S2x512x512.size a) : Rect S2x512x512 := Rect.unit (s := S2x512x512) ![p, 0, 0] S1x512x512.size h
abbrev halfM (p : ℕ) (h : ∀ a, (![p, 0, 0] : Fin 3 → ℕ) a + S1x512x512.size a ≤ S2x512x512.size a) : Memref sig .tc .vmem S512x512 .f32 :=
  (xbW.slice (halfR p h) (fun _ => rfl)).squeeze S512x512 squeezes_S1x512x512_S512x512

theorem rowA_set (r : Fin 8) (h) : (accW.access (rowR r.val h)).set = rowSet r := by
  refine (View.set_slice_whole _ _).trans ?_
  ext i
  have h1 : (i 1).val < 512 := (i 1).isLt
  have h2 : (i 2).val < 2048 := (i 2).isLt
  rw [mem_rowSet]
  refine (mem_row (A := 8) (B := 512) (C := 2048) h i).trans ?_
  constructor
  · rintro ⟨a, b, c⟩; exact a
  · intro a; exact ⟨a, ⟨Nat.zero_le _, by omega⟩, ⟨Nat.zero_le _, by omega⟩⟩
theorem halfA_set (p : Fin 2) (h) : (xbW.access (halfR p.val h)).set = halfSet p := by
  refine (View.set_slice_whole _ _).trans ?_
  ext i
  have h1 : (i 1).val < 512 := (i 1).isLt
  have h2 : (i 2).val < 512 := (i 2).isLt
  rw [mem_halfSet]
  refine (mem_row (A := 2) (B := 512) (C := 512) h i).trans ?_
  constructor
  · rintro ⟨a, b, c⟩; exact a
  · intro a; exact ⟨a, ⟨Nat.zero_le _, by omega⟩, ⟨Nat.zero_le _, by omega⟩⟩
theorem halfM_set (p : Fin 2) (h) : (halfM p.val h).view.set = halfSet p := (View.set_reshape _ _).trans (halfA_set p h)

theorem halfA_read (p : Fin 2) (h) (c : Dev nD) (r : Fin 8) : (xbW.access (halfR p.val h)).read (Elt F) (XB m c r) = xld m c r := by
  funext x
  show XB m c r _ = _
  have := emb_row (A := 2) (B := 512) (C := 512) h x
  refine (congrArg (XB m c r) this).trans ?_
  show xrd m c r _ = xrd m c r _
  refine congrArg _ (funext fun a => ?_)
  match a with
  | ⟨0, _⟩ => exact Fin.ext (Nat.zero_add _)
  | ⟨1, _⟩ => exact Fin.ext (Nat.zero_add _)
theorem halfM_read (p : Fin 2) (h) (c : Dev nD) (r : Fin 8) : (halfM p.val h).view.read (Elt F) (XB m c r) = xrd m c r := by
  funext x
  refine Eq.trans (congrArg (fun z => (xbW.access (halfR p.val h)).read (Elt F) (XB m c r) z) (squeeze_ix (n1 := 512) (n2 := 512) _ x)) ?_
  rw [halfA_read]
  show xrd m c r _ = xrd m c r x
  exact congrArg _ (eq_ix2 x).symm
theorem rowA_read (r : Fin 8) (h) (c : Dev nD) : (accW.access (rowR r.val h)).read (Elt F) (AB m 0 c) = dotv m c r := by
  funext x
  show AB m 0 c _ = _
  refine (congrArg (AB m 0 c) (emb_row (A := 8) (B := 512) (C := 2048) h x)).trans ?_
  show dotv m c r _ = dotv m c r x
  refine congrArg _ (funext fun a => ?_)
  match a with
  | ⟨0, _⟩ => exact Subsingleton.elim (α := Fin 1) _ _
  | ⟨1, _⟩ => exact Fin.ext (Nat.zero_add _)
  | ⟨2, _⟩ => exact Fin.ext (Nat.zero_add _)

end Cert.Butterfly
-- ==== Proof.Sched.lean ====
/-
# The protocol

Every cell of the protocol — a device's barrier, its departures and its arrivals — runs one round. A barrier has three
duties, one per partner, and partner `i`'s hands over that partner's landing slots of the transfers that cross under mask
`i`. A departure hands the sent piece back; an arrival hands over the slot holding what was sent.
-/
module

public import proofs.«01_k».proof.Proof.Pieces

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ)

/-! ## What is handed over -/

/-- The columns of group `g` of row `r` of device `c`'s accumulator, as phase `p` leaves them. -/
def accP (c : Dev nD) (r : Fin 8) (g : Fin 3) (p : ℕ) : sProp 𝕄 := ((c : Thread nD τ).loc cc0_scratch0) ↦[pieceSet r g]{fullShare} AB m p c
def slotE0 (c : Dev nD) (j : Fin 7) : sProp 𝕄 := iprop(∃ f, ((c : Thread nD τ).loc cc0_scratch1) ↦[slotSet (n := 768) j]{fullShare} f)
def slotE1 (c : Dev nD) (j : Fin 7) : sProp 𝕄 := iprop(∃ f, ((c : Thread nD τ).loc cc0_scratch2) ↦[slotSet (n := 640) j]{fullShare} f)
def slotE2 (c : Dev nD) (j : Fin 7) : sProp 𝕄 := iprop(∃ f, ((c : Thread nD τ).loc cc0_scratch3) ↦[slotSet (n := 640) j]{fullShare} f)
/-- Device `c`'s landing slot of a transfer, whatever it holds; -/
def slotE (c : Dev nD) : X → sProp 𝕄
  | (0, j) => slotE0 c j
  | (1, j) => slotE1 c j
  | (2, j) => slotE2 c j
def slotV0 (c : Dev nD) (j : Fin 7) : sProp 𝕄 := ((c : Thread nD τ).loc cc0_scratch1) ↦[slotSet (n := 768) j]{fullShare} SB m 0 hn0 c
def slotV1 (c : Dev nD) (j : Fin 7) : sProp 𝕄 := ((c : Thread nD τ).loc cc0_scratch2) ↦[slotSet (n := 640) j]{fullShare} SB m 1 hn1 c
def slotV2 (c : Dev nD) (j : Fin 7) : sProp 𝕄 := ((c : Thread nD τ).loc cc0_scratch3) ↦[slotSet (n := 640) j]{fullShare} SB m 2 hn2 c
/-- and holding what the partner sent. -/
def slotV (c : Dev nD) : X → sProp 𝕄
  | (0, j) => slotV0 m c j
  | (1, j) => slotV1 m c j
  | (2, j) => slotV2 m c j

/-- What the partner under mask `i` hands device `c` when it signals it: its landing slots of the transfers `c` sends it. -/
def barPay (c : Dev nD) (i : Fin 3) : sProp 𝕄 := bigSep (Finset.univ.filter fun x : X => mi x = i) fun x => slotE (peer i c) x

instance accP_storable (c r g p) : BI.Storable (upEmb : UEmb _ 𝕄) (accP m c r g p) := by unfold accP; infer_instance
omit [FloatOps F] in
instance slotE_storable (c : Dev nD) (x : X) : BI.Storable (upEmb : UEmb _ 𝕄) (slotE (F := F) c x) := by
  unfold slotE slotE0 slotE1 slotE2; split <;> infer_instance
instance slotV_storable (c : Dev nD) (x : X) : BI.Storable (upEmb : UEmb _ 𝕄) (slotV m c x) := by
  unfold slotV slotV0 slotV1 slotV2; split <;> infer_instance
omit [FloatOps F] in
instance barPay_storable (c : Dev nD) (i : Fin 3) : BI.Storable (upEmb : UEmb _ 𝕄) (barPay (F := F) c i) := by unfold barPay; infer_instance

/-- The units a transfer of group `g` credits. -/
def crd : Fin 3 → ℕ
  | 0 => (stM0 0 inb_S7x512x768_S1x512x768_0_0_0).view.dmaCredit
  | 1 => (stM1 0 inb_S7x512x640_S1x512x640_0_0_0).view.dmaCredit
  | 2 => (stM2 0 inb_S7x512x640_S1x512x640_0_0_0).view.dmaCredit
theorem crd_pos (g : Fin 3) : 0 < crd g := by
  match g with
  | 0 => exact View.dmaCredit_pos _ (by decide)
  | 1 => exact View.dmaCredit_pos _ (by decide)
  | 2 => exact View.dmaCredit_pos _ (by decide)

/-! ## The schedule -/

def dutiesOf : Option CK → Finset (Fin 3)
  | none => ∅
  | some none => Finset.univ
  | some (some _) => {0}
def amountOf' : Option CK → ℕ
  | none => 1
  | some none => 1
  | some (some (_, x)) => crd x.1
def payOf (c : Dev nD) (i : Fin 3) : Option CK → sProp 𝕄
  | none => iprop(emp)
  | some none => barPay c i
  | some (some (false, x)) => accP m c (srow x) x.1 (ph x.2)
  | some (some (true, x)) => slotV m c x

def rd : Rounds.Schedule (GSem nD τ sig) (Fin 3) 𝕄 where
  duties g r := if r = 0 ∧ g.1.2 = .tc then dutiesOf (cls g.2) else ∅
  unitless _ := False
  amount g _ _ := amountOf' (cls g.2)
  payload g _ d := payOf m g.1.1 d (cls g.2)
  amount_pos g _ _ _ := by
    unfold amountOf'
    split
    · exact Nat.one_pos
    · exact Nat.one_pos
    · exact crd_pos _

instance rd_storable (g : GSem nD τ sig) (r : ℕ) (d : Fin 3) : BI.Storable (upEmb : UEmb _ 𝕄) ((rd m).payload g r d) := by
  show BI.Storable upEmb (payOf m g.1.1 d (cls g.2))
  unfold payOf
  split <;> infer_instance

section Facts
variable (c : Dev nD) (x : X)

theorem duties_bar : (rd m).duties (barCell c) 0 = Finset.univ := by
  show (if (0 = 0 ∧ (c : Thread nD τ).2 = .tc) then dutiesOf (cls (.reg barS)) else ∅) = _
  rw [if_pos ⟨rfl, rfl⟩, cls_bar]; rfl
theorem duties_send : (rd m).duties (sendCell c x) 0 = {0} := by
  show (if (0 = 0 ∧ (c : Thread nD τ).2 = .tc) then dutiesOf (cls (.dma (sendS x))) else ∅) = _
  rw [if_pos ⟨rfl, rfl⟩, cls_send]; rfl
theorem duties_recv : (rd m).duties (recvCell c x) 0 = {0} := by
  show (if (0 = 0 ∧ (c : Thread nD τ).2 = .tc) then dutiesOf (cls (.dma (recvS x))) else ∅) = _
  rw [if_pos ⟨rfl, rfl⟩, cls_recv]; rfl
theorem duties_later (g : GSem nD τ sig) (r : ℕ) (hr : 1 ≤ r) : (rd m).duties g r = ∅ := if_neg fun h => by omega

theorem amount_bar (d) : (rd m).amount (barCell c) 0 d = 1 := by
  show amountOf' (cls (.reg barS)) = _
  rw [cls_bar]; rfl
theorem amount_send (d) : (rd m).amount (sendCell c x) 0 d = crd x.1 := by
  show amountOf' (cls (.dma (sendS x))) = _
  rw [cls_send]; rfl
theorem amount_recv (d) : (rd m).amount (recvCell c x) 0 d = crd x.1 := by
  show amountOf' (cls (.dma (recvS x))) = _
  rw [cls_recv]; rfl

theorem expect_bar : (rd m).expect (barCell c) 0 = 3 := by
  unfold Schedule.expect Schedule.amountOf
  rw [duties_bar, Finset.sum_congr rfl fun d _ => amount_bar m c d, Finset.sum_const, Finset.card_univ, Fintype.card_fin, smul_eq_mul]
theorem expect_send : (rd m).expect (sendCell c x) 0 = crd x.1 := by
  unfold Schedule.expect Schedule.amountOf; rw [duties_send, Finset.sum_singleton, amount_send]
theorem expect_recv : (rd m).expect (recvCell c x) 0 = crd x.1 := by
  unfold Schedule.expect Schedule.amountOf; rw [duties_recv, Finset.sum_singleton, amount_recv]

theorem payload_bar (d) : (rd m).payload (barCell c) 0 d = barPay c d := by
  show payOf m c d (cls (.reg barS)) = _
  rw [cls_bar]; rfl
theorem payload_send (d) : (rd m).payload (sendCell c x) 0 d = accP m c (srow x) x.1 (ph x.2) := by
  show payOf m c d (cls (.dma (sendS x))) = _
  rw [cls_send]; rfl
theorem payload_recv (d) : (rd m).payload (recvCell c x) 0 d = slotV m c x := by
  show payOf m c d (cls (.dma (recvS x))) = _
  rw [cls_recv]; rfl

theorem rest_bar : bigSep ((rd m).duties (barCell c) 0 \ ∅) (fun d => (rd m).payload (barCell c) 0 d) = iprop(barPay c 0 ∗ barPay c 1 ∗ barPay c 2) := by
  rw [Finset.sdiff_empty, duties_bar, bigSep_univ_eq_bigSepL [0, 1, 2] (by decide) (by decide), bigSepL_cons_cons, bigSepL_cons_cons, bigSepL_singleton,
    payload_bar, payload_bar, payload_bar]
  rfl
theorem rest_send : bigSep ((rd m).duties (sendCell c x) 0 \ ∅) (fun d => (rd m).payload (sendCell c x) 0 d) = accP m c (srow x) x.1 (ph x.2) := by
  rw [Finset.sdiff_empty, duties_send, bigSep_singleton, payload_send]
theorem rest_recv : bigSep ((rd m).duties (recvCell c x) 0 \ ∅) (fun d => (rd m).payload (recvCell c x) 0 d) = slotV m c x := by
  rw [Finset.sdiff_empty, duties_recv, bigSep_singleton, payload_recv]

end Facts

/-! ## What a device owes, and the levels its waits need -/

/-- The arrivals a device still owes its partners, the next to be sent last in the sum. -/
def owedL : List X → Dev nD → CellTallies nD τ sig Unit
  | [], _ => 0
  | x :: l, c => owedL l c + tallyAt (recvCell (peer (mi x) c) x) () (crd x.1)

theorem owedL_pos {l : List X} {c : Dev nD} {g : GSem nD τ sig} {u : Unit} (h : 0 < owedL l c g u) : ∃ x ∈ l, g = recvCell (peer (mi x) c) x := by
  induction l with
  | nil => exact absurd h (Nat.lt_irrefl 0)
  | cons x l ih =>
    unfold owedL at h
    rw [Pi.add_apply, Finsupp.add_apply, tallyAt_apply] at h
    by_cases hx : g = recvCell (peer (mi x) c) x ∧ u = ()
    · exact ⟨x, List.mem_cons_self, hx.1⟩
    · rw [if_neg hx] at h
      obtain ⟨y, hy, e⟩ := ih h
      exact ⟨y, List.mem_cons_of_mem _ hy, e⟩

/-- The transfers in the order they are sent. -/
def sendOrder : List X := [(0, 0), (1, 0), (2, 0), (0, 1), (0, 2), (1, 1), (1, 2), (2, 1), (2, 2), (0, 3), (1, 3), (2, 3), (1, 4), (1, 5), (2, 4), (2, 5), (0, 4), (0, 5), (1, 6), (2, 6), (0, 6)]

def owed2 (c : Dev nD) : CellTallies nD τ sig Unit := owedL sendOrder c + tallyAt (barCell (peer 2 c)) () 1
def owed1 (c : Dev nD) : CellTallies nD τ sig Unit := owed2 c + tallyAt (barCell (peer 1 c)) () 1
/-- At launch: every arrival and one unit at each partner's barrier. -/
def owed0 (c : Dev nD) : CellTallies nD τ sig Unit := owed1 c + tallyAt (barCell (peer 0 c)) () 1

theorem owed0_pos {c : Dev nD} {g : GSem nD τ sig} {u : Unit} (h : 0 < owed0 c g u) :
    (∃ x, g = recvCell (peer (mi x) c) x) ∨ ∃ i, g = barCell (peer i c) := by
  unfold owed0 owed1 owed2 at h
  rw [Pi.add_apply, Finsupp.add_apply, Pi.add_apply, Finsupp.add_apply, Pi.add_apply, Finsupp.add_apply, tallyAt_apply, tallyAt_apply, tallyAt_apply] at h
  by_cases h0 : g = barCell (peer 0 c) ∧ u = ()
  · exact .inr ⟨0, h0.1⟩
  by_cases h1 : g = barCell (peer 1 c) ∧ u = ()
  · exact .inr ⟨1, h1.1⟩
  by_cases h2 : g = barCell (peer 2 c) ∧ u = ()
  · exact .inr ⟨2, h2.1⟩
  rw [if_neg h0, if_neg h1, if_neg h2] at h
  simp only [add_zero] at h
  obtain ⟨x, -, e⟩ := owedL_pos h
  exact .inl ⟨x, e⟩

def L (g : GSem nD τ sig) : Finset Unit := if g.1.2 = .tc then {()} else ∅
theorem L_of_ne (g : GSem nD τ sig) (h : g.1.2 ≠ .tc) : L g = ∅ := if_neg h
theorem L_tc (c : Dev nD) (sm : SemLoc sig) : L ((c : Thread nD τ), sm) = {()} := if_pos rfl

def lvOf : Option CK → ℕ
  | some none => 1
  | some (some (true, x)) => 2 + ph x.2
  | _ => 0
/-- The barriers at 1, an arrival of phase `p` at `2 + p`, everything a device serves itself at 0. -/
def lv (g : GSem nD τ sig) (_ : Unit) : ℕ := lvOf (cls g.2)

theorem lv_bar (c : Dev nD) : lv (barCell c) () = 1 := by
  show lvOf (cls (.reg barS)) = _
  rw [cls_bar]; rfl
theorem lv_recv (c : Dev nD) (x : X) : lv (recvCell c x) () = 2 + ph x.2 := by
  show lvOf (cls (.dma (recvS x))) = _
  rw [cls_recv]; rfl

omit [FloatOps F] in
/-- A wait at a cell of level `n` while only arrivals of a higher level are owed. -/
theorem mayWait_owedL (c : Dev nD) (sm : SemLoc sig) (l : List X) (n : ℕ) (hn : lvOf (cls sm) = n) (hl : ∀ y ∈ l, n < 2 + ph y.2) :
    (levAts L lv : sProp 𝕄) ⊢ MayWait (c : Thread nD τ) sm () (owedL l c) := by
  refine MayOwe.of_cut (L := L) (lev := lv) n (fun p hp => by rw [Finset.mem_singleton.mp hp, L_tc]; exact Finset.mem_singleton_self _)
    (fun g u hg => ?_) (fun p hp => by rw [Finset.mem_singleton.mp hp]; exact hn.le) (fun g u hg => ?_)
  · obtain ⟨x, -, rfl⟩ := owedL_pos hg; rw [L_tc]; exact Finset.mem_singleton_self _
  · obtain ⟨x, hx, rfl⟩ := owedL_pos hg; rw [lv_recv]; exact hl x hx

omit [FloatOps F] in
/-- A wait at a cell of level 0 while owing what is owed at launch. -/
theorem mayWait_owed0 (c : Dev nD) (sm : SemLoc sig) (hn : lvOf (cls sm) = 0) :
    (levAts L lv : sProp 𝕄) ⊢ MayWait (c : Thread nD τ) sm () (owed0 c) := by
  refine MayOwe.of_cut (L := L) (lev := lv) 0 (fun p hp => by rw [Finset.mem_singleton.mp hp, L_tc]; exact Finset.mem_singleton_self _)
    (fun g u hg => ?_) (fun p hp => by rw [Finset.mem_singleton.mp hp]; exact hn.le) (fun g u hg => ?_)
  · rcases owed0_pos hg with ⟨x, rfl⟩ | ⟨i, rfl⟩ <;> (rw [L_tc]; exact Finset.mem_singleton_self _)
  · rcases owed0_pos hg with ⟨x, rfl⟩ | ⟨i, rfl⟩
    · rw [lv_recv]; omega
    · rw [lv_bar]; omega

/-! ## The records every device holds -/

variable (K : Dev nD × CK → ℕ)

/-- Every cell's invariant and that its round has begun; the levels. -/
def env : sProp 𝕄 :=
  iprop((bigSep Finset.univ fun ck : Dev nD × CK => cellInv ER (rd m) (K ck) (kcell ck))
    ∗ (bigSep Finset.univ fun ck : Dev nD × CK => reached ER (kcell ck) 0) ∗ levAts L lv)
instance env_persistent : BI.Persistent (env m K) := by unfold env; infer_instance

theorem inv_pick (ck : Dev nD × CK) :
    (bigSep Finset.univ fun ck : Dev nD × CK => (cellInv ER (rd m) (K ck) (kcell ck) : sProp 𝕄)) ⊢ cellInv ER (rd m) (K ck) (kcell ck) :=
  bigSep_elim (Finset.mem_univ ck)
omit [FloatOps F] in
theorem reached_pick (ck : Dev nD × CK) :
    (bigSep Finset.univ fun ck : Dev nD × CK => (reached ER (kcell ck) 0 : sProp 𝕄)) ⊢ reached ER (kcell ck) 0 :=
  bigSep_elim (Finset.mem_univ ck)
theorem env_inv (ck : Dev nD × CK) : env m K ⊢ cellInv ER (rd m) (K ck) (kcell ck) := by
  unfold env
  iintro ⟨Hi, -, -⟩
  iapply (inv_pick m K ck); iexact Hi
theorem env_reached (ck : Dev nD × CK) : env m K ⊢ (reached ER (kcell ck) 0 : sProp 𝕄) := by
  unfold env
  iintro ⟨-, Hr, -⟩
  iapply (reached_pick ck); iexact Hr
theorem env_lev : env m K ⊢ (levAts L lv : sProp 𝕄) := by
  unfold env
  iintro ⟨-, -, #H⟩
  iexact H

end Cert.Butterfly
-- ==== Proof.Atoms.lean ====
/-
# What a device holds between its operations

The resources one device's run passes along, each a small proposition of its own.
-/
module

public import proofs.«01_k».proof.Proof.Sched

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ)

abbrev 𝒱₀ : Variants := Variants.none

/-! ## Transfers between devices -/

/-- What device `c` needs to send `x`: the partner's slot, the two tokens it pays with, its own departure cell's position. -/
def sd (c : Dev nD) (x : X) : sProp 𝕄 :=
  iprop(slotE (peer (mi x) c) x ∗ dutyTok ER (sendCell c x) 0 0 ∗ dutyTok ER (recvCell (peer (mi x) c) x) 0 0 ∗ atPos ER (sendCell c x) 0 ∅ 0)
/-- The same without the slot, which the barrier hands over. -/
def sd' (c : Dev nD) (x : X) : sProp 𝕄 :=
  iprop(dutyTok ER (sendCell c x) 0 0 ∗ dutyTok ER (recvCell (peer (mi x) c) x) 0 0 ∗ atPos ER (sendCell c x) 0 ∅ 0)
/-- `x` sent: what its departure wait takes. -/
def sn (c : Dev nD) (x : X) : sProp 𝕄 := iprop(cred (tallyAt (sendCell c x) () (crd x.1)) ∗ atPos ER (sendCell c x) 0 ∅ 0)
/-- What the arrival wait of `x` takes. -/
def rv (c : Dev nD) (x : X) : sProp 𝕄 := iprop(cred (tallyAt (recvCell c x) () (crd x.1)) ∗ atPos ER (recvCell c x) 0 ∅ 0)
/-- The two cells at zero again. -/
def zs (c : Dev nD) (x : X) : sProp 𝕄 := semVal (sendCell c x) 0
def zr (c : Dev nD) (x : X) : sProp 𝕄 := semVal (recvCell c x) 0
/-- The arrivals `l` still owed, whatever has been waited for. -/
def owesE (c : Dev nD) (l : List X) : sProp 𝕄 := iprop(∃ W, owes (c : Thread nD τ) (owedL l c) W)

/-! ## The local buffers -/

/-- Row `r` of the accumulator before its product is stored. -/
def rowU (c : Dev nD) (r : Fin 8) : sProp 𝕄 := iprop(∃ f, ((c : Thread nD τ).loc cc0_scratch0) ↦[rowSet r]{fullShare} f)
def win (c : Dev nD) : sProp 𝕄 := ((c : Thread nD τ).loc cc0_stg0_0) ↦{fullShare} wst m c
def w16U (c : Dev nD) : sProp 𝕄 := iprop(∃ f, ((c : Thread nD τ).loc cc0_scratch4) ↦{fullShare} f)
def w16V (c : Dev nD) : sProp 𝕄 := ((c : Thread nD τ).loc cc0_scratch4) ↦{fullShare} W16 m c

/-- The whole of the device's columns of `x`; a half of the on-chip blocks, holding anything or row block `r`. -/
def xArr (c : Dev nD) : sProp 𝕄 := ((c : Thread nD τ).loc main_arg0) ↦{fullShare} m ((c : Thread nD τ).loc main_arg0)
def xsU (c : Dev nD) (p : Fin 2) : sProp 𝕄 := iprop(∃ f, ((c : Thread nD τ).loc cc0_scratch5) ↦[halfSet p]{fullShare} f)
def xsV (c : Dev nD) (p : Fin 2) (r : Fin 8) : sProp 𝕄 := ((c : Thread nD τ).loc cc0_scratch5) ↦[halfSet p]{fullShare} XB m c r
def zx (c : Dev nD) (p : Fin 2) : sProp 𝕄 := semVal (xCell c p) 0

/-- The row block `r` of the device's columns of `x`, as a slice of the array. -/
abbrev xM (c : Dev nD) (r : Fin 8) : Memref sig .tc .hbm S512x512 .f32 :=
  xaW.slice (Rect.unit (s := S4096x512) (k0_off1 c (BitVec.ofNat 32 r.val)) S512x512.size (k0_off1_inb c r)) (fun _ => rfl)
def NX : ℕ := (halfM 0 inb_S2x512x512_S1x512x512_0_0_0).view.dmaCredit
theorem NX_pos : 0 < NX := View.dmaCredit_pos _ (by decide)
/-- Row block `r` on its way to half `p`: what its wait hands over, and the rest of the array. -/
def xFl (c : Dev nD) (p : Fin 2) (r : Fin 8) : sProp 𝕄 :=
  iprop(Transfers.Flight EC (c : Thread nD τ) (.dma (xS p)) () NX
      iprop((((c : Thread nD τ).loc cc0_scratch5) ↦[halfSet p]{fullShare} XB m c r)
        ∗ (((c : Thread nD τ).loc main_arg0) ↦[(xM c r).view.set]{fullShare} m ((c : Thread nD τ).loc main_arg0)))
    ∗ (((c : Thread nD τ).loc main_arg0) ↦[Finset.univ \ (xM c r).view.set]{fullShare} m ((c : Thread nD τ).loc main_arg0)))

/-- The columns of group `g` of the result on chip and in the result array; a copy of them on its way out. -/
def obU (c : Dev nD) (g : Fin 3) : sProp 𝕄 := iprop(∃ f, ((c : Thread nD τ).loc cc0_scratch6) ↦[colSet g]{fullShare} f)
def obV (c : Dev nD) (g : Fin 3) : sProp 𝕄 := ((c : Thread nD τ).loc cc0_scratch6) ↦[colSet g]{fullShare} OB m c
def ovU (c : Dev nD) (g : Fin 3) : sProp 𝕄 := iprop(∃ f, ((c : Thread nD τ).loc main_v1) ↦[colSet g]{fullShare} f)
def ovV (c : Dev nD) (g : Fin 3) : sProp 𝕄 := ((c : Thread nD τ).loc main_v1) ↦[colSet g]{fullShare} OB m c
def zo (c : Dev nD) (g : Fin 3) : sProp 𝕄 := semVal (oCell c g) 0
def NO : Fin 3 → ℕ
  | 0 => (oaW.slice (colR0 inb_S512x2048_S512x768_0_0) (fun _ => rfl)).view.dmaCredit
  | 1 => (oaW.slice (colR1 inb_S512x2048_S512x640_0_768) (fun _ => rfl)).view.dmaCredit
  | 2 => (oaW.slice (colR2 inb_S512x2048_S512x640_0_1408) (fun _ => rfl)).view.dmaCredit
theorem NO_pos (g : Fin 3) : 0 < NO g := by
  match g with
  | 0 => exact View.dmaCredit_pos _ (by decide)
  | 1 => exact View.dmaCredit_pos _ (by decide)
  | 2 => exact View.dmaCredit_pos _ (by decide)
def oFl (c : Dev nD) (g : Fin 3) : sProp 𝕄 :=
  Transfers.Flight EC (c : Thread nD τ) (.dma (oS g)) () (NO g)
    iprop((((c : Thread nD τ).loc main_v1) ↦[colSet g]{fullShare} OB m c) ∗ (((c : Thread nD τ).loc cc0_scratch6) ↦[colSet g]{fullShare} OB m c))

end Cert.Butterfly
-- ==== Proof.Local.lean ====
/-
# The steps a device takes on its own

One rule per local operation: the stream of row blocks of `x`, the stationary operand, the stored products, the result's
copies, and the barrier.
-/
module

public import proofs.«01_k».proof.Proof.Atoms

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ)

/-- A read through the whole of a two-dimensional buffer, written as a rectangle. -/
theorem rect_all {S : Shape} (h2 : S.rank = 2) (o : Fin S.rank → ℕ) (ho : ∀ a, o a = 0) (h : ∀ a, o a + S.size a ≤ S.size a) (x : (Rect.unit (s := S) o S.size h).shape.Idx) :
    (Rect.unit (s := S) o S.size h).emb x = x := by
  funext a
  exact Fin.ext (by show o a + 1 * (x a).val = (x a).val; rw [ho a]; omega)
theorem off2 (a : Fin 2) : (![0, 0] : Fin 2 → ℕ) a = 0 := by revert a; decide

abbrev wR (h : ∀ a, (![0, 0] : Fin 2 → ℕ) a + S512x2048.size a ≤ S512x2048.size a) : Rect S512x2048 := Rect.unit (s := S512x2048) ![0, 0] S512x2048.size h

/-! ## The stationary operand -/

theorem load_win (c : Dev nD) {h} {hl : wsW.view.LoadsAt (wR h).toLoadRect} {α : Type} {Q : α → sProp 𝕄} {k : (S512x2048.Idx → Elt F .f32) → Prog (TpuEff nD τ sig (Elt F) Λ₀ .tc) α} :
    win m c
      ⊢ iprop((win m c -∗ wp frame (wpE (defs₀ (F := F)) 𝒱₀ (c : Thread nD τ) none) Set.univ (k (wst m c)) Q)
          -∗ wp frame (wpE (defs₀ (F := F)) 𝒱₀ (c : Thread nD τ) none) Set.univ (.op (.load wsW (wR h).toLoadRect hl) k) Q) := by
  have e : (wsW.access (wR h)).read (Elt F) (wst m c) = wst m c := funext fun x => congrArg (wst m c) (rect_all rfl _ off2 h x)
  have H := wp_load_rect (defs := defs₀ (F := F)) (Γ := .nil) 𝒱₀ (c : Thread nD τ) none Set.univ (m := wsW) (r := wR h) (hl := hl) (k := k) (Q := Q) (q := fullShare)
    (S := Finset.univ) (f := wst m c) (Finset.subset_univ _)
  rw [e] at H
  exact H
theorem load_w16U (c : Dev nD) {h} {hl : w16W.view.LoadsAt (wR h).toLoadRect} {α : Type} {Q : α → sProp 𝕄} {k : (S512x2048.Idx → Elt F .bf16) → Prog (TpuEff nD τ sig (Elt F) Λ₀ .tc) α} :
    w16U c
      ⊢ iprop((iprop(∀ v, w16U c -∗ wp frame (wpE (defs₀ (F := F)) 𝒱₀ (c : Thread nD τ) none) Set.univ (k v) Q))
          -∗ wp frame (wpE (defs₀ (F := F)) 𝒱₀ (c : Thread nD τ) none) Set.univ (.op (.load w16W (wR h).toLoadRect hl) k) Q) := by
  unfold w16U
  iintro ⟨%f, H⟩ Hk
  iapply (wp_load_rect (defs := defs₀ (F := F)) 𝒱₀ (c : Thread nD τ) none Set.univ (m := w16W) (r := wR h) (S := Finset.univ) (f := f) (Finset.subset_univ _)) $$ [H]
  · iexact H
  iintro H
  iapply Hk
  iexists f; iexact H
theorem store_w16 (c : Dev nD) {h} {w : S512x2048.Idx → Elt F .bf16} (hw : w = W16 m c) {hx : (w16W.access (wR h)).Stores Finset.univ} {hm} {α : Type} {Q : α → sProp 𝕄} {k : PUnit → Prog (TpuEff nD τ sig (Elt F) Λ₀ .tc) α} :
    w16U c
      ⊢ iprop((w16V m c -∗ wp frame (wpE (defs₀ (F := F)) 𝒱₀ (c : Thread nD τ) none) Set.univ (k ⟨⟩) Q)
          -∗ wp frame (wpE (defs₀ (F := F)) 𝒱₀ (c : Thread nD τ) none) Set.univ (.op (.store w16W (wR h) w Finset.univ hx hm) k) Q) := by
  unfold w16U w16V
  iintro ⟨%f, H⟩ Hk
  iapply (wp_store (defs := defs₀ (F := F)) 𝒱₀ (c : Thread nD τ) none Set.univ (m := w16W) (r := wR h) (w := w) (Mk := Finset.univ) (S := Finset.univ) (f := f) (Finset.subset_univ _)) $$ [H]
  · iexact H
  have e : (((w16W.access (wR h)).loc (c : Thread nD τ) ↦[Finset.univ]{fullShare} (w16W.access (wR h)).write (Elt F) f w Finset.univ) : sProp 𝕄)
      = ((c : Thread nD τ).loc cc0_scratch4 ↦{fullShare} W16 m c) := by
    refine pointsTo_congr fun i _ => write_agree (w16W.access (wR h)) f (W16 m c) w ?_ i ?_
    · rw [hw]; exact funext fun x => congrArg (W16 m c) (rect_all rfl _ off2 h x)
    · rw [View.set_slice_whole, Rect.mem_set_unit]
      intro a; rw [off2]; exact ⟨Nat.zero_le _, by rw [Nat.zero_add]; exact (i a).isLt⟩
  rw [e]
  iexact Hk
theorem load_w16 (c : Dev nD) {h} {hl : w16W.view.LoadsAt (wR h).toLoadRect} {α : Type} {Q : α → sProp 𝕄} {k : (S512x2048.Idx → Elt F .bf16) → Prog (TpuEff nD τ sig (Elt F) Λ₀ .tc) α} :
    w16V m c
      ⊢ iprop((w16V m c -∗ wp frame (wpE (defs₀ (F := F)) 𝒱₀ (c : Thread nD τ) none) Set.univ (k (W16 m c)) Q)
          -∗ wp frame (wpE (defs₀ (F := F)) 𝒱₀ (c : Thread nD τ) none) Set.univ (.op (.load w16W (wR h).toLoadRect hl) k) Q) := by
  have e : (w16W.access (wR h)).read (Elt F) (W16 m c) = W16 m c := funext fun x => congrArg (W16 m c) (rect_all rfl _ off2 h x)
  have H := wp_load_rect (defs := defs₀ (F := F)) (Γ := .nil) 𝒱₀ (c : Thread nD τ) none Set.univ (m := w16W) (r := wR h) (hl := hl) (k := k) (Q := Q) (q := fullShare)
    (S := Finset.univ) (f := W16 m c) (Finset.subset_univ _)
  rw [e] at H
  exact H

/-! ## The row blocks of `x` -/

theorem x_copy (c : Dev nD) (p : Fin 2) (pn : ℕ) (hp : pn = p.val) (r : Fin 8) (w : BitVec 32) (hw : w = BitVec.ofNat 32 r.val) {h} {h'} {sX : DmaSem sig} (hS : sX = xS p)
    {hsrc : (xaW.slice (Rect.unit (s := S4096x512) (k0_off1 c w) S512x512.size h) (fun _ => rfl)).view.WordExact} {hdst : (halfM pn h').view.WordExact}
    {hsem : DmaTarget.Typed .hbm (.dma sX) (.here (halfM pn h') : DmaTarget nD τ sig (Proc.tc : Proc τ) .vmem S512x512 .f32)} {α : Type} {Q : α → sProp 𝕄} {k : PUnit → Prog (TpuEff nD τ sig (Elt F) Λ₀ .tc) α} :
    iprop(xArr m c ∗ xsU c p ∗ zx c p)
      ⊢ iprop((xFl m c p r -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (xaW.slice (Rect.unit (s := S4096x512) (k0_off1 c w) S512x512.size h) (fun _ => rfl)) (.here (halfM pn h')) (.dma sX) hsrc hdst hsem) k) Q) := by
  subst hp hw hS
  unfold xArr xsU zx xFl
  iintro ⟨Hx, ⟨%f, Hs⟩, Hz⟩ Hk
  ihave Hx := (pointsTo_split_subset (Finset.subset_univ (xM c r).view.set)).1 $$ Hx
  icases Hx with ⟨Hx, Hrest⟩
  iapply (Transfers.wp_dmaLocal EC 𝒱₀ (c : Thread nD τ) none (src := xM c r) (dst := halfM p.val h') (Sd := halfSet p) (fd := f) (fs := m ((c : Thread nD τ).loc main_arg0)) () NX rfl NX_pos (by rw [halfM_set])) $$ [Hx Hs Hz]
  · isplitl [Hx]; · iexact Hx
    isplitl [Hs]; · iexact Hs
    iexact Hz
  have e : (((halfM p.val h').view.loc (c : Thread nD τ) ↦[halfSet p]{fullShare} (halfM p.val h').view.write (Elt F) f (xrd m c r) Finset.univ) : sProp 𝕄)
      = ((c : Thread nD τ).loc cc0_scratch5 ↦[halfSet p]{fullShare} XB m c r) :=
    pointsTo_congr fun i hi => write_agree (halfM p.val h').view f (XB m c r) (xrd m c r) (halfM_read m p h' c r) i (by rw [halfM_set]; exact hi)
  iintro HF
  iapply Hk
  isplitl [HF]
  · rw [← e]; iexact HF
  iexact Hrest
theorem x_wait (c : Dev nD) (p : Fin 2) (r : Fin 8) (l : List X) {sp sp' : Space} {s s' : Shape} {e e' : EltTy}
    (sX : DmaSem sig) (hS : sX = xS p) {srcw : Memref sig .tc sp' s' e'} {dstw : Memref sig .tc sp s e}
    (hN : dstw.view.dmaCredit = NX) {hsrc : srcw.view.WordExact} {hdst : dstw.view.WordExact} {α : Type} {Q : α → sProp 𝕄} {k : PUnit → Prog (TpuEff nD τ sig (Elt F) Λ₀ .tc) α} :
    iprop(env m K ∗ xFl m c p r ∗ owesE c l)
      ⊢ iprop((iprop(xArr m c ∗ xsV m c p r ∗ zx c p ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sX srcw dstw hsrc hdst) k) Q) := by
  subst hS
  unfold xFl owesE xArr xsV zx
  iintro ⟨#He, ⟨HF, Hrest⟩, ⟨%W, Ho⟩⟩ Hk
  iapply (Transfers.wp_waitLocalO EC 𝒱₀ (c : Thread nD τ) none () hN) $$ [HF Ho]
  · isplitl [HF]; · iexact HF
    isplitl [Ho]; · iexact Ho
    iapply (mayWait_owedL c _ l 0 (by rw [cls_xS]; rfl) (fun y hy => by omega)); iapply (env_lev m K); iexact He
  iintro ⟨⟨Hs, Hx⟩, Hz, Ho⟩
  iapply Hk
  isplitl [Hx Hrest]
  · iapply (pointsTo_split_subset (Finset.subset_univ (xM c r).view.set)).2
    isplitl [Hx] <;> iassumption
  isplitl [Hs]; · iexact Hs
  isplitl [Hz]; · iexact Hz
  iexists _; iexact Ho
/-- Reading a block that has arrived; nothing reads it again. -/
theorem load_x (c : Dev nD) (p : Fin 2) (pn : ℕ) (hp : pn = p.val) (r : Fin 8) {h} {hl : xbW.view.LoadsAt (halfR pn h).toLoadRect} {α : Type} {Q : α → sProp 𝕄} {k : (S1x512x512.Idx → Elt F .f32) → Prog (TpuEff nD τ sig (Elt F) Λ₀ .tc) α} :
    xsV m c p r
      ⊢ iprop((xsU c p -∗ wp frame (wpE (defs₀ (F := F)) 𝒱₀ (c : Thread nD τ) none) Set.univ (k (xld m c r)) Q)
          -∗ wp frame (wpE (defs₀ (F := F)) 𝒱₀ (c : Thread nD τ) none) Set.univ (.op (.load xbW (halfR pn h).toLoadRect hl) k) Q) := by
  subst hp
  unfold xsV xsU
  have H := wp_load_rect (defs := defs₀ (F := F)) (Γ := .nil) 𝒱₀ (c : Thread nD τ) none Set.univ (m := xbW) (r := halfR p.val h) (hl := hl) (k := k) (Q := Q) (q := fullShare)
    (S := halfSet p) (f := XB m c r) (by rw [halfA_set])
  rw [halfA_read] at H
  iintro Hx Hk
  iapply H $$ [Hx]
  · iexact Hx
  iintro Hx
  iapply Hk
  iexists (XB m c r); iexact Hx

/-! ## The products -/

theorem load_row (c : Dev nD) (r : Fin 8) (rn : ℕ) (hr : rn = r.val) {h} {hl : accW.view.LoadsAt (rowR rn h).toLoadRect} {α : Type} {Q : α → sProp 𝕄} {k : (S1x512x2048.Idx → Elt F .bf16) → Prog (TpuEff nD τ sig (Elt F) Λ₀ .tc) α} :
    rowU c r
      ⊢ iprop((iprop(∀ v, rowU c r -∗ wp frame (wpE (defs₀ (F := F)) 𝒱₀ (c : Thread nD τ) none) Set.univ (k v) Q))
          -∗ wp frame (wpE (defs₀ (F := F)) 𝒱₀ (c : Thread nD τ) none) Set.univ (.op (.load accW (rowR rn h).toLoadRect hl) k) Q) := by
  subst hr
  unfold rowU
  iintro ⟨%f, H⟩ Hk
  iapply (wp_load_rect (defs := defs₀ (F := F)) 𝒱₀ (c : Thread nD τ) none Set.univ (m := accW) (r := rowR r.val h) (S := rowSet r) (f := f) (by rw [rowA_set])) $$ [H]
  · iexact H
  iintro H
  iapply Hk
  iexists f; iexact H

theorem row_pieces (r : Fin 8) : rowSet r = pieceSet r 0 ∪ (pieceSet r 1 ∪ pieceSet r 2) := by
  ext i
  rw [Finset.mem_union, Finset.mem_union, mem_rowSet, mem_pieceSet, mem_pieceSet, mem_pieceSet]
  have hg : ∀ g : Fin 3, g = 0 ∨ g = 1 ∨ g = 2 := by decide
  rcases hg (grp (i 2).val) with h | h | h <;> simp [h]
theorem piece_disj (r r' : Fin 8) (g g' : Fin 3) (h : r ≠ r' ∨ g ≠ g') : Disjoint (pieceSet r g) (pieceSet r' g') := by
  rw [Finset.disjoint_left]
  intro i hi hi'
  rw [mem_pieceSet] at hi hi'
  rcases h with h | h
  · exact h (Fin.ext (hi.1.symm.trans hi'.1))
  · exact h (hi.2.symm.trans hi'.2)

theorem store_row (c : Dev nD) (r : Fin 8) (rn : ℕ) (hr : rn = r.val) {h} {w : S1x512x2048.Idx → Elt F .bf16} (hw : w = dotv m c r)
    {hx : (accW.access (rowR rn h)).Stores Finset.univ} {hm} {α : Type} {Q : α → sProp 𝕄} {k : PUnit → Prog (TpuEff nD τ sig (Elt F) Λ₀ .tc) α} :
    rowU c r
      ⊢ iprop((iprop(accP m c r 0 0 ∗ accP m c r 1 0 ∗ accP m c r 2 0) -∗ wp frame (wpE (defs₀ (F := F)) 𝒱₀ (c : Thread nD τ) none) Set.univ (k ⟨⟩) Q)
          -∗ wp frame (wpE (defs₀ (F := F)) 𝒱₀ (c : Thread nD τ) none) Set.univ (.op (.store accW (rowR rn h) w Finset.univ hx hm) k) Q) := by
  subst hr
  unfold rowU accP
  iintro ⟨%f, H⟩ Hk
  iapply (wp_store (defs := defs₀ (F := F)) 𝒱₀ (c : Thread nD τ) none Set.univ (m := accW) (r := rowR r.val h) (w := w) (Mk := Finset.univ) (S := rowSet r) (f := f)
    (by show (accW.access (rowR r.val h)).set ⊆ _; rw [rowA_set])) $$ [H]
  · iexact H
  have e : (((accW.access (rowR r.val h)).loc (c : Thread nD τ) ↦[rowSet r]{fullShare} (accW.access (rowR r.val h)).write (Elt F) f w Finset.univ) : sProp 𝕄)
      = ((c : Thread nD τ).loc cc0_scratch0 ↦[pieceSet r 0 ∪ (pieceSet r 1 ∪ pieceSet r 2)]{fullShare} AB m 0 c) := by
    rw [← row_pieces]
    exact pointsTo_congr fun i hi => write_agree (accW.access (rowR r.val h)) f (AB m 0 c) w ((rowA_read m r h c).trans hw.symm) i (by rw [rowA_set]; exact hi)
  rw [e]
  iintro H
  ihave H := (pointsTo_union (by
    rw [Finset.disjoint_union_right]; exact ⟨piece_disj r r 0 1 (.inr (by decide)), piece_disj r r 0 2 (.inr (by decide))⟩)).1 $$ H
  icases H with ⟨H0, H⟩
  ihave H := (pointsTo_union (piece_disj r r 1 2 (.inr (by decide)))).1 $$ H
  icases H with ⟨H1, H2⟩
  iapply Hk
  isplitl [H0]; · iexact H0
  isplitl [H1]; · iexact H1
  iexact H2

/-! ## The result's columns of group 0 -/

abbrev obM0 (h : ∀ a, (![0, 0] : Fin 2 → ℕ) a + S512x768.size a ≤ S512x2048.size a) : Memref sig .tc .vmem S512x768 .f32 := obW.slice (colR0 h) (fun _ => rfl)
abbrev oaM0 (h : ∀ a, (![0, 0] : Fin 2 → ℕ) a + S512x768.size a ≤ S512x2048.size a) : Memref sig .tc .hbm S512x768 .f32 := oaW.slice (colR0 h) (fun _ => rfl)

theorem load_ob0 (c : Dev nD) {h} {hl : obW.view.LoadsAt (colR0 h).toLoadRect} {α : Type} {Q : α → sProp 𝕄} {k : (S512x768.Idx → Elt F .f32) → Prog (TpuEff nD τ sig (Elt F) Λ₀ .tc) α} :
    obU c 0
      ⊢ iprop((iprop(∀ v, obU c 0 -∗ wp frame (wpE (defs₀ (F := F)) 𝒱₀ (c : Thread nD τ) none) Set.univ (k v) Q))
          -∗ wp frame (wpE (defs₀ (F := F)) 𝒱₀ (c : Thread nD τ) none) Set.univ (.op (.load obW (colR0 h).toLoadRect hl) k) Q) := by
  unfold obU
  iintro ⟨%f, H⟩ Hk
  iapply (wp_load_rect (defs := defs₀ (F := F)) 𝒱₀ (c : Thread nD τ) none Set.univ (m := obW) (r := colR0 h) (S := colSet 0) (f := f) (by rw [obA0_set])) $$ [H]
  · iexact H
  iintro H
  iapply Hk
  iexists f; iexact H
theorem store_ob0 (c : Dev nD) {h} {w : S512x768.Idx → Elt F .f32} (hw : w = (obW.access (colR0 h)).read (Elt F) (OB m c))
    {hx : (obW.access (colR0 h)).Stores Finset.univ} {hm} {α : Type} {Q : α → sProp 𝕄} {k : PUnit → Prog (TpuEff nD τ sig (Elt F) Λ₀ .tc) α} :
    obU c 0
      ⊢ iprop((obV m c 0 -∗ wp frame (wpE (defs₀ (F := F)) 𝒱₀ (c : Thread nD τ) none) Set.univ (k ⟨⟩) Q)
          -∗ wp frame (wpE (defs₀ (F := F)) 𝒱₀ (c : Thread nD τ) none) Set.univ (.op (.store obW (colR0 h) w Finset.univ hx hm) k) Q) := by
  unfold obU obV
  iintro ⟨%f, H⟩ Hk
  iapply (wp_store (defs := defs₀ (F := F)) 𝒱₀ (c : Thread nD τ) none Set.univ (m := obW) (r := colR0 h) (w := w) (Mk := Finset.univ) (S := colSet 0) (f := f)
    (by show (obW.access (colR0 h)).set ⊆ _; rw [obA0_set])) $$ [H]
  · iexact H
  have e : (((obW.access (colR0 h)).loc (c : Thread nD τ) ↦[colSet 0]{fullShare} (obW.access (colR0 h)).write (Elt F) f w Finset.univ) : sProp 𝕄)
      = ((c : Thread nD τ).loc cc0_scratch6 ↦[colSet 0]{fullShare} OB m c) :=
    pointsTo_congr fun i hi => write_agree (obW.access (colR0 h)) f (OB m c) w hw.symm i (by rw [obA0_set]; exact hi)
  rw [e]
  iexact Hk
theorem out_copy0 (c : Dev nD) {h} {h'} {sO : DmaSem sig} (hS : sO = oS 0)
    {hsrc : (obM0 h).view.WordExact} {hdst : (oaM0 h').view.WordExact}
    {hsem : DmaTarget.Typed .vmem (.dma sO) (.here (oaM0 h') : DmaTarget nD τ sig (Proc.tc : Proc τ) .hbm S512x768 .f32)} {α : Type} {Q : α → sProp 𝕄} {k : PUnit → Prog (TpuEff nD τ sig (Elt F) Λ₀ .tc) α} :
    iprop(obV m c 0 ∗ ovU c 0 ∗ zo c 0)
      ⊢ iprop((oFl m c 0 -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (obM0 h) (.here (oaM0 h')) (.dma sO) hsrc hdst hsem) k) Q) := by
  subst hS
  unfold obV ovU zo oFl
  iintro ⟨Hx, ⟨%f, Hs⟩, Hz⟩ Hk
  iapply (Transfers.wp_dmaLocal EC 𝒱₀ (c : Thread nD τ) none (src := obM0 h) (dst := oaM0 h') (Sd := colSet 0) (fd := f) (fs := OB m c) () (NO 0) rfl (NO_pos 0)
      (by show (oaW.access (colR0 h')).set ⊆ _; rw [oaA0_set])) $$ [Hx Hs Hz]
  · isplitl [Hx]
    · rw [show (obM0 h).view.set = colSet 0 from obA0_set h]; iexact Hx
    isplitl [Hs]; · iexact Hs
    iexact Hz
  have e : (((oaM0 h').view.loc (c : Thread nD τ) ↦[colSet 0]{fullShare} (oaM0 h').view.write (Elt F) f ((obW.access (colR0 h)).read (Elt F) (OB m c)) Finset.univ) : sProp 𝕄)
      = ((c : Thread nD τ).loc main_v1 ↦[colSet 0]{fullShare} OB m c) :=
    pointsTo_congr fun i hi => write_agree (oaM0 h').view f (OB m c) ((obW.access (colR0 h)).read (Elt F) (OB m c)) rfl i (by rw [show (oaM0 h').view.set = colSet 0 from oaA0_set h']; exact hi)
  rw [show (obM0 h).view.set = colSet 0 from obA0_set h]
  iintro HF
  iapply Hk
  rw [← e]; iexact HF

/-! ## The result's columns of group 1 -/

abbrev obM1 (h : ∀ a, (![0, 768] : Fin 2 → ℕ) a + S512x640.size a ≤ S512x2048.size a) : Memref sig .tc .vmem S512x640 .f32 := obW.slice (colR1 h) (fun _ => rfl)
abbrev oaM1 (h : ∀ a, (![0, 768] : Fin 2 → ℕ) a + S512x640.size a ≤ S512x2048.size a) : Memref sig .tc .hbm S512x640 .f32 := oaW.slice (colR1 h) (fun _ => rfl)

theorem load_ob1 (c : Dev nD) {h} {hl : obW.view.LoadsAt (colR1 h).toLoadRect} {α : Type} {Q : α → sProp 𝕄} {k : (S512x640.Idx → Elt F .f32) → Prog (TpuEff nD τ sig (Elt F) Λ₀ .tc) α} :
    obU c 1
      ⊢ iprop((iprop(∀ v, obU c 1 -∗ wp frame (wpE (defs₀ (F := F)) 𝒱₀ (c : Thread nD τ) none) Set.univ (k v) Q))
          -∗ wp frame (wpE (defs₀ (F := F)) 𝒱₀ (c : Thread nD τ) none) Set.univ (.op (.load obW (colR1 h).toLoadRect hl) k) Q) := by
  unfold obU
  iintro ⟨%f, H⟩ Hk
  iapply (wp_load_rect (defs := defs₀ (F := F)) 𝒱₀ (c : Thread nD τ) none Set.univ (m := obW) (r := colR1 h) (S := colSet 1) (f := f) (by rw [obA1_set])) $$ [H]
  · iexact H
  iintro H
  iapply Hk
  iexists f; iexact H
theorem store_ob1 (c : Dev nD) {h} {w : S512x640.Idx → Elt F .f32} (hw : w = (obW.access (colR1 h)).read (Elt F) (OB m c))
    {hx : (obW.access (colR1 h)).Stores Finset.univ} {hm} {α : Type} {Q : α → sProp 𝕄} {k : PUnit → Prog (TpuEff nD τ sig (Elt F) Λ₀ .tc) α} :
    obU c 1
      ⊢ iprop((obV m c 1 -∗ wp frame (wpE (defs₀ (F := F)) 𝒱₀ (c : Thread nD τ) none) Set.univ (k ⟨⟩) Q)
          -∗ wp frame (wpE (defs₀ (F := F)) 𝒱₀ (c : Thread nD τ) none) Set.univ (.op (.store obW (colR1 h) w Finset.univ hx hm) k) Q) := by
  unfold obU obV
  iintro ⟨%f, H⟩ Hk
  iapply (wp_store (defs := defs₀ (F := F)) 𝒱₀ (c : Thread nD τ) none Set.univ (m := obW) (r := colR1 h) (w := w) (Mk := Finset.univ) (S := colSet 1) (f := f)
    (by show (obW.access (colR1 h)).set ⊆ _; rw [obA1_set])) $$ [H]
  · iexact H
  have e : (((obW.access (colR1 h)).loc (c : Thread nD τ) ↦[colSet 1]{fullShare} (obW.access (colR1 h)).write (Elt F) f w Finset.univ) : sProp 𝕄)
      = ((c : Thread nD τ).loc cc0_scratch6 ↦[colSet 1]{fullShare} OB m c) :=
    pointsTo_congr fun i hi => write_agree (obW.access (colR1 h)) f (OB m c) w hw.symm i (by rw [obA1_set]; exact hi)
  rw [e]
  iexact Hk
theorem out_copy1 (c : Dev nD) {h} {h'} {sO : DmaSem sig} (hS : sO = oS 1)
    {hsrc : (obM1 h).view.WordExact} {hdst : (oaM1 h').view.WordExact}
    {hsem : DmaTarget.Typed .vmem (.dma sO) (.here (oaM1 h') : DmaTarget nD τ sig (Proc.tc : Proc τ) .hbm S512x640 .f32)} {α : Type} {Q : α → sProp 𝕄} {k : PUnit → Prog (TpuEff nD τ sig (Elt F) Λ₀ .tc) α} :
    iprop(obV m c 1 ∗ ovU c 1 ∗ zo c 1)
      ⊢ iprop((oFl m c 1 -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (obM1 h) (.here (oaM1 h')) (.dma sO) hsrc hdst hsem) k) Q) := by
  subst hS
  unfold obV ovU zo oFl
  iintro ⟨Hx, ⟨%f, Hs⟩, Hz⟩ Hk
  iapply (Transfers.wp_dmaLocal EC 𝒱₀ (c : Thread nD τ) none (src := obM1 h) (dst := oaM1 h') (Sd := colSet 1) (fd := f) (fs := OB m c) () (NO 1) rfl (NO_pos 1)
      (by show (oaW.access (colR1 h')).set ⊆ _; rw [oaA1_set])) $$ [Hx Hs Hz]
  · isplitl [Hx]
    · rw [show (obM1 h).view.set = colSet 1 from obA1_set h]; iexact Hx
    isplitl [Hs]; · iexact Hs
    iexact Hz
  have e : (((oaM1 h').view.loc (c : Thread nD τ) ↦[colSet 1]{fullShare} (oaM1 h').view.write (Elt F) f ((obW.access (colR1 h)).read (Elt F) (OB m c)) Finset.univ) : sProp 𝕄)
      = ((c : Thread nD τ).loc main_v1 ↦[colSet 1]{fullShare} OB m c) :=
    pointsTo_congr fun i hi => write_agree (oaM1 h').view f (OB m c) ((obW.access (colR1 h)).read (Elt F) (OB m c)) rfl i (by rw [show (oaM1 h').view.set = colSet 1 from oaA1_set h']; exact hi)
  rw [show (obM1 h).view.set = colSet 1 from obA1_set h]
  iintro HF
  iapply Hk
  rw [← e]; iexact HF

/-! ## The result's columns of group 2 -/

abbrev obM2 (h : ∀ a, (![0, 1408] : Fin 2 → ℕ) a + S512x640.size a ≤ S512x2048.size a) : Memref sig .tc .vmem S512x640 .f32 := obW.slice (colR2 h) (fun _ => rfl)
abbrev oaM2 (h : ∀ a, (![0, 1408] : Fin 2 → ℕ) a + S512x640.size a ≤ S512x2048.size a) : Memref sig .tc .hbm S512x640 .f32 := oaW.slice (colR2 h) (fun _ => rfl)

theorem load_ob2 (c : Dev nD) {h} {hl : obW.view.LoadsAt (colR2 h).toLoadRect} {α : Type} {Q : α → sProp 𝕄} {k : (S512x640.Idx → Elt F .f32) → Prog (TpuEff nD τ sig (Elt F) Λ₀ .tc) α} :
    obU c 2
      ⊢ iprop((iprop(∀ v, obU c 2 -∗ wp frame (wpE (defs₀ (F := F)) 𝒱₀ (c : Thread nD τ) none) Set.univ (k v) Q))
          -∗ wp frame (wpE (defs₀ (F := F)) 𝒱₀ (c : Thread nD τ) none) Set.univ (.op (.load obW (colR2 h).toLoadRect hl) k) Q) := by
  unfold obU
  iintro ⟨%f, H⟩ Hk
  iapply (wp_load_rect (defs := defs₀ (F := F)) 𝒱₀ (c : Thread nD τ) none Set.univ (m := obW) (r := colR2 h) (S := colSet 2) (f := f) (by rw [obA2_set])) $$ [H]
  · iexact H
  iintro H
  iapply Hk
  iexists f; iexact H
theorem store_ob2 (c : Dev nD) {h} {w : S512x640.Idx → Elt F .f32} (hw : w = (obW.access (colR2 h)).read (Elt F) (OB m c))
    {hx : (obW.access (colR2 h)).Stores Finset.univ} {hm} {α : Type} {Q : α → sProp 𝕄} {k : PUnit → Prog (TpuEff nD τ sig (Elt F) Λ₀ .tc) α} :
    obU c 2
      ⊢ iprop((obV m c 2 -∗ wp frame (wpE (defs₀ (F := F)) 𝒱₀ (c : Thread nD τ) none) Set.univ (k ⟨⟩) Q)
          -∗ wp frame (wpE (defs₀ (F := F)) 𝒱₀ (c : Thread nD τ) none) Set.univ (.op (.store obW (colR2 h) w Finset.univ hx hm) k) Q) := by
  unfold obU obV
  iintro ⟨%f, H⟩ Hk
  iapply (wp_store (defs := defs₀ (F := F)) 𝒱₀ (c : Thread nD τ) none Set.univ (m := obW) (r := colR2 h) (w := w) (Mk := Finset.univ) (S := colSet 2) (f := f)
    (by show (obW.access (colR2 h)).set ⊆ _; rw [obA2_set])) $$ [H]
  · iexact H
  have e : (((obW.access (colR2 h)).loc (c : Thread nD τ) ↦[colSet 2]{fullShare} (obW.access (colR2 h)).write (Elt F) f w Finset.univ) : sProp 𝕄)
      = ((c : Thread nD τ).loc cc0_scratch6 ↦[colSet 2]{fullShare} OB m c) :=
    pointsTo_congr fun i hi => write_agree (obW.access (colR2 h)) f (OB m c) w hw.symm i (by rw [obA2_set]; exact hi)
  rw [e]
  iexact Hk
theorem out_copy2 (c : Dev nD) {h} {h'} {sO : DmaSem sig} (hS : sO = oS 2)
    {hsrc : (obM2 h).view.WordExact} {hdst : (oaM2 h').view.WordExact}
    {hsem : DmaTarget.Typed .vmem (.dma sO) (.here (oaM2 h') : DmaTarget nD τ sig (Proc.tc : Proc τ) .hbm S512x640 .f32)} {α : Type} {Q : α → sProp 𝕄} {k : PUnit → Prog (TpuEff nD τ sig (Elt F) Λ₀ .tc) α} :
    iprop(obV m c 2 ∗ ovU c 2 ∗ zo c 2)
      ⊢ iprop((oFl m c 2 -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (obM2 h) (.here (oaM2 h')) (.dma sO) hsrc hdst hsem) k) Q) := by
  subst hS
  unfold obV ovU zo oFl
  iintro ⟨Hx, ⟨%f, Hs⟩, Hz⟩ Hk
  iapply (Transfers.wp_dmaLocal EC 𝒱₀ (c : Thread nD τ) none (src := obM2 h) (dst := oaM2 h') (Sd := colSet 2) (fd := f) (fs := OB m c) () (NO 2) rfl (NO_pos 2)
      (by show (oaW.access (colR2 h')).set ⊆ _; rw [oaA2_set])) $$ [Hx Hs Hz]
  · isplitl [Hx]
    · rw [show (obM2 h).view.set = colSet 2 from obA2_set h]; iexact Hx
    isplitl [Hs]; · iexact Hs
    iexact Hz
  have e : (((oaM2 h').view.loc (c : Thread nD τ) ↦[colSet 2]{fullShare} (oaM2 h').view.write (Elt F) f ((obW.access (colR2 h)).read (Elt F) (OB m c)) Finset.univ) : sProp 𝕄)
      = ((c : Thread nD τ).loc main_v1 ↦[colSet 2]{fullShare} OB m c) :=
    pointsTo_congr fun i hi => write_agree (oaM2 h').view f (OB m c) ((obW.access (colR2 h)).read (Elt F) (OB m c)) rfl i (by rw [show (oaM2 h').view.set = colSet 2 from oaA2_set h']; exact hi)
  rw [show (obM2 h).view.set = colSet 2 from obA2_set h]
  iintro HF
  iapply Hk
  rw [← e]; iexact HF

theorem out_wait (c : Dev nD) (g : Fin 3) (l : List X) {sp sp' : Space} {s s' : Shape} {e e' : EltTy}
    (sO : DmaSem sig) (hS : sO = oS g) {srcw : Memref sig .tc sp' s' e'} {dstw : Memref sig .tc sp s e}
    (hN : dstw.view.dmaCredit = NO g) {hsrc : srcw.view.WordExact} {hdst : dstw.view.WordExact} {α : Type} {Q : α → sProp 𝕄} {k : PUnit → Prog (TpuEff nD τ sig (Elt F) Λ₀ .tc) α} :
    iprop(env m K ∗ oFl m c g ∗ owesE c l)
      ⊢ iprop((iprop(ovV m c g ∗ obV m c g ∗ zo c g ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sO srcw dstw hsrc hdst) k) Q) := by
  subst hS
  unfold oFl owesE ovV obV zo
  iintro ⟨#He, HF, ⟨%W, Ho⟩⟩ Hk
  iapply (Transfers.wp_waitLocalO EC 𝒱₀ (c : Thread nD τ) none () hN) $$ [HF Ho]
  · isplitl [HF]; · iexact HF
    isplitl [Ho]; · iexact Ho
    iapply (mayWait_owedL c _ l 0 (by rw [cls_oS]; rfl) (fun y hy => by omega)); iapply (env_lev m K); iexact He
  iintro ⟨⟨Hv, Hb⟩, Hz, Ho⟩
  iapply Hk
  isplitl [Hv]; · iexact Hv
  isplitl [Hb]; · iexact Hb
  isplitl [Hz]; · iexact Hz
  iexists _; iexact Ho

/-! ## The barrier -/

/-- The transfers by their masks. -/
theorem bigSep_masks (Φ : X → sProp 𝕄) :
    bigSep Finset.univ Φ = iprop((bigSep (Finset.univ.filter fun x : X => mi x = 0) Φ) ∗ (bigSep (Finset.univ.filter fun x : X => mi x = 1) Φ)
      ∗ bigSep (Finset.univ.filter fun x : X => mi x = 2) Φ) := by
  have h : (Finset.univ : Finset X) = (Finset.univ.filter fun x : X => mi x = 0) ∪ ((Finset.univ.filter fun x : X => mi x = 1) ∪ Finset.univ.filter fun x : X => mi x = 2) := by decide
  refine (congrArg (fun s => bigSep s Φ) h).trans ?_
  rw [bigSep_union (by decide), bigSep_union (by decide)]
  rfl

/-- Signalling the partner under mask `i`: the landing slots of the transfers it sends here. -/
theorem signal (c d : Dev nD) (i : Fin 3) (n : ℕ) (hd : d = peer i c) (hn : n = 1) (O : CellTallies nD τ sig Unit) {W : Waits sig Unit} {α : Type} {Q : α → sProp 𝕄} {k : PUnit → Prog (TpuEff nD τ sig (Elt F) Λ₀ .tc) α} :
    iprop(env m K ∗ (bigSep (Finset.univ.filter fun x : X => mi x = i) fun x => slotE c x) ∗ dutyTok ER (barCell (peer i c)) 0 i ∗ owes (c : Thread nD τ) (O + tallyAt (barCell (peer i c)) () 1) W)
      ⊢ iprop((owes (c : Thread nD τ) O W -∗ wp frame (wpE (defs₀ (F := F)) 𝒱₀ (c : Thread nD τ) none) Set.univ (k ⟨⟩) Q)
          -∗ wp frame (wpE (defs₀ (F := F)) 𝒱₀ (c : Thread nD τ) none) Set.univ (.op (.semSignal (d : Thread nD τ) barS n) k) Q) := by
  subst hd hn
  iintro ⟨#He, Hs, Ht, Ho⟩ Hk
  iapply (Rounds.wp_signal 𝒱₀ ER (rd m) (c : Thread nD τ) none (dst := (peer i c : Thread nD τ)) (κ := K (peer i c, none))
      (d := i) (by rw [duties_bar]; exact Finset.mem_univ _) (amount_bar m (peer i c) i) () O rfl) $$ [Ho Ht Hs]
  · isplitr; · iapply (env_inv m K (peer i c, none)); iexact He
    isplitl [Ho]; · iexact Ho
    isplitl [Ht]; · iexact Ht
    isplitl [Hs]
    · rw [payload_bar]; unfold barPay; rw [peer_peer]; iexact Hs
    iapply (env_reached m K (peer i c, none)); iexact He
  iexact Hk

/-- Waiting for the three partners: their landing slots. -/
theorem bar_wait (c : Dev nD) (n : ℕ) (hn : n = 3) {α : Type} {Q : α → sProp 𝕄} {k : PUnit → Prog (TpuEff nD τ sig (Elt F) Λ₀ .tc) α} :
    iprop(env m K ∗ cred (tallyAt (barCell c) () 3) ∗ atPos ER (barCell c) 0 ∅ 0 ∗ owesE c sendOrder)
      ⊢ iprop((iprop((bigSep Finset.univ fun x : X => slotE (peer (mi x) c) x) ∗ semVal (barCell c) 0 ∗ owesE c sendOrder) -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS n) k) Q) := by
  subst hn
  unfold owesE
  iintro ⟨#He, Hc, Hat, ⟨%W, Ho⟩⟩ Hk
  ihave #Hi := (env_inv m K (c, none)) $$ He
  iapply (Rounds.wp_wait_rest_token 𝒱₀ ER (rd m) (c : Thread nD τ) none (κ := K (c, none))
      (wpE_semWait_eq 𝒱₀ (c : Thread nD τ) none Set.univ) (Set.mem_univ _) () (O := owedL sendOrder c) (W := W) (R := 0) (m := 0) (T := ∅)
      (by rw [expect_bar])) $$ [Hc Ho Hat]
  · isplitr; · iexact Hi
    isplitl [Hc]; · iexact Hc
    isplitl [Ho]; · iexact Ho
    isplitr
    · iapply (mayWait_owedL c _ sendOrder 1 (by rw [cls_bar]; rfl) (fun y hy => by omega)); iapply (env_lev m K); iexact He
    iexact Hat
  iintro ⟨Ho, Hat, -, Hp⟩
  ihave Hp := (Entails.of_eq (rest_bar m c)) $$ Hp
  imod (Rounds.cell_close ER (rd m) (g := barCell c) (κ := K (c, none)) (Set.mem_univ _) (fun h => h) (R := 1) (fun r hr => duties_later m _ r hr)) $$ [Hat] with Hz
  · isplitr; · iexact Hi
    iexact Hat
  iapply Hk
  isplitl [Hp]
  · have e (i : Fin 3) : (barPay c i : sProp 𝕄) = bigSep (Finset.univ.filter fun x : X => mi x = i) fun x => slotE (peer (mi x) c) x :=
      bigSep_congr fun x hx => by rw [(Finset.mem_filter.mp hx).2]
    rw [bigSep_masks, ← e, ← e, ← e]; iexact Hp
  isplitl [Hz]; · iexact Hz
  iexists _; iexact Ho

end Cert.Butterfly
-- ==== Proof.Steps.lean ====
/-
# The steps of a transfer

One rule per operation the transfers between devices use: sending, waiting for an arrival or a departure, reading the
two summands, storing the sum.
-/
module

public import proofs.«01_k».proof.Proof.Atoms

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ)

/-- Waiting for an arrival: the slot, holding what was sent. -/
theorem recv_wait (c : Dev nD) (x : X) (l : List X) (hl : ∀ y ∈ l, ph x.2 < ph y.2) {sp sp' : Space} {s s' : Shape} {e e' : EltTy}
    (sR : DmaSem sig) (hR : sR = recvS x) {srcw : Memref sig .tc sp' s' e'} {dstw : Memref sig .tc sp s e}
    (hN : dstw.view.dmaCredit = crd x.1) {hsrc : srcw.view.WordExact} {hdst : dstw.view.WordExact}
    {α : Type} {Q : α → sProp 𝕄} {k : PUnit → Prog (TpuEff nD τ sig (Elt F) Λ₀ .tc) α} :
    iprop(env m K ∗ rv c x ∗ owesE c l)
      ⊢ iprop((iprop(slotV m c x ∗ zr c x ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sR srcw dstw hsrc hdst) k) Q) := by
  subst hR
  unfold rv owesE zr
  iintro ⟨#He, ⟨Hc, Hat⟩, ⟨%W, Ho⟩⟩ Hk
  ihave #Hi := (env_inv m K (c, some (true, x))) $$ He
  iapply (Rounds.wp_wait_rest_token 𝒱₀ ER (rd m) (c : Thread nD τ) none (κ := K (c, some (true, x)))
      (wpE_waitDma2_eq 𝒱₀ (c : Thread nD τ) none Set.univ) (Set.mem_univ _) () (O := owedL l c) (W := W) (R := 0) (m := 0) (T := ∅)
      (by rw [Nat.zero_add, hN]; exact (expect_recv m c x).symm)) $$ [Hc Ho Hat]
  · isplitr; · iexact Hi
    isplitl [Hc]; · rw [hN]; iexact Hc
    isplitl [Ho]; · iexact Ho
    isplitr
    · iapply (mayWait_owedL c _ l (2 + ph x.2) (by rw [cls_recv]; rfl) (fun y hy => Nat.add_lt_add_left (hl y hy) 2)); iapply (env_lev m K); iexact He
    iexact Hat
  iintro ⟨Ho, Hat, -, Hp⟩
  ihave Hp := (Entails.of_eq (rest_recv m c x)) $$ Hp
  imod (Rounds.cell_close ER (rd m) (g := recvCell c x) (κ := K (c, some (true, x))) (Set.mem_univ _) (fun h => h) (R := 1) (fun r hr => duties_later m _ r hr)) $$ [Hat] with Hz
  · isplitr; · iexact Hi
    iexact Hat
  iapply Hk
  isplitl [Hp]; · iexact Hp
  isplitl [Hz]; · iexact Hz
  iexists (insert (SemLoc.dma (recvS x), ()) W); iexact Ho

/-- Waiting for a departure: the piece that was sent comes back. -/
theorem send_wait (c : Dev nD) (x : X) (l : List X) {sp sp' : Space} {s s' : Shape} {e e' : EltTy}
    (sS : DmaSem sig) (hS : sS = sendS x) {srcw : Memref sig .tc sp' s' e'} {dstw : Memref sig .tc sp s e}
    (hN : dstw.view.dmaCredit = crd x.1) {hsrc : srcw.view.WordExact} {hdst : dstw.view.WordExact}
    {α : Type} {Q : α → sProp 𝕄} {k : PUnit → Prog (TpuEff nD τ sig (Elt F) Λ₀ .tc) α} :
    iprop(env m K ∗ sn c x ∗ owesE c l)
      ⊢ iprop((iprop(accP m c (srow x) x.1 (ph x.2) ∗ zs c x ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS srcw dstw hsrc hdst) k) Q) := by
  subst hS
  unfold sn owesE zs
  iintro ⟨#He, ⟨Hc, Hat⟩, ⟨%W, Ho⟩⟩ Hk
  ihave #Hi := (env_inv m K (c, some (false, x))) $$ He
  iapply (Rounds.wp_wait_rest_token 𝒱₀ ER (rd m) (c : Thread nD τ) none (κ := K (c, some (false, x)))
      (wpE_waitDma2_eq 𝒱₀ (c : Thread nD τ) none Set.univ) (Set.mem_univ _) () (O := owedL l c) (W := W) (R := 0) (m := 0) (T := ∅)
      (by rw [Nat.zero_add, hN]; exact (expect_send m c x).symm)) $$ [Hc Ho Hat]
  · isplitr; · iexact Hi
    isplitl [Hc]; · rw [hN]; iexact Hc
    isplitl [Ho]; · iexact Ho
    isplitr
    · iapply (mayWait_owedL c _ l 0 (by rw [cls_send]; rfl) (fun y hy => by omega)); iapply (env_lev m K); iexact He
    iexact Hat
  iintro ⟨Ho, Hat, -, Hp⟩
  ihave Hp := (Entails.of_eq (rest_send m c x)) $$ Hp
  imod (Rounds.cell_close ER (rd m) (g := sendCell c x) (κ := K (c, some (false, x))) (Set.mem_univ _) (fun h => h) (R := 1) (fun r hr => duties_later m _ r hr)) $$ [Hat] with Hz
  · isplitr; · iexact Hi
    iexact Hat
  iapply Hk
  isplitl [Hp]; · iexact Hp
  isplitl [Hz]; · iexact Hz
  iexists (insert (SemLoc.dma (sendS x), ()) W); iexact Ho

/-! ## Group 0 -/

theorem credit0 (j : ℕ) (h) : (stM0 j h).view.dmaCredit = crd 0 := rfl
theorem acredit0 (r : ℕ) (h) : (accM0 r h).view.dmaCredit = crd 0 := rfl

/-- Sending: the piece goes into the partner's slot. -/
theorem send0 (c d : Dev nD) (j : Fin 7) (jn r : ℕ) (l : List X) (hd : d = peer (mi (0, j)) c) (hj : jn = j.val) (hr : r = (srow (0, j)).val)
    {h} {h'} {sS sR : DmaSem sig} (hS : sS = sendS (0, j)) (hR : sR = recvS (0, j))
    {hsc : (stM0 jn h' : Memref sig (Dev.tc d : Thread nD τ).2.kind .vmem S512x768 .bf16).view.ref.isScScratch = false}
    {hsrc : (accM0 r h).view.WordExact} {hdst : (stM0 jn h').view.WordExact}
    {hsem : DmaTarget.Typed .vmem (.dma sR) (.remote (Dev.tc d : Thread nD τ) (stM0 jn h') (.dma sS) hsc)}
    {α : Type} {Q : α → sProp 𝕄} {k : PUnit → Prog (TpuEff nD τ sig (Elt F) Λ₀ .tc) α} :
    iprop(env m K ∗ sd c (0, j) ∗ accP m c (srow (0, j)) 0 (ph j) ∗ owesE c ((0, j) :: l))
      ⊢ iprop((iprop(sn c (0, j) ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (accM0 r h) (.remote (Dev.tc d : Thread nD τ) (stM0 jn h') (.dma sS) hsc) (.dma sR) hsrc hdst hsem) k) Q) := by
  subst hd hj hr hS hR
  unfold sd sn owesE accP
  iintro ⟨#He, ⟨Hsl, Ht1, Ht2, Hat⟩, Ha, ⟨%W, Ho⟩⟩ Hk
  ihave #Hi1 := (env_inv m K (c, some (false, (0, j)))) $$ He
  ihave #Hi2 := (env_inv m K (peer (mi (0, j)) c, some (true, (0, j)))) $$ He
  ihave #Hr1 := (env_reached m K (c, some (false, (0, j)))) $$ He
  ihave #Hr2 := (env_reached m K (peer (mi (0, j)) c, some (true, (0, j)))) $$ He
  ihave Hsl := (show slotE (F := F) (peer (mi (0, j)) c) (0, j) ⊢ iprop(∃ f, (stM0 j.val h').view.loc (peer (mi (0, j)) c : Thread nD τ) ↦[(stM0 j.val h').view.set]{fullShare} f)
    from by rw [stM0_set]; exact BI.Entails.refl _) $$ Hsl
  icases Hsl with ⟨%f, Hsl⟩
  ihave Ha := (show (((c : Thread nD τ).loc cc0_scratch0) ↦[pieceSet (srow (0, j)) 0]{fullShare} AB m (ph j) c : sProp 𝕄)
      ⊢ ((accM0 (srow (0, j)).val h).view.loc (c : Thread nD τ) ↦[(accM0 (srow (0, j)).val h).view.set]{fullShare} AB m (ph j) c)
    from by rw [accM0_set]) $$ Ha
  iapply (Rounds.wp_send_pointsTo 𝒱₀ ER (rd m) (c : Thread nD τ) none (κ₁ := K (c, some (false, (0, j)))) (κ₂ := K (peer (mi (0, j)) c, some (true, (0, j))))
    (r₁ := 0) (r₂ := 0) (d₁ := 0) (d₂ := 0) (fd := f) (fs := AB m (ph j) c)
    (by rw [duties_send]; exact Finset.mem_singleton_self _) (by rw [duties_recv]; exact Finset.mem_singleton_self _)
    () () (crd 0) rfl (amount_send m c (0, j) 0) (amount_recv m _ (0, j) 0) (owedL l c) rfl (W := W)
    (by rw [payload_send]; unfold accP; rw [accM0_set])
    (by
      rw [payload_recv]
      show _ ⊢ slotV0 m _ j
      unfold slotV0
      rw [pointsTo_congr (write_agree _ _ _ _ (land0 m j h' h c)), stM0_set])) $$ [Hsl Ha Ho Ht1 Ht2]
  · isplitr; · iexact Hi1
    isplitr; · iexact Hi2
    isplitl [Ha]; · iexact Ha
    isplitl [Hsl]; · iexact Hsl
    isplitl [Ho]; · iexact Ho
    isplitl [Ht1]; · iexact Ht1
    isplitr; · iexact Hr1
    isplitl [Ht2]; · iexact Ht2
    iexact Hr2
  iintro ⟨Hc, Ho⟩
  iapply Hk
  isplitl [Hc Hat]
  · isplitl [Hc]; · iexact Hc
    iexact Hat
  iexists W; iexact Ho

/-- Reading a piece of the accumulator; -/
theorem load_acc0 (c : Dev nD) (r : Fin 8) (p : ℕ) (rn : ℕ) (hr : rn = r.val) {h}
    {hl : accW.view.LoadsAt (accR0 rn h).toLoadRect} {α : Type} {Q : α → sProp 𝕄} {k : (S1x512x768.Idx → Elt F .bf16) → Prog (TpuEff nD τ sig (Elt F) Λ₀ .tc) α} :
    accP m c r 0 p
      ⊢ iprop((accP m c r 0 p -∗ wp frame (wpE (defs₀ (F := F)) 𝒱₀ (c : Thread nD τ) none) Set.univ (k ((accW.access (accR0 rn h)).read (Elt F) (AB m p c))) Q)
          -∗ wp frame (wpE (defs₀ (F := F)) 𝒱₀ (c : Thread nD τ) none) Set.univ (.op (.load accW (accR0 rn h).toLoadRect hl) k) Q) := by
  subst hr
  unfold accP
  exact wp_load_rect 𝒱₀ (c : Thread nD τ) none Set.univ (m := accW) (r := accR0 r.val h) (by rw [accA0_set])
/-- a landed slot; -/
theorem load_st0 (c : Dev nD) (j : Fin 7) (jn : ℕ) (hj : jn = j.val) {h}
    {hl : stW0.view.LoadsAt (stR0 jn h).toLoadRect} {α : Type} {Q : α → sProp 𝕄} {k : (S1x512x768.Idx → Elt F .bf16) → Prog (TpuEff nD τ sig (Elt F) Λ₀ .tc) α} :
    slotV m c (0, j)
      ⊢ iprop((slotV m c (0, j) -∗ wp frame (wpE (defs₀ (F := F)) 𝒱₀ (c : Thread nD τ) none) Set.univ (k ((stW0.access (stR0 jn h)).read (Elt F) (SB m 0 hn0 c))) Q)
          -∗ wp frame (wpE (defs₀ (F := F)) 𝒱₀ (c : Thread nD τ) none) Set.univ (.op (.load stW0 (stR0 jn h).toLoadRect hl) k) Q) := by
  subst hj
  show slotV0 m c j ⊢ iprop((slotV0 m c j -∗ _) -∗ _)
  unfold slotV0
  exact wp_load_rect 𝒱₀ (c : Thread nD τ) none Set.univ (m := stW0) (r := stR0 j.val h) (by rw [stA0_set])
/-- and storing a piece of the accumulator's next contents. -/
theorem store_acc0 (c : Dev nD) (r : Fin 8) (p p' : ℕ) (rn : ℕ) (hr : rn = r.val) {h} {w : S1x512x768.Idx → Elt F .bf16}
    (hw : w = (accW.access (accR0 rn h)).read (Elt F) (AB m p' c))
    {hx : (accW.access (accR0 rn h)).Stores Finset.univ} {hm} {α : Type} {Q : α → sProp 𝕄} {k : PUnit → Prog (TpuEff nD τ sig (Elt F) Λ₀ .tc) α} :
    accP m c r 0 p
      ⊢ iprop((accP m c r 0 p' -∗ wp frame (wpE (defs₀ (F := F)) 𝒱₀ (c : Thread nD τ) none) Set.univ (k ⟨⟩) Q)
          -∗ wp frame (wpE (defs₀ (F := F)) 𝒱₀ (c : Thread nD τ) none) Set.univ (.op (.store accW (accR0 rn h) w Finset.univ hx hm) k) Q) := by
  subst hr
  unfold accP
  have H := wp_store (defs := defs₀ (F := F)) (Γ := .nil) 𝒱₀ (c : Thread nD τ) none Set.univ (m := accW) (r := accR0 r.val h) (w := w) (Mk := Finset.univ) (hx := hx) (hm := hm) (k := k) (Q := Q)
    (S := pieceSet r 0) (f := AB m p c) (by show (accW.access (accR0 r.val h)).set ⊆ _; rw [accA0_set])
  have e : (((accW.access (accR0 r.val h)).loc (c : Thread nD τ) ↦[pieceSet r 0]{fullShare} (accW.access (accR0 r.val h)).write (Elt F) (AB m p c) w Finset.univ) : sProp 𝕄)
      = ((c : Thread nD τ).loc cc0_scratch0 ↦[pieceSet r 0]{fullShare} AB m p' c) :=
    pointsTo_congr fun i hi => write_agree _ _ _ _ hw.symm i (by rw [accA0_set]; exact hi)
  rw [e] at H
  exact H

/-! ## Group 1 -/

theorem credit1 (j : ℕ) (h) : (stM1 j h).view.dmaCredit = crd 1 := rfl
theorem acredit1 (r : ℕ) (h) : (accM1 r h).view.dmaCredit = crd 1 := rfl

/-- Sending: the piece goes into the partner's slot. -/
theorem send1 (c d : Dev nD) (j : Fin 7) (jn r : ℕ) (l : List X) (hd : d = peer (mi (1, j)) c) (hj : jn = j.val) (hr : r = (srow (1, j)).val)
    {h} {h'} {sS sR : DmaSem sig} (hS : sS = sendS (1, j)) (hR : sR = recvS (1, j))
    {hsc : (stM1 jn h' : Memref sig (Dev.tc d : Thread nD τ).2.kind .vmem S512x640 .bf16).view.ref.isScScratch = false}
    {hsrc : (accM1 r h).view.WordExact} {hdst : (stM1 jn h').view.WordExact}
    {hsem : DmaTarget.Typed .vmem (.dma sR) (.remote (Dev.tc d : Thread nD τ) (stM1 jn h') (.dma sS) hsc)}
    {α : Type} {Q : α → sProp 𝕄} {k : PUnit → Prog (TpuEff nD τ sig (Elt F) Λ₀ .tc) α} :
    iprop(env m K ∗ sd c (1, j) ∗ accP m c (srow (1, j)) 1 (ph j) ∗ owesE c ((1, j) :: l))
      ⊢ iprop((iprop(sn c (1, j) ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (accM1 r h) (.remote (Dev.tc d : Thread nD τ) (stM1 jn h') (.dma sS) hsc) (.dma sR) hsrc hdst hsem) k) Q) := by
  subst hd hj hr hS hR
  unfold sd sn owesE accP
  iintro ⟨#He, ⟨Hsl, Ht1, Ht2, Hat⟩, Ha, ⟨%W, Ho⟩⟩ Hk
  ihave #Hi1 := (env_inv m K (c, some (false, (1, j)))) $$ He
  ihave #Hi2 := (env_inv m K (peer (mi (1, j)) c, some (true, (1, j)))) $$ He
  ihave #Hr1 := (env_reached m K (c, some (false, (1, j)))) $$ He
  ihave #Hr2 := (env_reached m K (peer (mi (1, j)) c, some (true, (1, j)))) $$ He
  ihave Hsl := (show slotE (F := F) (peer (mi (1, j)) c) (1, j) ⊢ iprop(∃ f, (stM1 j.val h').view.loc (peer (mi (1, j)) c : Thread nD τ) ↦[(stM1 j.val h').view.set]{fullShare} f)
    from by rw [stM1_set]; exact BI.Entails.refl _) $$ Hsl
  icases Hsl with ⟨%f, Hsl⟩
  ihave Ha := (show (((c : Thread nD τ).loc cc0_scratch0) ↦[pieceSet (srow (1, j)) 1]{fullShare} AB m (ph j) c : sProp 𝕄)
      ⊢ ((accM1 (srow (1, j)).val h).view.loc (c : Thread nD τ) ↦[(accM1 (srow (1, j)).val h).view.set]{fullShare} AB m (ph j) c)
    from by rw [accM1_set]) $$ Ha
  iapply (Rounds.wp_send_pointsTo 𝒱₀ ER (rd m) (c : Thread nD τ) none (κ₁ := K (c, some (false, (1, j)))) (κ₂ := K (peer (mi (1, j)) c, some (true, (1, j))))
    (r₁ := 0) (r₂ := 0) (d₁ := 0) (d₂ := 0) (fd := f) (fs := AB m (ph j) c)
    (by rw [duties_send]; exact Finset.mem_singleton_self _) (by rw [duties_recv]; exact Finset.mem_singleton_self _)
    () () (crd 1) rfl (amount_send m c (1, j) 0) (amount_recv m _ (1, j) 0) (owedL l c) rfl (W := W)
    (by rw [payload_send]; unfold accP; rw [accM1_set])
    (by
      rw [payload_recv]
      show _ ⊢ slotV1 m _ j
      unfold slotV1
      rw [pointsTo_congr (write_agree _ _ _ _ (land1 m j h' h c)), stM1_set])) $$ [Hsl Ha Ho Ht1 Ht2]
  · isplitr; · iexact Hi1
    isplitr; · iexact Hi2
    isplitl [Ha]; · iexact Ha
    isplitl [Hsl]; · iexact Hsl
    isplitl [Ho]; · iexact Ho
    isplitl [Ht1]; · iexact Ht1
    isplitr; · iexact Hr1
    isplitl [Ht2]; · iexact Ht2
    iexact Hr2
  iintro ⟨Hc, Ho⟩
  iapply Hk
  isplitl [Hc Hat]
  · isplitl [Hc]; · iexact Hc
    iexact Hat
  iexists W; iexact Ho

/-- Reading a piece of the accumulator; -/
theorem load_acc1 (c : Dev nD) (r : Fin 8) (p : ℕ) (rn : ℕ) (hr : rn = r.val) {h}
    {hl : accW.view.LoadsAt (accR1 rn h).toLoadRect} {α : Type} {Q : α → sProp 𝕄} {k : (S1x512x640.Idx → Elt F .bf16) → Prog (TpuEff nD τ sig (Elt F) Λ₀ .tc) α} :
    accP m c r 1 p
      ⊢ iprop((accP m c r 1 p -∗ wp frame (wpE (defs₀ (F := F)) 𝒱₀ (c : Thread nD τ) none) Set.univ (k ((accW.access (accR1 rn h)).read (Elt F) (AB m p c))) Q)
          -∗ wp frame (wpE (defs₀ (F := F)) 𝒱₀ (c : Thread nD τ) none) Set.univ (.op (.load accW (accR1 rn h).toLoadRect hl) k) Q) := by
  subst hr
  unfold accP
  exact wp_load_rect 𝒱₀ (c : Thread nD τ) none Set.univ (m := accW) (r := accR1 r.val h) (by rw [accA1_set])
/-- a landed slot; -/
theorem load_st1 (c : Dev nD) (j : Fin 7) (jn : ℕ) (hj : jn = j.val) {h}
    {hl : stW1.view.LoadsAt (stR1 jn h).toLoadRect} {α : Type} {Q : α → sProp 𝕄} {k : (S1x512x640.Idx → Elt F .bf16) → Prog (TpuEff nD τ sig (Elt F) Λ₀ .tc) α} :
    slotV m c (1, j)
      ⊢ iprop((slotV m c (1, j) -∗ wp frame (wpE (defs₀ (F := F)) 𝒱₀ (c : Thread nD τ) none) Set.univ (k ((stW1.access (stR1 jn h)).read (Elt F) (SB m 1 hn1 c))) Q)
          -∗ wp frame (wpE (defs₀ (F := F)) 𝒱₀ (c : Thread nD τ) none) Set.univ (.op (.load stW1 (stR1 jn h).toLoadRect hl) k) Q) := by
  subst hj
  show slotV1 m c j ⊢ iprop((slotV1 m c j -∗ _) -∗ _)
  unfold slotV1
  exact wp_load_rect 𝒱₀ (c : Thread nD τ) none Set.univ (m := stW1) (r := stR1 j.val h) (by rw [stA1_set])
/-- and storing a piece of the accumulator's next contents. -/
theorem store_acc1 (c : Dev nD) (r : Fin 8) (p p' : ℕ) (rn : ℕ) (hr : rn = r.val) {h} {w : S1x512x640.Idx → Elt F .bf16}
    (hw : w = (accW.access (accR1 rn h)).read (Elt F) (AB m p' c))
    {hx : (accW.access (accR1 rn h)).Stores Finset.univ} {hm} {α : Type} {Q : α → sProp 𝕄} {k : PUnit → Prog (TpuEff nD τ sig (Elt F) Λ₀ .tc) α} :
    accP m c r 1 p
      ⊢ iprop((accP m c r 1 p' -∗ wp frame (wpE (defs₀ (F := F)) 𝒱₀ (c : Thread nD τ) none) Set.univ (k ⟨⟩) Q)
          -∗ wp frame (wpE (defs₀ (F := F)) 𝒱₀ (c : Thread nD τ) none) Set.univ (.op (.store accW (accR1 rn h) w Finset.univ hx hm) k) Q) := by
  subst hr
  unfold accP
  have H := wp_store (defs := defs₀ (F := F)) (Γ := .nil) 𝒱₀ (c : Thread nD τ) none Set.univ (m := accW) (r := accR1 r.val h) (w := w) (Mk := Finset.univ) (hx := hx) (hm := hm) (k := k) (Q := Q)
    (S := pieceSet r 1) (f := AB m p c) (by show (accW.access (accR1 r.val h)).set ⊆ _; rw [accA1_set])
  have e : (((accW.access (accR1 r.val h)).loc (c : Thread nD τ) ↦[pieceSet r 1]{fullShare} (accW.access (accR1 r.val h)).write (Elt F) (AB m p c) w Finset.univ) : sProp 𝕄)
      = ((c : Thread nD τ).loc cc0_scratch0 ↦[pieceSet r 1]{fullShare} AB m p' c) :=
    pointsTo_congr fun i hi => write_agree _ _ _ _ hw.symm i (by rw [accA1_set]; exact hi)
  rw [e] at H
  exact H

/-! ## Group 2 -/

theorem credit2 (j : ℕ) (h) : (stM2 j h).view.dmaCredit = crd 2 := rfl
theorem acredit2 (r : ℕ) (h) : (accM2 r h).view.dmaCredit = crd 2 := rfl

/-- Sending: the piece goes into the partner's slot. -/
theorem send2 (c d : Dev nD) (j : Fin 7) (jn r : ℕ) (l : List X) (hd : d = peer (mi (2, j)) c) (hj : jn = j.val) (hr : r = (srow (2, j)).val)
    {h} {h'} {sS sR : DmaSem sig} (hS : sS = sendS (2, j)) (hR : sR = recvS (2, j))
    {hsc : (stM2 jn h' : Memref sig (Dev.tc d : Thread nD τ).2.kind .vmem S512x640 .bf16).view.ref.isScScratch = false}
    {hsrc : (accM2 r h).view.WordExact} {hdst : (stM2 jn h').view.WordExact}
    {hsem : DmaTarget.Typed .vmem (.dma sR) (.remote (Dev.tc d : Thread nD τ) (stM2 jn h') (.dma sS) hsc)}
    {α : Type} {Q : α → sProp 𝕄} {k : PUnit → Prog (TpuEff nD τ sig (Elt F) Λ₀ .tc) α} :
    iprop(env m K ∗ sd c (2, j) ∗ accP m c (srow (2, j)) 2 (ph j) ∗ owesE c ((2, j) :: l))
      ⊢ iprop((iprop(sn c (2, j) ∗ owesE c l) -∗ wp frame (wpE (defs₀ (F := F)) 𝒱₀ (c : Thread nD τ) none) Set.univ (k ⟨⟩) Q)
          -∗ wp frame (wpE (defs₀ (F := F)) 𝒱₀ (c : Thread nD τ) none) Set.univ (.op (.enqueueDma (accM2 r h) (.remote (Dev.tc d : Thread nD τ) (stM2 jn h') (.dma sS) hsc) (.dma sR) hsrc hdst hsem) k) Q) := by
  subst hd hj hr hS hR
  unfold sd sn owesE accP
  iintro ⟨#He, ⟨Hsl, Ht1, Ht2, Hat⟩, Ha, ⟨%W, Ho⟩⟩ Hk
  ihave #Hi1 := (env_inv m K (c, some (false, (2, j)))) $$ He
  ihave #Hi2 := (env_inv m K (peer (mi (2, j)) c, some (true, (2, j)))) $$ He
  ihave #Hr1 := (env_reached m K (c, some (false, (2, j)))) $$ He
  ihave #Hr2 := (env_reached m K (peer (mi (2, j)) c, some (true, (2, j)))) $$ He
  ihave Hsl := (show slotE (F := F) (peer (mi (2, j)) c) (2, j) ⊢ iprop(∃ f, (stM2 j.val h').view.loc (peer (mi (2, j)) c : Thread nD τ) ↦[(stM2 j.val h').view.set]{fullShare} f)
    from by rw [stM2_set]; exact BI.Entails.refl _) $$ Hsl
  icases Hsl with ⟨%f, Hsl⟩
  ihave Ha := (show (((c : Thread nD τ).loc cc0_scratch0) ↦[pieceSet (srow (2, j)) 2]{fullShare} AB m (ph j) c : sProp 𝕄)
      ⊢ ((accM2 (srow (2, j)).val h).view.loc (c : Thread nD τ) ↦[(accM2 (srow (2, j)).val h).view.set]{fullShare} AB m (ph j) c)
    from by rw [accM2_set]) $$ Ha
  iapply (Rounds.wp_send_pointsTo 𝒱₀ ER (rd m) (c : Thread nD τ) none (κ₁ := K (c, some (false, (2, j)))) (κ₂ := K (peer (mi (2, j)) c, some (true, (2, j))))
    (r₁ := 0) (r₂ := 0) (d₁ := 0) (d₂ := 0) (fd := f) (fs := AB m (ph j) c)
    (by rw [duties_send]; exact Finset.mem_singleton_self _) (by rw [duties_recv]; exact Finset.mem_singleton_self _)
    () () (crd 2) rfl (amount_send m c (2, j) 0) (amount_recv m _ (2, j) 0) (owedL l c) rfl (W := W)
    (by rw [payload_send]; unfold accP; rw [accM2_set])
    (by
      rw [payload_recv]
      show _ ⊢ slotV2 m _ j
      unfold slotV2
      rw [pointsTo_congr (write_agree _ _ _ _ (land2 m j h' h c)), stM2_set])) $$ [Hsl Ha Ho Ht1 Ht2]
  · isplitr; · iexact Hi1
    isplitr; · iexact Hi2
    isplitl [Ha]; · iexact Ha
    isplitl [Hsl]; · iexact Hsl
    isplitl [Ho]; · iexact Ho
    isplitl [Ht1]; · iexact Ht1
    isplitr; · iexact Hr1
    isplitl [Ht2]; · iexact Ht2
    iexact Hr2
  iintro ⟨Hc, Ho⟩
  iapply Hk
  isplitl [Hc Hat]
  · isplitl [Hc]; · iexact Hc
    iexact Hat
  iexists W; iexact Ho

/-- Reading a piece of the accumulator; -/
theorem load_acc2 (c : Dev nD) (r : Fin 8) (p : ℕ) (rn : ℕ) (hr : rn = r.val) {h}
    {hl : accW.view.LoadsAt (accR2 rn h).toLoadRect} {α : Type} {Q : α → sProp 𝕄} {k : (S1x512x640.Idx → Elt F .bf16) → Prog (TpuEff nD τ sig (Elt F) Λ₀ .tc) α} :
    accP m c r 2 p
      ⊢ iprop((accP m c r 2 p -∗ wp frame (wpE (defs₀ (F := F)) 𝒱₀ (c : Thread nD τ) none) Set.univ (k ((accW.access (accR2 rn h)).read (Elt F) (AB m p c))) Q)
          -∗ wp frame (wpE (defs₀ (F := F)) 𝒱₀ (c : Thread nD τ) none) Set.univ (.op (.load accW (accR2 rn h).toLoadRect hl) k) Q) := by
  subst hr
  unfold accP
  exact wp_load_rect 𝒱₀ (c : Thread nD τ) none Set.univ (m := accW) (r := accR2 r.val h) (by rw [accA2_set])
/-- a landed slot; -/
theorem load_st2 (c : Dev nD) (j : Fin 7) (jn : ℕ) (hj : jn = j.val) {h}
    {hl : stW2.view.LoadsAt (stR2 jn h).toLoadRect} {α : Type} {Q : α → sProp 𝕄} {k : (S1x512x640.Idx → Elt F .bf16) → Prog (TpuEff nD τ sig (Elt F) Λ₀ .tc) α} :
    slotV m c (2, j)
      ⊢ iprop((slotV m c (2, j) -∗ wp frame (wpE (defs₀ (F := F)) 𝒱₀ (c : Thread nD τ) none) Set.univ (k ((stW2.access (stR2 jn h)).read (Elt F) (SB m 2 hn2 c))) Q)
          -∗ wp frame (wpE (defs₀ (F := F)) 𝒱₀ (c : Thread nD τ) none) Set.univ (.op (.load stW2 (stR2 jn h).toLoadRect hl) k) Q) := by
  subst hj
  show slotV2 m c j ⊢ iprop((slotV2 m c j -∗ _) -∗ _)
  unfold slotV2
  exact wp_load_rect 𝒱₀ (c : Thread nD τ) none Set.univ (m := stW2) (r := stR2 j.val h) (by rw [stA2_set])
/-- and storing a piece of the accumulator's next contents. -/
theorem store_acc2 (c : Dev nD) (r : Fin 8) (p p' : ℕ) (rn : ℕ) (hr : rn = r.val) {h} {w : S1x512x640.Idx → Elt F .bf16}
    (hw : w = (accW.access (accR2 rn h)).read (Elt F) (AB m p' c))
    {hx : (accW.access (accR2 rn h)).Stores Finset.univ} {hm} {α : Type} {Q : α → sProp 𝕄} {k : PUnit → Prog (TpuEff nD τ sig (Elt F) Λ₀ .tc) α} :
    accP m c r 2 p
      ⊢ iprop((accP m c r 2 p' -∗ wp frame (wpE (defs₀ (F := F)) 𝒱₀ (c : Thread nD τ) none) Set.univ (k ⟨⟩) Q)
          -∗ wp frame (wpE (defs₀ (F := F)) 𝒱₀ (c : Thread nD τ) none) Set.univ (.op (.store accW (accR2 rn h) w Finset.univ hx hm) k) Q) := by
  subst hr
  unfold accP
  have H := wp_store (defs := defs₀ (F := F)) (Γ := .nil) 𝒱₀ (c : Thread nD τ) none Set.univ (m := accW) (r := accR2 r.val h) (w := w) (Mk := Finset.univ) (hx := hx) (hm := hm) (k := k) (Q := Q)
    (S := pieceSet r 2) (f := AB m p c) (by show (accW.access (accR2 r.val h)).set ⊆ _; rw [accA2_set])
  have e : (((accW.access (accR2 r.val h)).loc (c : Thread nD τ) ↦[pieceSet r 2]{fullShare} (accW.access (accR2 r.val h)).write (Elt F) (AB m p c) w Finset.univ) : sProp 𝕄)
      = ((c : Thread nD τ).loc cc0_scratch0 ↦[pieceSet r 2]{fullShare} AB m p' c) :=
    pointsTo_congr fun i hi => write_agree _ _ _ _ hw.symm i (by rw [accA2_set]; exact hi)
  rw [e] at H
  exact H

end Cert.Butterfly
-- ==== Proof.Pays.lean ====
module

public import proofs.«01_k».proof.Proof.Local
public import proofs.«01_k».proof.Proof.Steps

/-!
# What the body's computed values are

Each value the body stores, from the values it read: a row of the partial product, a sum of two pieces, and a
group of columns of the result. And which device each transfer goes to.
-/

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]
variable (m : (ℓ : Loc nD τ sig) → Buf (Elt F) ℓ)

/-- Adding two pieces with their unit axis dropped, and giving it back, is adding them. -/
theorem castAdd {s t : Shape} (a b : FVec F s .bf16) (h : s.ShapeCasts t) (h' : t.ShapeCasts s) :
    shapeCast s (addf (shapeCast t a h) (shapeCast t b h)) h' = addf a b := by
  funext x
  show FloatOps.addf (a (Shape.reshapeEquiv _ (Shape.reshapeEquiv _ x))) (b (Shape.reshapeEquiv _ (Shape.reshapeEquiv _ x))) = _
  rw [Shape.reshapeEquiv_reshapeEquiv, Shape.reshapeEquiv_self]
  rfl

/-- Group 0: the row of piece `j`, at its step's value, plus what landed in slot `j`, is the row a step later. -/
theorem addRow0 (c : Dev nD) (j : Fin 7) (p p' rn jn : ℕ) (hr : rn = (drow (0, j)).val) (hj : jn = j.val) (hp : p = ph j) (hp' : p' = p + 1) {h h' h''} :
    addf ((accW.access (accR0 rn h)).read (Elt F) (AB m p c) : FVec F S1x512x768 .bf16) ((stW0.access (stR0 jn h')).read (Elt F) (SB m 0 hn0 c))
      = (accW.access (accR0 rn h'')).read (Elt F) (AB m p' c) := by
  subst hr; subst hj; subst hp'; subst hp
  funext x
  exact add0 m j h h' h'' c x

/-- Group 0: the activation of row 0 after the last step is the result's columns of the group. -/
theorem actRow0 (c : Dev nD) {h h' hs hs'} (hb : FTy.bits .bf16 < FTy.bits .f32) :
    shapeCast S512x768 (mulf (extf .f32 (shapeCast S512x768 ((accW.access (accR0 0 h)).read (Elt F) (AB m 3 c) : FVec F S1x512x768 .bf16) hs) hb)
        (logistic (extf .f32 (shapeCast S512x768 ((accW.access (accR0 0 h)).read (Elt F) (AB m 3 c) : FVec F S1x512x768 .bf16) hs) hb))) hs'
      = (obW.access (colR0 h')).read (Elt F) (OB m c) := by
  funext x
  rw [obA0_read]
  show act ((accW.access (accR0 0 h)).read (Elt F) (AB m 3 c) (Shape.reshapeEquiv _ (Shape.reshapeEquiv _ x))) = act _
  rw [Shape.reshapeEquiv_self, squeeze_ix]
  exact congrArg act (accA0_read (0 : Fin 8) h (AB m 3 c) _)

/-- Group 1: the row of piece `j`, at its step's value, plus what landed in slot `j`, is the row a step later. -/
theorem addRow1 (c : Dev nD) (j : Fin 7) (p p' rn jn : ℕ) (hr : rn = (drow (1, j)).val) (hj : jn = j.val) (hp : p = ph j) (hp' : p' = p + 1) {h h' h''} :
    addf ((accW.access (accR1 rn h)).read (Elt F) (AB m p c) : FVec F S1x512x640 .bf16) ((stW1.access (stR1 jn h')).read (Elt F) (SB m 1 hn1 c))
      = (accW.access (accR1 rn h'')).read (Elt F) (AB m p' c) := by
  subst hr; subst hj; subst hp'; subst hp
  funext x
  exact add1 m j h h' h'' c x

/-- Group 1: the activation of row 0 after the last step is the result's columns of the group. -/
theorem actRow1 (c : Dev nD) {h h' hs hs'} (hb : FTy.bits .bf16 < FTy.bits .f32) :
    shapeCast S512x640 (mulf (extf .f32 (shapeCast S512x640 ((accW.access (accR1 0 h)).read (Elt F) (AB m 3 c) : FVec F S1x512x640 .bf16) hs) hb)
        (logistic (extf .f32 (shapeCast S512x640 ((accW.access (accR1 0 h)).read (Elt F) (AB m 3 c) : FVec F S1x512x640 .bf16) hs) hb))) hs'
      = (obW.access (colR1 h')).read (Elt F) (OB m c) := by
  funext x
  rw [obA1_read]
  show act ((accW.access (accR1 0 h)).read (Elt F) (AB m 3 c) (Shape.reshapeEquiv _ (Shape.reshapeEquiv _ x))) = act _
  rw [Shape.reshapeEquiv_self, squeeze_ix]
  exact congrArg act (accA1_read (0 : Fin 8) h (AB m 3 c) _)

/-- Group 2: the row of piece `j`, at its step's value, plus what landed in slot `j`, is the row a step later. -/
theorem addRow2 (c : Dev nD) (j : Fin 7) (p p' rn jn : ℕ) (hr : rn = (drow (2, j)).val) (hj : jn = j.val) (hp : p = ph j) (hp' : p' = p + 1) {h h' h''} :
    addf ((accW.access (accR2 rn h)).read (Elt F) (AB m p c) : FVec F S1x512x640 .bf16) ((stW2.access (stR2 jn h')).read (Elt F) (SB m 2 hn2 c))
      = (accW.access (accR2 rn h'')).read (Elt F) (AB m p' c) := by
  subst hr; subst hj; subst hp'; subst hp
  funext x
  exact add2 m j h h' h'' c x

/-- Group 2: the activation of row 0 after the last step is the result's columns of the group. -/
theorem actRow2 (c : Dev nD) {h h' hs hs'} (hb : FTy.bits .bf16 < FTy.bits .f32) :
    shapeCast S512x640 (mulf (extf .f32 (shapeCast S512x640 ((accW.access (accR2 0 h)).read (Elt F) (AB m 3 c) : FVec F S1x512x640 .bf16) hs) hb)
        (logistic (extf .f32 (shapeCast S512x640 ((accW.access (accR2 0 h)).read (Elt F) (AB m 3 c) : FVec F S1x512x640 .bf16) hs) hb))) hs'
      = (obW.access (colR2 h')).read (Elt F) (OB m c) := by
  funext x
  rw [obA2_read]
  show act ((accW.access (accR2 0 h)).read (Elt F) (AB m 3 c) (Shape.reshapeEquiv _ (Shape.reshapeEquiv _ x))) = act _
  rw [Shape.reshapeEquiv_self, squeeze_ix]
  exact congrArg act (accA2_read (0 : Fin 8) h (AB m 3 c) _)

/-! ## The device of each transfer -/

theorem dev1_eq (c : Dev nD) : (⟨k0_dev1 c, k0_dev1_lt c⟩ : Dev nD) = peer 0 c := by revert c; decide
theorem dev2_eq (c : Dev nD) : (⟨k0_dev2 c, k0_dev2_lt c⟩ : Dev nD) = peer 1 c := by revert c; decide
theorem dev3_eq (c : Dev nD) : (⟨k0_dev3 c, k0_dev3_lt c⟩ : Dev nD) = peer 2 c := by revert c; decide
theorem dev4_eq (c : Dev nD) : (⟨k0_dev4 c, k0_dev4_lt c⟩ : Dev nD) = peer (mi (0, 0)) c := by revert c; decide
theorem dev5_eq (c : Dev nD) : (⟨k0_dev5 c, k0_dev5_lt c⟩ : Dev nD) = peer (mi (1, 0)) c := by revert c; decide
theorem dev6_eq (c : Dev nD) : (⟨k0_dev6 c, k0_dev6_lt c⟩ : Dev nD) = peer (mi (2, 0)) c := by revert c; decide
theorem dev7_eq (c : Dev nD) : (⟨k0_dev7 c, k0_dev7_lt c⟩ : Dev nD) = peer (mi (0, 1)) c := by revert c; decide
theorem dev8_eq (c : Dev nD) : (⟨k0_dev8 c, k0_dev8_lt c⟩ : Dev nD) = peer (mi (0, 2)) c := by revert c; decide
theorem dev9_eq (c : Dev nD) : (⟨k0_dev9 c, k0_dev9_lt c⟩ : Dev nD) = peer (mi (1, 1)) c := by revert c; decide
theorem dev10_eq (c : Dev nD) : (⟨k0_dev10 c, k0_dev10_lt c⟩ : Dev nD) = peer (mi (1, 2)) c := by revert c; decide
theorem dev11_eq (c : Dev nD) : (⟨k0_dev11 c, k0_dev11_lt c⟩ : Dev nD) = peer (mi (2, 1)) c := by revert c; decide
theorem dev12_eq (c : Dev nD) : (⟨k0_dev12 c, k0_dev12_lt c⟩ : Dev nD) = peer (mi (2, 2)) c := by revert c; decide
theorem dev13_eq (c : Dev nD) : (⟨k0_dev13 c, k0_dev13_lt c⟩ : Dev nD) = peer (mi (0, 3)) c := by revert c; decide
theorem dev14_eq (c : Dev nD) : (⟨k0_dev14 c, k0_dev14_lt c⟩ : Dev nD) = peer (mi (1, 3)) c := by revert c; decide
theorem dev15_eq (c : Dev nD) : (⟨k0_dev15 c, k0_dev15_lt c⟩ : Dev nD) = peer (mi (2, 3)) c := by revert c; decide
theorem dev16_eq (c : Dev nD) : (⟨k0_dev16 c, k0_dev16_lt c⟩ : Dev nD) = peer (mi (1, 4)) c := by revert c; decide
theorem dev17_eq (c : Dev nD) : (⟨k0_dev17 c, k0_dev17_lt c⟩ : Dev nD) = peer (mi (1, 5)) c := by revert c; decide
theorem dev18_eq (c : Dev nD) : (⟨k0_dev18 c, k0_dev18_lt c⟩ : Dev nD) = peer (mi (2, 4)) c := by revert c; decide
theorem dev19_eq (c : Dev nD) : (⟨k0_dev19 c, k0_dev19_lt c⟩ : Dev nD) = peer (mi (2, 5)) c := by revert c; decide
theorem dev20_eq (c : Dev nD) : (⟨k0_dev20 c, k0_dev20_lt c⟩ : Dev nD) = peer (mi (0, 4)) c := by revert c; decide
theorem dev21_eq (c : Dev nD) : (⟨k0_dev21 c, k0_dev21_lt c⟩ : Dev nD) = peer (mi (0, 5)) c := by revert c; decide
theorem dev22_eq (c : Dev nD) : (⟨k0_dev22 c, k0_dev22_lt c⟩ : Dev nD) = peer (mi (1, 6)) c := by revert c; decide
theorem dev23_eq (c : Dev nD) : (⟨k0_dev23 c, k0_dev23_lt c⟩ : Dev nD) = peer (mi (2, 6)) c := by revert c; decide
theorem dev24_eq (c : Dev nD) : (⟨k0_dev24 c, k0_dev24_lt c⟩ : Dev nD) = peer (mi (0, 6)) c := by revert c; decide

/-! ## The sums of two pieces -/

theorem pay15_eq (a b : Vec F S1x512x640 .bf16) : k0_pay15 a b = addf (F := F) (φ := .bf16) a b := castAdd a b _ _
theorem pay16_eq (a b : Vec F S1x512x768 .bf16) : k0_pay16 a b = addf (F := F) (φ := .bf16) a b := castAdd a b _ _
theorem pay19_eq (a b : Vec F S1x512x640 .bf16) : k0_pay19 a b = addf (F := F) (φ := .bf16) a b := castAdd a b _ _
theorem pay20_eq (a b : Vec F S1x512x768 .bf16) : k0_pay20 a b = addf (F := F) (φ := .bf16) a b := castAdd a b _ _
theorem pay21_eq (a b : Vec F S1x512x640 .bf16) : k0_pay21 a b = addf (F := F) (φ := .bf16) a b := castAdd a b _ _
theorem pay22_eq (a b : Vec F S1x512x640 .bf16) : k0_pay22 a b = addf (F := F) (φ := .bf16) a b := castAdd a b _ _
theorem pay23_eq (a b : Vec F S1x512x768 .bf16) : k0_pay23 a b = addf (F := F) (φ := .bf16) a b := castAdd a b _ _
theorem pay24_eq (a b : Vec F S1x512x640 .bf16) : k0_pay24 a b = addf (F := F) (φ := .bf16) a b := castAdd a b _ _
theorem pay25_eq (a b : Vec F S1x512x640 .bf16) : k0_pay25 a b = addf (F := F) (φ := .bf16) a b := castAdd a b _ _
theorem pay26_eq (a b : Vec F S1x512x768 .bf16) : k0_pay26 a b = addf (F := F) (φ := .bf16) a b := castAdd a b _ _
theorem pay27_eq (a b : Vec F S1x512x640 .bf16) : k0_pay27 a b = addf (F := F) (φ := .bf16) a b := castAdd a b _ _
theorem pay28_eq (a b : Vec F S1x512x640 .bf16) : k0_pay28 a b = addf (F := F) (φ := .bf16) a b := castAdd a b _ _
theorem pay29_eq (a b : Vec F S1x512x768 .bf16) : k0_pay29 a b = addf (F := F) (φ := .bf16) a b := castAdd a b _ _
theorem pay30_eq (a b : Vec F S1x512x640 .bf16) : k0_pay30 a b = addf (F := F) (φ := .bf16) a b := castAdd a b _ _
theorem pay31_eq (a b : Vec F S1x512x640 .bf16) : k0_pay31 a b = addf (F := F) (φ := .bf16) a b := castAdd a b _ _
theorem pay32_eq (a b : Vec F S1x512x768 .bf16) : k0_pay32 a b = addf (F := F) (φ := .bf16) a b := castAdd a b _ _
theorem pay33_eq (a b : Vec F S1x512x640 .bf16) : k0_pay33 a b = addf (F := F) (φ := .bf16) a b := castAdd a b _ _
theorem pay35_eq (a b : Vec F S1x512x640 .bf16) : k0_pay35 a b = addf (F := F) (φ := .bf16) a b := castAdd a b _ _
theorem pay37_eq (a b : Vec F S1x512x768 .bf16) : k0_pay37 a b = addf (F := F) (φ := .bf16) a b := castAdd a b _ _
theorem pay14_eq (a b : Vec F S1x512x640 .bf16) : k0_pay14 (k0_pay12 a) (k0_pay13 b) = addf (F := F) (φ := .bf16) a b := castAdd a b _ _
theorem pay18_eq (a b : Vec F S1x512x640 .bf16) : k0_pay18 (k0_pay17 a b) = addf (F := F) (φ := .bf16) a b := castAdd a b _ _

/-! ## The rows of the partial product -/

theorem pay2_eq (c : Dev nD) (r : Fin 8) : k0_pay2 (xld m c r) (W16 m c) = dotv m c r := rfl
theorem pay3_eq (c : Dev nD) (r : Fin 8) : k0_pay3 (xld m c r) (W16 m c) = dotv m c r := rfl
theorem pay8_eq (c : Dev nD) (r : Fin 8) : k0_pay8 (xld m c r) (W16 m c) = dotv m c r := rfl
theorem pay9_eq (c : Dev nD) (r : Fin 8) : k0_pay9 (xld m c r) (W16 m c) = dotv m c r := rfl
theorem pay10_eq (c : Dev nD) (r : Fin 8) : k0_pay10 (xld m c r) (W16 m c) = dotv m c r := rfl
theorem pay11_eq (c : Dev nD) (r : Fin 8) : k0_pay11 (xld m c r) (W16 m c) = dotv m c r := rfl
theorem pay5_eq (c : Dev nD) (r : Fin 8) : k0_pay5 (k0_pay4 (xld m c r) (W16 m c)) = dotv m c r := rfl
theorem pay7_eq (c : Dev nD) (r : Fin 8) : k0_pay7 (k0_pay6 (xld m c r)) (W16 m c) = dotv m c r := rfl

/-- Both halves of the on-chip blocks are filled by equally many words. -/
theorem xcredit (p : ℕ) (h) : (halfM p h).view.dmaCredit = NX := rfl

/-! ## The arrivals still owed after each send -/

abbrev q21 : List X := []
abbrev q20 : List X := (0, 6) :: q21
abbrev q19 : List X := (2, 6) :: q20
abbrev q18 : List X := (1, 6) :: q19
abbrev q17 : List X := (0, 5) :: q18
abbrev q16 : List X := (0, 4) :: q17
abbrev q15 : List X := (2, 5) :: q16
abbrev q14 : List X := (2, 4) :: q15
abbrev q13 : List X := (1, 5) :: q14
abbrev q12 : List X := (1, 4) :: q13
abbrev q11 : List X := (2, 3) :: q12
abbrev q10 : List X := (1, 3) :: q11
abbrev q9 : List X := (0, 3) :: q10
abbrev q8 : List X := (2, 2) :: q9
abbrev q7 : List X := (2, 1) :: q8
abbrev q6 : List X := (1, 2) :: q7
abbrev q5 : List X := (1, 1) :: q6
abbrev q4 : List X := (0, 2) :: q5
abbrev q3 : List X := (0, 1) :: q4
abbrev q2 : List X := (2, 0) :: q3
abbrev q1 : List X := (1, 0) :: q2
abbrev q0 : List X := (0, 0) :: q1
theorem q0_eq : q0 = sendOrder := rfl

end Cert.Butterfly
-- ==== Proof.PartsA.lean ====
module

public import proofs.«01_k».proof.Proof.Pays

/-!
# The body, parts 1 to 6

The weights rounded; the first rows of the partial product, and the first sends. Each part from what it needs to what it leaves.
-/

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ)

set_option maxRecDepth 65536

/-- Part 1: the first row block starts on its way, the device signals its three partners and waits for theirs,
    and the weights are rounded. -/
theorem part1_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) {Q : (Σ' (d0 : Dev nD), BitVec 32) → sProp 𝕄} :
    iprop(env m K ∗ (bigSep Finset.univ fun x : X => slotE c x) ∗ (dutyTok ER (barCell (peer 0 c)) 0 0 ∗ dutyTok ER (barCell (peer 1 c)) 0 1 ∗ dutyTok ER (barCell (peer 2 c)) 0 2)
      ∗ atPos ER (barCell c) 0 ∅ 0 ∗ cred (tallyAt (barCell c) () 3) ∗ (∃ W, owes (c : Thread nD τ) (owed0 c) W) ∗ xArr m c ∗ xsU c 0 ∗ zx c 0 ∗ win m c ∗ w16U c)
      ⊢ iprop((∀ v, iprop((bigSep Finset.univ fun x : X => slotE (peer (mi x) c) x) ∗ semVal (barCell c) 0 ∗ owesE c q0 ∗ xFl m c 0 2 ∗ win m c ∗ w16V m c) -∗ Q ⟨c, v⟩)
        -∗ wp frame (wpE (defs₀ (F := F)) 𝒱₀ (c : Thread nD τ) none) Set.univ (k0_part1 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14) Q) := by
  rw [k0_part1_eq_skeleton]
  unfold k0_part1_skel
  simp only [semSignalWord, semWaitWord, Prog.lift, Prog.bind_op, Prog.bind_ret, Prog.pure_eq_ret, wp_deviceId]
  rw [bigSep_masks]
  iintro ⟨#He, ⟨Hs0, Hs1, Hs2⟩, ⟨Ht0, Ht1, Ht2⟩, Hat, Hc, ⟨%W, Ho⟩, Hx, Hb0, Hz0, Hw, Hq⟩ Hk
  iapply (x_copy m c 0 0 rfl 2 2#32 rfl rfl) $$ [Hx Hb0 Hz0]
  · isplitl [Hx]; · iexact Hx
    isplitl [Hb0]; · iexact Hb0
    iexact Hz0
  iintro Hf0
  iapply (signal m K c _ 0 _ (dev1_eq c) rfl (owed1 c)) $$ [Hs0 Ht0 Ho]
  · isplitr; · iexact He
    isplitl [Hs0]; · iexact Hs0
    isplitl [Ht0]; · iexact Ht0
    iexact Ho
  iintro Ho
  iapply (signal m K c _ 1 _ (dev2_eq c) rfl (owed2 c)) $$ [Hs1 Ht1 Ho]
  · isplitr; · iexact He
    isplitl [Hs1]; · iexact Hs1
    isplitl [Ht1]; · iexact Ht1
    iexact Ho
  iintro Ho
  iapply (signal m K c _ 2 _ (dev3_eq c) rfl (owedL sendOrder c)) $$ [Hs2 Ht2 Ho]
  · isplitr; · iexact He
    isplitl [Hs2]; · iexact Hs2
    isplitl [Ht2]; · iexact Ht2
    iexact Ho
  iintro Ho
  iapply (bar_wait m K c _ rfl) $$ [Hc Hat Ho]
  · isplitr; · iexact He
    isplitl [Hc]; · iexact Hc
    isplitl [Hat]; · iexact Hat
    unfold owesE
    iexists W; iexact Ho
  iintro ⟨Hsl, Hbar, Ho⟩
  iapply (load_win m c) $$ [Hw]
  · iexact Hw
  iintro Hw
  iapply (load_w16U c) $$ [Hq]
  · iexact Hq
  iintro %v Hq
  iapply (store_w16 m c rfl) $$ [Hq]
  · iexact Hq
  iintro Hq
  rw [wp_ret]
  iapply Hk $$ [Hsl Hbar Ho Hf0 Hw Hq]
  isplitl [Hsl]; · iexact Hsl
  isplitl [Hbar]; · iexact Hbar
  isplitl [Ho]; · iexact Ho
  isplitl [Hf0]; · iexact Hf0
  isplitl [Hw]; · iexact Hw
  iexact Hq

theorem part2_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ xFl m c 0 2 ∗ owesE c q0 ∗ xsU c 1 ∗ zx c 1 ∗ w16V m c ∗ rowU c 2)
      ⊢ iprop((iprop(accP m c 2 0 0 ∗ accP m c 2 1 0 ∗ accP m c 2 2 0 ∗ owesE c q0 ∗ w16V m c ∗ xFl m c 1 7 ∗ xsU c 0 ∗ zx c 0) -∗ Q ⟨⟩)
        -∗ wp frame (wpE (defs₀ (F := F)) 𝒱₀ (c : Thread nD τ) none) Set.univ (k0_part2 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2) Q) := by
  rw [k0_part2_eq_skeleton]
  unfold k0_part2_skel
  simp only [Prog.lift, Prog.bind_op, Prog.bind_ret, Prog.pure_eq_ret]
  iintro ⟨#He, Hf0, Ho, Hb1, Hz1, Hq, Hr2⟩ Hk
  iapply (x_wait m K c 0 2 q0 _ rfl (xcredit 0 _)) $$ [Hf0 Ho]
  · isplitr; · iexact He
    isplitl [Hf0]; · iexact Hf0
    iexact Ho
  iintro ⟨Hx, Hb0, Hz0, Ho⟩
  iapply (x_copy m c 1 1 rfl 7 7#32 rfl rfl) $$ [Hx Hb1 Hz1]
  · isplitl [Hx]; · iexact Hx
    isplitl [Hb1]; · iexact Hb1
    iexact Hz1
  iintro Hf1
  iapply (load_x m c 0 0 rfl 2) $$ [Hb0]
  · iexact Hb0
  iintro Hb0
  iapply (load_w16 m c) $$ [Hq]
  · iexact Hq
  iintro Hq
  iapply (load_row c 2 2 rfl) $$ [Hr2]
  · iexact Hr2
  iintro %v Hr2
  iapply (store_row m c 2 2 rfl (pay2_eq m c 2)) $$ [Hr2]
  · iexact Hr2
  iintro ⟨Ha20, Ha21, Ha22⟩
  rw [wp_ret]
  iapply Hk $$ [Ha20 Ha21 Ha22 Ho Hq Hf1 Hb0 Hz0]
  isplitl [Ha20]; · iexact Ha20
  isplitl [Ha21]; · iexact Ha21
  isplitl [Ha22]; · iexact Ha22
  isplitl [Ho]; · iexact Ho
  isplitl [Hq]; · iexact Hq
  isplitl [Hf1]; · iexact Hf1
  isplitl [Hb0]; · iexact Hb0
  iexact Hz0

theorem part3_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (BitVec 32) → sProp 𝕄} :
    iprop(env m K ∗ owesE c q0 ∗ sd c (0, 0) ∗ accP m c 2 0 0 ∗ xFl m c 1 7 ∗ xsU c 0 ∗ zx c 0 ∗ w16V m c ∗ rowU c 7)
      ⊢ iprop((∀ v, iprop(accP m c 7 0 0 ∗ accP m c 7 1 0 ∗ accP m c 7 2 0 ∗ owesE c q1 ∗ sn c (0, 0) ∗ w16V m c ∗ xFl m c 0 5 ∗ xsU c 1 ∗ zx c 1) -∗ Q v)
        -∗ wp frame (wpE (defs₀ (F := F)) 𝒱₀ (c : Thread nD τ) none) Set.univ (k0_part3 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2) Q) := by
  rw [k0_part3_eq_skeleton]
  unfold k0_part3_skel
  simp only [Prog.lift, Prog.bind_op, Prog.bind_ret, Prog.pure_eq_ret]
  iintro ⟨#He, Ho, Hd00, Ha20, Hf1, Hb0, Hz0, Hq, Hr7⟩ Hk
  iapply (send0 m K c _ 0 0 2 q1 (dev4_eq c) rfl rfl rfl rfl) $$ [Hd00 Ha20 Ho]
  · isplitr; · iexact He
    isplitl [Hd00]; · iexact Hd00
    isplitl [Ha20]; · iexact Ha20
    iexact Ho
  iintro ⟨Hn00, Ho⟩
  iapply (x_wait m K c 1 7 q1 _ rfl (xcredit 1 _)) $$ [Hf1 Ho]
  · isplitr; · iexact He
    isplitl [Hf1]; · iexact Hf1
    iexact Ho
  iintro ⟨Hx, Hb1, Hz1, Ho⟩
  iapply (x_copy m c 0 0 rfl 5 5#32 rfl rfl) $$ [Hx Hb0 Hz0]
  · isplitl [Hx]; · iexact Hx
    isplitl [Hb0]; · iexact Hb0
    iexact Hz0
  iintro Hf0
  iapply (load_x m c 1 1 rfl 7) $$ [Hb1]
  · iexact Hb1
  iintro Hb1
  iapply (load_w16 m c) $$ [Hq]
  · iexact Hq
  iintro Hq
  iapply (load_row c 7 7 rfl) $$ [Hr7]
  · iexact Hr7
  iintro %v Hr7
  iapply (store_row m c 7 7 rfl (pay3_eq m c 7)) $$ [Hr7]
  · iexact Hr7
  iintro ⟨Ha70, Ha71, Ha72⟩
  rw [wp_ret]
  iapply Hk $$ [Ha70 Ha71 Ha72 Ho Hn00 Hq Hf0 Hb1 Hz1]
  isplitl [Ha70]; · iexact Ha70
  isplitl [Ha71]; · iexact Ha71
  isplitl [Ha72]; · iexact Ha72
  isplitl [Ho]; · iexact Ho
  isplitl [Hn00]; · iexact Hn00
  isplitl [Hq]; · iexact Hq
  isplitl [Hf0]; · iexact Hf0
  isplitl [Hb1]; · iexact Hb1
  iexact Hz1

theorem part4_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) (v79 : BitVec 32) {Q : (FVec F S512x2048 .bf16) → sProp 𝕄} :
    iprop(env m K ∗ owesE c q1 ∗ sd c (1, 0) ∗ accP m c 7 1 0 ∗ xFl m c 0 5 ∗ xsU c 1 ∗ zx c 1 ∗ w16V m c)
      ⊢ iprop((iprop(owesE c q2 ∗ sn c (1, 0) ∗ w16V m c ∗ xFl m c 1 6 ∗ xsU c 0 ∗ zx c 0) -∗ Q (k0_pay4 (xld m c 5) (W16 m c)))
        -∗ wp frame (wpE (defs₀ (F := F)) 𝒱₀ (c : Thread nD τ) none) Set.univ (k0_part4 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2 v79) Q) := by
  rw [k0_part4_eq_skeleton]
  unfold k0_part4_skel
  simp only [Prog.lift, Prog.bind_op, Prog.bind_ret, Prog.pure_eq_ret]
  iintro ⟨#He, Ho, Hd10, Ha71, Hf0, Hb1, Hz1, Hq⟩ Hk
  iapply (send1 m K c _ 0 0 7 q2 (dev5_eq c) rfl rfl rfl rfl) $$ [Hd10 Ha71 Ho]
  · isplitr; · iexact He
    isplitl [Hd10]; · iexact Hd10
    isplitl [Ha71]; · iexact Ha71
    iexact Ho
  iintro ⟨Hn10, Ho⟩
  iapply (x_wait m K c 0 5 q2 _ rfl (xcredit 0 _)) $$ [Hf0 Ho]
  · isplitr; · iexact He
    isplitl [Hf0]; · iexact Hf0
    iexact Ho
  iintro ⟨Hx, Hb0, Hz0, Ho⟩
  iapply (x_copy m c 1 1 rfl 6 6#32 rfl rfl) $$ [Hx Hb1 Hz1]
  · isplitl [Hx]; · iexact Hx
    isplitl [Hb1]; · iexact Hb1
    iexact Hz1
  iintro Hf1
  iapply (load_x m c 0 0 rfl 5) $$ [Hb0]
  · iexact Hb0
  iintro Hb0
  iapply (load_w16 m c) $$ [Hq]
  · iexact Hq
  iintro Hq
  rw [wp_ret]
  iapply Hk $$ [Ho Hn10 Hq Hf1 Hb0 Hz0]
  isplitl [Ho]; · iexact Ho
  isplitl [Hn10]; · iexact Hn10
  isplitl [Hq]; · iexact Hq
  isplitl [Hf1]; · iexact Hf1
  isplitl [Hb0]; · iexact Hb0
  iexact Hz0

theorem part5_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (FVec F S512x512 .bf16) → sProp 𝕄} :
    iprop(env m K ∗ rowU c 5 ∗ owesE c q2 ∗ sd c (2, 0) ∗ xFl m c 1 6 ∗ xsU c 0 ∗ zx c 0)
      ⊢ iprop((iprop(accP m c 5 0 0 ∗ accP m c 5 1 0 ∗ owesE c q3 ∗ sn c (2, 0) ∗ xFl m c 0 1 ∗ xsU c 1 ∗ zx c 1) -∗ Q (k0_pay6 (xld m c 6)))
        -∗ wp frame (wpE (defs₀ (F := F)) 𝒱₀ (c : Thread nD τ) none) Set.univ (k0_part5 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2 (k0_pay4 (xld m c 5) (W16 m c))) Q) := by
  rw [k0_part5_eq_skeleton]
  unfold k0_part5_skel
  simp only [Prog.lift, Prog.bind_op, Prog.bind_ret, Prog.pure_eq_ret]
  iintro ⟨#He, Hr5, Ho, Hd20, Hf1, Hb0, Hz0⟩ Hk
  iapply (load_row c 5 5 rfl) $$ [Hr5]
  · iexact Hr5
  iintro %v Hr5
  iapply (store_row m c 5 5 rfl (pay5_eq m c 5)) $$ [Hr5]
  · iexact Hr5
  iintro ⟨Ha50, Ha51, Ha52⟩
  iapply (send2 m K c _ 0 0 5 q3 (dev6_eq c) rfl rfl rfl rfl) $$ [Hd20 Ha52 Ho]
  · isplitr; · iexact He
    isplitl [Hd20]; · iexact Hd20
    isplitl [Ha52]; · iexact Ha52
    iexact Ho
  iintro ⟨Hn20, Ho⟩
  iapply (x_wait m K c 1 6 q3 _ rfl (xcredit 1 _)) $$ [Hf1 Ho]
  · isplitr; · iexact He
    isplitl [Hf1]; · iexact Hf1
    iexact Ho
  iintro ⟨Hx, Hb1, Hz1, Ho⟩
  iapply (x_copy m c 0 0 rfl 1 1#32 rfl rfl) $$ [Hx Hb0 Hz0]
  · isplitl [Hx]; · iexact Hx
    isplitl [Hb0]; · iexact Hb0
    iexact Hz0
  iintro Hf0
  iapply (load_x m c 1 1 rfl 6) $$ [Hb1]
  · iexact Hb1
  iintro Hb1
  rw [wp_ret]
  iapply Hk $$ [Ha50 Ha51 Ho Hn20 Hf0 Hb1 Hz1]
  isplitl [Ha50]; · iexact Ha50
  isplitl [Ha51]; · iexact Ha51
  isplitl [Ho]; · iexact Ho
  isplitl [Hn20]; · iexact Hn20
  isplitl [Hf0]; · iexact Hf0
  isplitl [Hb1]; · iexact Hb1
  iexact Hz1

theorem part6_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (BitVec 32) → sProp 𝕄} :
    iprop(env m K ∗ w16V m c ∗ rowU c 6 ∗ owesE c q3 ∗ sd c (0, 1) ∗ sd c (0, 2) ∗ accP m c 5 0 0)
      ⊢ iprop((∀ v, iprop(accP m c 6 1 0 ∗ accP m c 6 2 0 ∗ owesE c q5 ∗ sn c (0, 1) ∗ sn c (0, 2) ∗ w16V m c) -∗ Q v)
        -∗ wp frame (wpE (defs₀ (F := F)) 𝒱₀ (c : Thread nD τ) none) Set.univ (k0_part6 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2 (k0_pay6 (xld m c 6))) Q) := by
  rw [k0_part6_eq_skeleton]
  unfold k0_part6_skel
  simp only [Prog.lift, Prog.bind_op, Prog.bind_ret, Prog.pure_eq_ret]
  iintro ⟨#He, Hq, Hr6, Ho, Hd01, Hd02, Ha50⟩ Hk
  iapply (load_w16 m c) $$ [Hq]
  · iexact Hq
  iintro Hq
  iapply (load_row c 6 6 rfl) $$ [Hr6]
  · iexact Hr6
  iintro %v Hr6
  iapply (store_row m c 6 6 rfl (pay7_eq m c 6)) $$ [Hr6]
  · iexact Hr6
  iintro ⟨Ha60, Ha61, Ha62⟩
  iapply (send0 m K c _ 1 1 6 q4 (dev7_eq c) rfl rfl rfl rfl) $$ [Hd01 Ha60 Ho]
  · isplitr; · iexact He
    isplitl [Hd01]; · iexact Hd01
    isplitl [Ha60]; · iexact Ha60
    iexact Ho
  iintro ⟨Hn01, Ho⟩
  iapply (send0 m K c _ 2 2 5 q5 (dev8_eq c) rfl rfl rfl rfl) $$ [Hd02 Ha50 Ho]
  · isplitr; · iexact He
    isplitl [Hd02]; · iexact Hd02
    isplitl [Ha50]; · iexact Ha50
    iexact Ho
  iintro ⟨Hn02, Ho⟩
  rw [wp_ret]
  iapply Hk $$ [Ha61 Ha62 Ho Hn01 Hn02 Hq]
  isplitl [Ha61]; · iexact Ha61
  isplitl [Ha62]; · iexact Ha62
  isplitl [Ho]; · iexact Ho
  isplitl [Hn01]; · iexact Hn01
  isplitl [Hn02]; · iexact Hn02
  iexact Hq

end Cert.Butterfly
-- ==== Proof.PartsB.lean ====
module

public import proofs.«01_k».proof.Proof.Pays

/-!
# The body, parts 7 to 12

More rows of the partial product. Each part from what it needs to what it leaves.
-/

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ)

set_option maxRecDepth 65536

theorem part7_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) (c3_i32_150 : BitVec 32) {Q : (PUnit) → sProp 𝕄} :
    iprop(env m K ∗ owesE c q5 ∗ sd c (1, 1) ∗ accP m c 6 1 0 ∗ sd c (1, 2) ∗ accP m c 2 1 0)
      ⊢ iprop((iprop(owesE c q7 ∗ sn c (1, 1) ∗ sn c (1, 2)) -∗ Q ⟨⟩)
        -∗ wp frame (wpE (defs₀ (F := F)) 𝒱₀ (c : Thread nD τ) none) Set.univ (k0_part7 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2 c3_i32_150) Q) := by
  rw [k0_part7_eq_skeleton]
  unfold k0_part7_skel
  simp only [Prog.lift, Prog.bind_op, Prog.bind_ret, Prog.pure_eq_ret]
  iintro ⟨#He, Ho, Hd11, Ha61, Hd12, Ha21⟩ Hk
  iapply (send1 m K c _ 1 1 6 q6 (dev9_eq c) rfl rfl rfl rfl) $$ [Hd11 Ha61 Ho]
  · isplitr; · iexact He
    isplitl [Hd11]; · iexact Hd11
    isplitl [Ha61]; · iexact Ha61
    iexact Ho
  iintro ⟨Hn11, Ho⟩
  iapply (send1 m K c _ 2 2 2 q7 (dev10_eq c) rfl rfl rfl rfl) $$ [Hd12 Ha21 Ho]
  · isplitr; · iexact He
    isplitl [Hd12]; · iexact Hd12
    isplitl [Ha21]; · iexact Ha21
    iexact Ho
  iintro ⟨Hn12, Ho⟩
  rw [wp_ret]
  iapply Hk $$ [Ho Hn11 Hn12]
  isplitl [Ho]; · iexact Ho
  isplitl [Hn11]; · iexact Hn11
  iexact Hn12

theorem part8_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ owesE c q7 ∗ sd c (2, 1) ∗ accP m c 6 2 0 ∗ sd c (2, 2) ∗ accP m c 7 2 0 ∗ xFl m c 0 1 ∗ xsU c 1 ∗ zx c 1)
      ⊢ iprop((iprop(owesE c q9 ∗ sn c (2, 1) ∗ sn c (2, 2) ∗ xFl m c 1 3 ∗ xsV m c 0 1 ∗ zx c 0) -∗ Q ⟨⟩)
        -∗ wp frame (wpE (defs₀ (F := F)) 𝒱₀ (c : Thread nD τ) none) Set.univ (k0_part8 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2) Q) := by
  rw [k0_part8_eq_skeleton]
  unfold k0_part8_skel
  simp only [Prog.lift, Prog.bind_op, Prog.bind_ret, Prog.pure_eq_ret]
  iintro ⟨#He, Ho, Hd21, Ha62, Hd22, Ha72, Hf0, Hb1, Hz1⟩ Hk
  iapply (send2 m K c _ 1 1 6 q8 (dev11_eq c) rfl rfl rfl rfl) $$ [Hd21 Ha62 Ho]
  · isplitr; · iexact He
    isplitl [Hd21]; · iexact Hd21
    isplitl [Ha62]; · iexact Ha62
    iexact Ho
  iintro ⟨Hn21, Ho⟩
  iapply (send2 m K c _ 2 2 7 q9 (dev12_eq c) rfl rfl rfl rfl) $$ [Hd22 Ha72 Ho]
  · isplitr; · iexact He
    isplitl [Hd22]; · iexact Hd22
    isplitl [Ha72]; · iexact Ha72
    iexact Ho
  iintro ⟨Hn22, Ho⟩
  iapply (x_wait m K c 0 1 q9 _ rfl (xcredit 0 _)) $$ [Hf0 Ho]
  · isplitr; · iexact He
    isplitl [Hf0]; · iexact Hf0
    iexact Ho
  iintro ⟨Hx, Hb0, Hz0, Ho⟩
  iapply (x_copy m c 1 1 rfl 3 3#32 rfl rfl) $$ [Hx Hb1 Hz1]
  · isplitl [Hx]; · iexact Hx
    isplitl [Hb1]; · iexact Hb1
    iexact Hz1
  iintro Hf1
  rw [wp_ret]
  iapply Hk $$ [Ho Hn21 Hn22 Hf1 Hb0 Hz0]
  isplitl [Ho]; · iexact Ho
  isplitl [Hn21]; · iexact Hn21
  isplitl [Hn22]; · iexact Hn22
  isplitl [Hf1]; · iexact Hf1
  isplitl [Hb0]; · iexact Hb0
  iexact Hz0

theorem part9_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ xsV m c 0 1 ∗ w16V m c ∗ rowU c 1 ∗ owesE c q9 ∗ sd c (0, 3) ∗ xFl m c 1 3)
      ⊢ iprop((iprop(accP m c 1 1 0 ∗ accP m c 1 2 0 ∗ owesE c q10 ∗ sn c (0, 3) ∗ w16V m c ∗ xArr m c ∗ xsU c 0 ∗ xsV m c 1 3 ∗ zx c 1) -∗ Q ⟨⟩)
        -∗ wp frame (wpE (defs₀ (F := F)) 𝒱₀ (c : Thread nD τ) none) Set.univ (k0_part9 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2) Q) := by
  rw [k0_part9_eq_skeleton]
  unfold k0_part9_skel
  simp only [Prog.lift, Prog.bind_op, Prog.bind_ret, Prog.pure_eq_ret]
  iintro ⟨#He, Hb0, Hq, Hr1, Ho, Hd03, Hf1⟩ Hk
  iapply (load_x m c 0 0 rfl 1) $$ [Hb0]
  · iexact Hb0
  iintro Hb0
  iapply (load_w16 m c) $$ [Hq]
  · iexact Hq
  iintro Hq
  iapply (load_row c 1 1 rfl) $$ [Hr1]
  · iexact Hr1
  iintro %v Hr1
  iapply (store_row m c 1 1 rfl (pay8_eq m c 1)) $$ [Hr1]
  · iexact Hr1
  iintro ⟨Ha10, Ha11, Ha12⟩
  iapply (send0 m K c _ 3 3 1 q10 (dev13_eq c) rfl rfl rfl rfl) $$ [Hd03 Ha10 Ho]
  · isplitr; · iexact He
    isplitl [Hd03]; · iexact Hd03
    isplitl [Ha10]; · iexact Ha10
    iexact Ho
  iintro ⟨Hn03, Ho⟩
  iapply (x_wait m K c 1 3 q10 _ rfl (xcredit 1 _)) $$ [Hf1 Ho]
  · isplitr; · iexact He
    isplitl [Hf1]; · iexact Hf1
    iexact Ho
  iintro ⟨Hx, Hb1, Hz1, Ho⟩
  rw [wp_ret]
  iapply Hk $$ [Ha11 Ha12 Ho Hn03 Hq Hx Hb0 Hb1 Hz1]
  isplitl [Ha11]; · iexact Ha11
  isplitl [Ha12]; · iexact Ha12
  isplitl [Ho]; · iexact Ho
  isplitl [Hn03]; · iexact Hn03
  isplitl [Hq]; · iexact Hq
  isplitl [Hx]; · iexact Hx
  isplitl [Hb0]; · iexact Hb0
  isplitl [Hb1]; · iexact Hb1
  iexact Hz1

theorem part10_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ xArr m c ∗ xsU c 0 ∗ zx c 0 ∗ xsV m c 1 3 ∗ w16V m c ∗ rowU c 3 ∗ owesE c q10 ∗ sd c (1, 3))
      ⊢ iprop((iprop(accP m c 3 0 0 ∗ accP m c 3 2 0 ∗ owesE c q11 ∗ sn c (1, 3) ∗ w16V m c ∗ xFl m c 0 4 ∗ xsU c 1) -∗ Q ⟨⟩)
        -∗ wp frame (wpE (defs₀ (F := F)) 𝒱₀ (c : Thread nD τ) none) Set.univ (k0_part10 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2) Q) := by
  rw [k0_part10_eq_skeleton]
  unfold k0_part10_skel
  simp only [Prog.lift, Prog.bind_op, Prog.bind_ret, Prog.pure_eq_ret]
  iintro ⟨#He, Hx, Hb0, Hz0, Hb1, Hq, Hr3, Ho, Hd13⟩ Hk
  iapply (x_copy m c 0 0 rfl 4 4#32 rfl rfl) $$ [Hx Hb0 Hz0]
  · isplitl [Hx]; · iexact Hx
    isplitl [Hb0]; · iexact Hb0
    iexact Hz0
  iintro Hf0
  iapply (load_x m c 1 1 rfl 3) $$ [Hb1]
  · iexact Hb1
  iintro Hb1
  iapply (load_w16 m c) $$ [Hq]
  · iexact Hq
  iintro Hq
  iapply (load_row c 3 3 rfl) $$ [Hr3]
  · iexact Hr3
  iintro %v Hr3
  iapply (store_row m c 3 3 rfl (pay9_eq m c 3)) $$ [Hr3]
  · iexact Hr3
  iintro ⟨Ha30, Ha31, Ha32⟩
  iapply (send1 m K c _ 3 3 3 q11 (dev14_eq c) rfl rfl rfl rfl) $$ [Hd13 Ha31 Ho]
  · isplitr; · iexact He
    isplitl [Hd13]; · iexact Hd13
    isplitl [Ha31]; · iexact Ha31
    iexact Ho
  iintro ⟨Hn13, Ho⟩
  rw [wp_ret]
  iapply Hk $$ [Ha30 Ha32 Ho Hn13 Hq Hf0 Hb1]
  isplitl [Ha30]; · iexact Ha30
  isplitl [Ha32]; · iexact Ha32
  isplitl [Ho]; · iexact Ho
  isplitl [Hn13]; · iexact Hn13
  isplitl [Hq]; · iexact Hq
  isplitl [Hf0]; · iexact Hf0
  iexact Hb1

theorem part11_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ xFl m c 0 4 ∗ owesE c q11 ∗ xsU c 1 ∗ zx c 1 ∗ w16V m c ∗ rowU c 4 ∗ sd c (2, 3))
      ⊢ iprop((iprop(accP m c 4 0 0 ∗ accP m c 4 1 0 ∗ owesE c q12 ∗ sn c (2, 3) ∗ w16V m c ∗ xFl m c 1 0 ∗ xsU c 0 ∗ zx c 0) -∗ Q ⟨⟩)
        -∗ wp frame (wpE (defs₀ (F := F)) 𝒱₀ (c : Thread nD τ) none) Set.univ (k0_part11 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2) Q) := by
  rw [k0_part11_eq_skeleton]
  unfold k0_part11_skel
  simp only [Prog.lift, Prog.bind_op, Prog.bind_ret, Prog.pure_eq_ret]
  iintro ⟨#He, Hf0, Ho, Hb1, Hz1, Hq, Hr4, Hd23⟩ Hk
  iapply (x_wait m K c 0 4 q11 _ rfl (xcredit 0 _)) $$ [Hf0 Ho]
  · isplitr; · iexact He
    isplitl [Hf0]; · iexact Hf0
    iexact Ho
  iintro ⟨Hx, Hb0, Hz0, Ho⟩
  iapply (x_copy m c 1 1 rfl 0 0#32 rfl rfl) $$ [Hx Hb1 Hz1]
  · isplitl [Hx]; · iexact Hx
    isplitl [Hb1]; · iexact Hb1
    iexact Hz1
  iintro Hf1
  iapply (load_x m c 0 0 rfl 4) $$ [Hb0]
  · iexact Hb0
  iintro Hb0
  iapply (load_w16 m c) $$ [Hq]
  · iexact Hq
  iintro Hq
  iapply (load_row c 4 4 rfl) $$ [Hr4]
  · iexact Hr4
  iintro %v Hr4
  iapply (store_row m c 4 4 rfl (pay10_eq m c 4)) $$ [Hr4]
  · iexact Hr4
  iintro ⟨Ha40, Ha41, Ha42⟩
  iapply (send2 m K c _ 3 3 4 q12 (dev15_eq c) rfl rfl rfl rfl) $$ [Hd23 Ha42 Ho]
  · isplitr; · iexact He
    isplitl [Hd23]; · iexact Hd23
    isplitl [Ha42]; · iexact Ha42
    iexact Ho
  iintro ⟨Hn23, Ho⟩
  rw [wp_ret]
  iapply Hk $$ [Ha40 Ha41 Ho Hn23 Hq Hf1 Hb0 Hz0]
  isplitl [Ha40]; · iexact Ha40
  isplitl [Ha41]; · iexact Ha41
  isplitl [Ho]; · iexact Ho
  isplitl [Hn23]; · iexact Hn23
  isplitl [Hq]; · iexact Hq
  isplitl [Hf1]; · iexact Hf1
  isplitl [Hb0]; · iexact Hb0
  iexact Hz0

theorem part12_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (Σ' (v329 : FVec F S512x640 .bf16), FVec F S512x640 .bf16) → sProp 𝕄} :
    iprop(env m K ∗ xFl m c 1 0 ∗ owesE c q12 ∗ w16V m c ∗ rowU c 0 ∗ rv c (1, 0) ∗ accP m c 4 1 0)
      ⊢ iprop((iprop(accP m c 0 0 0 ∗ accP m c 0 1 0 ∗ accP m c 0 2 0 ∗ accP m c 4 1 0 ∗ owesE c q12 ∗ slotV m c (1, 0) ∗ w16V m c ∗ xArr m c ∗ xsU c 1 ∗ zr c (1, 0) ∗ zx c 1) -∗ Q ⟨k0_pay12 ((accW.access (accR1 4 inb_S8x512x2048_S1x512x640_4_0_768)).read (Elt F) (AB m 0 c)), k0_pay13 ((stW1.access (stR1 0 inb_S7x512x640_S1x512x640_0_0_0)).read (Elt F) (SB m 1 hn1 c))⟩)
        -∗ wp frame (wpE (defs₀ (F := F)) 𝒱₀ (c : Thread nD τ) none) Set.univ (k0_part12 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part12_eq_skeleton]
  unfold k0_part12_skel
  simp only [Prog.lift, Prog.bind_op, Prog.bind_ret, Prog.pure_eq_ret]
  iintro ⟨#He, Hf1, Ho, Hq, Hr0, Hv10, Ha41⟩ Hk
  iapply (x_wait m K c 1 0 q12 _ rfl (xcredit 1 _)) $$ [Hf1 Ho]
  · isplitr; · iexact He
    isplitl [Hf1]; · iexact Hf1
    iexact Ho
  iintro ⟨Hx, Hb1, Hz1, Ho⟩
  iapply (load_x m c 1 1 rfl 0) $$ [Hb1]
  · iexact Hb1
  iintro Hb1
  iapply (load_w16 m c) $$ [Hq]
  · iexact Hq
  iintro Hq
  iapply (load_row c 0 0 rfl) $$ [Hr0]
  · iexact Hr0
  iintro %v Hr0
  iapply (store_row m c 0 0 rfl (pay11_eq m c 0)) $$ [Hr0]
  · iexact Hr0
  iintro ⟨Ha00, Ha01, Ha02⟩
  iapply (recv_wait m K c (1, 0) q12 (by decide) _ rfl (credit1 0 _)) $$ [Hv10 Ho]
  · isplitr; · iexact He
    isplitl [Hv10]; · iexact Hv10
    iexact Ho
  iintro ⟨Hl10, Ht10, Ho⟩
  iapply (load_acc1 m c 4 0 4 rfl) $$ [Ha41]
  · iexact Ha41
  iintro Ha41
  iapply (load_st1 m c 0 0 rfl) $$ [Hl10]
  · iexact Hl10
  iintro Hl10
  rw [wp_ret]
  iapply Hk $$ [Ha00 Ha01 Ha02 Ha41 Ho Hl10 Hq Hx Hb1 Ht10 Hz1]
  isplitl [Ha00]; · iexact Ha00
  isplitl [Ha01]; · iexact Ha01
  isplitl [Ha02]; · iexact Ha02
  isplitl [Ha41]; · iexact Ha41
  isplitl [Ho]; · iexact Ho
  isplitl [Hl10]; · iexact Hl10
  isplitl [Hq]; · iexact Hq
  isplitl [Hx]; · iexact Hx
  isplitl [Hb1]; · iexact Hb1
  isplitl [Ht10]; · iexact Ht10
  iexact Hz1

end Cert.Butterfly
-- ==== Proof.PartsC.lean ====
module

public import proofs.«01_k».proof.Proof.Pays

/-!
# The body, parts 13 to 18

Arrivals of the first phase added and sent on. Each part from what it needs to what it leaves.
-/

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ)

set_option maxRecDepth 65536

theorem part13_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ accP m c 4 1 0 ∗ rv c (2, 0) ∗ owesE c q12 ∗ accP m c 1 2 0)
      ⊢ iprop((iprop(accP m c 1 2 1 ∗ accP m c 4 1 1 ∗ owesE c q12 ∗ slotV m c (2, 0) ∗ zr c (2, 0)) -∗ Q ⟨⟩)
        -∗ wp frame (wpE (defs₀ (F := F)) 𝒱₀ (c : Thread nD τ) none) Set.univ (k0_part13 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2 (k0_pay12 ((accW.access (accR1 4 inb_S8x512x2048_S1x512x640_4_0_768)).read (Elt F) (AB m 0 c))) (k0_pay13 ((stW1.access (stR1 0 inb_S7x512x640_S1x512x640_0_0_0)).read (Elt F) (SB m 1 hn1 c)))) Q) := by
  rw [k0_part13_eq_skeleton]
  unfold k0_part13_skel
  simp only [Prog.lift, Prog.bind_op, Prog.bind_ret, Prog.pure_eq_ret]
  iintro ⟨#He, Ha41, Hv20, Ho, Ha12⟩ Hk
  iapply (load_acc1 m c 4 0 4 rfl) $$ [Ha41]
  · iexact Ha41
  iintro Ha41
  iapply (store_acc1 m c 4 0 1 4 rfl ((pay14_eq _ _).trans (addRow1 m c 0 0 1 4 0 rfl rfl rfl rfl))) $$ [Ha41]
  · iexact Ha41
  iintro Ha41
  iapply (recv_wait m K c (2, 0) q12 (by decide) _ rfl (credit2 0 _)) $$ [Hv20 Ho]
  · isplitr; · iexact He
    isplitl [Hv20]; · iexact Hv20
    iexact Ho
  iintro ⟨Hl20, Ht20, Ho⟩
  iapply (load_acc2 m c 1 0 1 rfl) $$ [Ha12]
  · iexact Ha12
  iintro Ha12
  iapply (load_st2 m c 0 0 rfl) $$ [Hl20]
  · iexact Hl20
  iintro Hl20
  iapply (load_acc2 m c 1 0 1 rfl) $$ [Ha12]
  · iexact Ha12
  iintro Ha12
  iapply (store_acc2 m c 1 0 1 1 rfl ((pay15_eq _ _).trans (addRow2 m c 0 0 1 1 0 rfl rfl rfl rfl))) $$ [Ha12]
  · iexact Ha12
  iintro Ha12
  rw [wp_ret]
  iapply Hk $$ [Ha12 Ha41 Ho Hl20 Ht20]
  isplitl [Ha12]; · iexact Ha12
  isplitl [Ha41]; · iexact Ha41
  isplitl [Ho]; · iexact Ho
  isplitl [Hl20]; · iexact Hl20
  iexact Ht20

theorem part14_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (FVec F S512x640 .bf16) → sProp 𝕄} :
    iprop(env m K ∗ rv c (0, 0) ∗ owesE c q12 ∗ accP m c 3 0 0 ∗ rv c (1, 1) ∗ accP m c 5 1 0)
      ⊢ iprop((iprop(accP m c 3 0 1 ∗ accP m c 5 1 0 ∗ owesE c q12 ∗ slotV m c (0, 0) ∗ slotV m c (1, 1) ∗ zr c (0, 0) ∗ zr c (1, 1)) -∗ Q (k0_pay17 ((accW.access (accR1 5 inb_S8x512x2048_S1x512x640_5_0_768)).read (Elt F) (AB m 0 c)) ((stW1.access (stR1 1 inb_S7x512x640_S1x512x640_1_0_0)).read (Elt F) (SB m 1 hn1 c))))
        -∗ wp frame (wpE (defs₀ (F := F)) 𝒱₀ (c : Thread nD τ) none) Set.univ (k0_part14 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part14_eq_skeleton]
  unfold k0_part14_skel
  simp only [Prog.lift, Prog.bind_op, Prog.bind_ret, Prog.pure_eq_ret]
  iintro ⟨#He, Hv00, Ho, Ha30, Hv11, Ha51⟩ Hk
  iapply (recv_wait m K c (0, 0) q12 (by decide) _ rfl (credit0 0 _)) $$ [Hv00 Ho]
  · isplitr; · iexact He
    isplitl [Hv00]; · iexact Hv00
    iexact Ho
  iintro ⟨Hl00, Ht00, Ho⟩
  iapply (load_acc0 m c 3 0 3 rfl) $$ [Ha30]
  · iexact Ha30
  iintro Ha30
  iapply (load_st0 m c 0 0 rfl) $$ [Hl00]
  · iexact Hl00
  iintro Hl00
  iapply (load_acc0 m c 3 0 3 rfl) $$ [Ha30]
  · iexact Ha30
  iintro Ha30
  iapply (store_acc0 m c 3 0 1 3 rfl ((pay16_eq _ _).trans (addRow0 m c 0 0 1 3 0 rfl rfl rfl rfl))) $$ [Ha30]
  · iexact Ha30
  iintro Ha30
  iapply (recv_wait m K c (1, 1) q12 (by decide) _ rfl (credit1 1 _)) $$ [Hv11 Ho]
  · isplitr; · iexact He
    isplitl [Hv11]; · iexact Hv11
    iexact Ho
  iintro ⟨Hl11, Ht11, Ho⟩
  iapply (load_acc1 m c 5 0 5 rfl) $$ [Ha51]
  · iexact Ha51
  iintro Ha51
  iapply (load_st1 m c 1 1 rfl) $$ [Hl11]
  · iexact Hl11
  iintro Hl11
  rw [wp_ret]
  iapply Hk $$ [Ha30 Ha51 Ho Hl00 Hl11 Ht00 Ht11]
  isplitl [Ha30]; · iexact Ha30
  isplitl [Ha51]; · iexact Ha51
  isplitl [Ho]; · iexact Ho
  isplitl [Hl00]; · iexact Hl00
  isplitl [Hl11]; · iexact Hl11
  isplitl [Ht00]; · iexact Ht00
  iexact Ht11

theorem part15_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (Σ' (v410 : BitVec 32), BitVec 32) → sProp 𝕄} :
    iprop(env m K ∗ accP m c 5 1 0 ∗ owesE c q12 ∗ sd c (1, 4) ∗ sd c (1, 5) ∗ accP m c 4 1 1)
      ⊢ iprop((∀ v, iprop(owesE c q14 ∗ sn c (1, 4) ∗ sn c (1, 5)) -∗ Q v)
        -∗ wp frame (wpE (defs₀ (F := F)) 𝒱₀ (c : Thread nD τ) none) Set.univ (k0_part15 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2 (k0_pay17 ((accW.access (accR1 5 inb_S8x512x2048_S1x512x640_5_0_768)).read (Elt F) (AB m 0 c)) ((stW1.access (stR1 1 inb_S7x512x640_S1x512x640_1_0_0)).read (Elt F) (SB m 1 hn1 c)))) Q) := by
  rw [k0_part15_eq_skeleton]
  unfold k0_part15_skel
  simp only [Prog.lift, Prog.bind_op, Prog.bind_ret, Prog.pure_eq_ret]
  iintro ⟨#He, Ha51, Ho, Hd14, Hd15, Ha41⟩ Hk
  iapply (load_acc1 m c 5 0 5 rfl) $$ [Ha51]
  · iexact Ha51
  iintro Ha51
  iapply (store_acc1 m c 5 0 1 5 rfl ((pay18_eq _ _).trans (addRow1 m c 1 0 1 5 1 rfl rfl rfl rfl))) $$ [Ha51]
  · iexact Ha51
  iintro Ha51
  iapply (send1 m K c _ 4 4 5 q13 (dev16_eq c) rfl rfl rfl rfl) $$ [Hd14 Ha51 Ho]
  · isplitr; · iexact He
    isplitl [Hd14]; · iexact Hd14
    isplitl [Ha51]; · iexact Ha51
    iexact Ho
  iintro ⟨Hn14, Ho⟩
  iapply (send1 m K c _ 5 5 4 q14 (dev17_eq c) rfl rfl rfl rfl) $$ [Hd15 Ha41 Ho]
  · isplitr; · iexact He
    isplitl [Hd15]; · iexact Hd15
    isplitl [Ha41]; · iexact Ha41
    iexact Ho
  iintro ⟨Hn15, Ho⟩
  rw [wp_ret]
  iapply Hk $$ [Ho Hn14 Hn15]
  isplitl [Ho]; · iexact Ho
  isplitl [Hn14]; · iexact Hn14
  iexact Hn15

theorem part16_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) (v410 : BitVec 32) (c0_i32_412 : BitVec 32) {Q : (Σ' (v437 : BitVec 32), BitVec 32) → sProp 𝕄} :
    iprop(env m K ∗ rv c (2, 1) ∗ owesE c q14 ∗ accP m c 2 2 0 ∗ sd c (2, 4))
      ⊢ iprop((∀ v, iprop(owesE c q15 ∗ slotV m c (2, 1) ∗ sn c (2, 4) ∗ zr c (2, 1)) -∗ Q v)
        -∗ wp frame (wpE (defs₀ (F := F)) 𝒱₀ (c : Thread nD τ) none) Set.univ (k0_part16 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2 v410 c0_i32_412) Q) := by
  rw [k0_part16_eq_skeleton]
  unfold k0_part16_skel
  simp only [Prog.lift, Prog.bind_op, Prog.bind_ret, Prog.pure_eq_ret]
  iintro ⟨#He, Hv21, Ho, Ha22, Hd24⟩ Hk
  iapply (recv_wait m K c (2, 1) q14 (by decide) _ rfl (credit2 1 _)) $$ [Hv21 Ho]
  · isplitr; · iexact He
    isplitl [Hv21]; · iexact Hv21
    iexact Ho
  iintro ⟨Hl21, Ht21, Ho⟩
  iapply (load_acc2 m c 2 0 2 rfl) $$ [Ha22]
  · iexact Ha22
  iintro Ha22
  iapply (load_st2 m c 1 1 rfl) $$ [Hl21]
  · iexact Hl21
  iintro Hl21
  iapply (load_acc2 m c 2 0 2 rfl) $$ [Ha22]
  · iexact Ha22
  iintro Ha22
  iapply (store_acc2 m c 2 0 1 2 rfl ((pay19_eq _ _).trans (addRow2 m c 1 0 1 2 1 rfl rfl rfl rfl))) $$ [Ha22]
  · iexact Ha22
  iintro Ha22
  iapply (send2 m K c _ 4 4 2 q15 (dev18_eq c) rfl rfl rfl rfl) $$ [Hd24 Ha22 Ho]
  · isplitr; · iexact He
    isplitl [Hd24]; · iexact Hd24
    isplitl [Ha22]; · iexact Ha22
    iexact Ho
  iintro ⟨Hn24, Ho⟩
  rw [wp_ret]
  iapply Hk $$ [Ho Hl21 Hn24 Ht21]
  isplitl [Ho]; · iexact Ho
  isplitl [Hl21]; · iexact Hl21
  isplitl [Hn24]; · iexact Hn24
  iexact Ht21

theorem part17_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) (v437 : BitVec 32) (c1_i32_442 : BitVec 32) {Q : (BitVec 32) → sProp 𝕄} :
    iprop(env m K ∗ owesE c q15 ∗ sd c (2, 5) ∗ accP m c 1 2 1 ∗ rv c (0, 1) ∗ accP m c 7 0 0)
      ⊢ iprop((∀ v, iprop(accP m c 7 0 1 ∗ owesE c q16 ∗ slotV m c (0, 1) ∗ sn c (2, 5) ∗ zr c (0, 1)) -∗ Q v)
        -∗ wp frame (wpE (defs₀ (F := F)) 𝒱₀ (c : Thread nD τ) none) Set.univ (k0_part17 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2 v437 c1_i32_442) Q) := by
  rw [k0_part17_eq_skeleton]
  unfold k0_part17_skel
  simp only [Prog.lift, Prog.bind_op, Prog.bind_ret, Prog.pure_eq_ret]
  iintro ⟨#He, Ho, Hd25, Ha12, Hv01, Ha70⟩ Hk
  iapply (send2 m K c _ 5 5 1 q16 (dev19_eq c) rfl rfl rfl rfl) $$ [Hd25 Ha12 Ho]
  · isplitr; · iexact He
    isplitl [Hd25]; · iexact Hd25
    isplitl [Ha12]; · iexact Ha12
    iexact Ho
  iintro ⟨Hn25, Ho⟩
  iapply (recv_wait m K c (0, 1) q16 (by decide) _ rfl (credit0 1 _)) $$ [Hv01 Ho]
  · isplitr; · iexact He
    isplitl [Hv01]; · iexact Hv01
    iexact Ho
  iintro ⟨Hl01, Ht01, Ho⟩
  iapply (load_acc0 m c 7 0 7 rfl) $$ [Ha70]
  · iexact Ha70
  iintro Ha70
  iapply (load_st0 m c 1 1 rfl) $$ [Hl01]
  · iexact Hl01
  iintro Hl01
  iapply (load_acc0 m c 7 0 7 rfl) $$ [Ha70]
  · iexact Ha70
  iintro Ha70
  iapply (store_acc0 m c 7 0 1 7 rfl ((pay20_eq _ _).trans (addRow0 m c 1 0 1 7 1 rfl rfl rfl rfl))) $$ [Ha70]
  · iexact Ha70
  iintro Ha70
  rw [wp_ret]
  iapply Hk $$ [Ha70 Ho Hl01 Hn25 Ht01]
  isplitl [Ha70]; · iexact Ha70
  isplitl [Ho]; · iexact Ho
  isplitl [Hl01]; · iexact Hl01
  isplitl [Hn25]; · iexact Hn25
  iexact Ht01

theorem part18_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) (v465 : BitVec 32) {Q : (PUnit) → sProp 𝕄} :
    iprop(env m K ∗ owesE c q16 ∗ sd c (0, 4) ∗ accP m c 7 0 1 ∗ sd c (0, 5) ∗ accP m c 3 0 1)
      ⊢ iprop((iprop(owesE c q18 ∗ sn c (0, 4) ∗ sn c (0, 5)) -∗ Q ⟨⟩)
        -∗ wp frame (wpE (defs₀ (F := F)) 𝒱₀ (c : Thread nD τ) none) Set.univ (k0_part18 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2 v465) Q) := by
  rw [k0_part18_eq_skeleton]
  unfold k0_part18_skel
  simp only [Prog.lift, Prog.bind_op, Prog.bind_ret, Prog.pure_eq_ret]
  iintro ⟨#He, Ho, Hd04, Ha70, Hd05, Ha30⟩ Hk
  iapply (send0 m K c _ 4 4 7 q17 (dev20_eq c) rfl rfl rfl rfl) $$ [Hd04 Ha70 Ho]
  · isplitr; · iexact He
    isplitl [Hd04]; · iexact Hd04
    isplitl [Ha70]; · iexact Ha70
    iexact Ho
  iintro ⟨Hn04, Ho⟩
  iapply (send0 m K c _ 5 5 3 q18 (dev21_eq c) rfl rfl rfl rfl) $$ [Hd05 Ha30 Ho]
  · isplitr; · iexact He
    isplitl [Hd05]; · iexact Hd05
    isplitl [Ha30]; · iexact Ha30
    iexact Ho
  iintro ⟨Hn05, Ho⟩
  rw [wp_ret]
  iapply Hk $$ [Ho Hn04 Hn05]
  isplitl [Ho]; · iexact Ho
  isplitl [Hn04]; · iexact Hn04
  iexact Hn05

end Cert.Butterfly
-- ==== Proof.PartsD.lean ====
module

public import proofs.«01_k».proof.Proof.Pays

/-!
# The body, parts 19 to 24

Arrivals of the first and second phase. Each part from what it needs to what it leaves.
-/

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ)

set_option maxRecDepth 65536

theorem part19_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (BitVec 32) → sProp 𝕄} :
    iprop(env m K ∗ rv c (1, 2) ∗ owesE c q18 ∗ accP m c 1 1 0 ∗ rv c (2, 2) ∗ accP m c 3 2 0)
      ⊢ iprop((∀ v, iprop(accP m c 1 1 1 ∗ accP m c 3 2 1 ∗ owesE c q18 ∗ slotV m c (1, 2) ∗ slotV m c (2, 2) ∗ zr c (1, 2) ∗ zr c (2, 2)) -∗ Q v)
        -∗ wp frame (wpE (defs₀ (F := F)) 𝒱₀ (c : Thread nD τ) none) Set.univ (k0_part19 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part19_eq_skeleton]
  unfold k0_part19_skel
  simp only [Prog.lift, Prog.bind_op, Prog.bind_ret, Prog.pure_eq_ret]
  iintro ⟨#He, Hv12, Ho, Ha11, Hv22, Ha32⟩ Hk
  iapply (recv_wait m K c (1, 2) q18 (by decide) _ rfl (credit1 2 _)) $$ [Hv12 Ho]
  · isplitr; · iexact He
    isplitl [Hv12]; · iexact Hv12
    iexact Ho
  iintro ⟨Hl12, Ht12, Ho⟩
  iapply (load_acc1 m c 1 0 1 rfl) $$ [Ha11]
  · iexact Ha11
  iintro Ha11
  iapply (load_st1 m c 2 2 rfl) $$ [Hl12]
  · iexact Hl12
  iintro Hl12
  iapply (load_acc1 m c 1 0 1 rfl) $$ [Ha11]
  · iexact Ha11
  iintro Ha11
  iapply (store_acc1 m c 1 0 1 1 rfl ((pay21_eq _ _).trans (addRow1 m c 2 0 1 1 2 rfl rfl rfl rfl))) $$ [Ha11]
  · iexact Ha11
  iintro Ha11
  iapply (recv_wait m K c (2, 2) q18 (by decide) _ rfl (credit2 2 _)) $$ [Hv22 Ho]
  · isplitr; · iexact He
    isplitl [Hv22]; · iexact Hv22
    iexact Ho
  iintro ⟨Hl22, Ht22, Ho⟩
  iapply (load_acc2 m c 3 0 3 rfl) $$ [Ha32]
  · iexact Ha32
  iintro Ha32
  iapply (load_st2 m c 2 2 rfl) $$ [Hl22]
  · iexact Hl22
  iintro Hl22
  iapply (load_acc2 m c 3 0 3 rfl) $$ [Ha32]
  · iexact Ha32
  iintro Ha32
  iapply (store_acc2 m c 3 0 1 3 rfl ((pay22_eq _ _).trans (addRow2 m c 2 0 1 3 2 rfl rfl rfl rfl))) $$ [Ha32]
  · iexact Ha32
  iintro Ha32
  rw [wp_ret]
  iapply Hk $$ [Ha11 Ha32 Ho Hl12 Hl22 Ht12 Ht22]
  isplitl [Ha11]; · iexact Ha11
  isplitl [Ha32]; · iexact Ha32
  isplitl [Ho]; · iexact Ho
  isplitl [Hl12]; · iexact Hl12
  isplitl [Hl22]; · iexact Hl22
  isplitl [Ht12]; · iexact Ht12
  iexact Ht22

theorem part20_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) (c1_i32_530 : BitVec 32) {Q : (PUnit) → sProp 𝕄} :
    iprop(env m K ∗ rv c (0, 2) ∗ owesE c q18 ∗ accP m c 4 0 0 ∗ rv c (1, 3))
      ⊢ iprop((iprop(accP m c 4 0 1 ∗ owesE c q18 ∗ slotV m c (0, 2) ∗ slotV m c (1, 3) ∗ zr c (0, 2) ∗ zr c (1, 3)) -∗ Q ⟨⟩)
        -∗ wp frame (wpE (defs₀ (F := F)) 𝒱₀ (c : Thread nD τ) none) Set.univ (k0_part20 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2 c1_i32_530) Q) := by
  rw [k0_part20_eq_skeleton]
  unfold k0_part20_skel
  simp only [Prog.lift, Prog.bind_op, Prog.bind_ret, Prog.pure_eq_ret]
  iintro ⟨#He, Hv02, Ho, Ha40, Hv13⟩ Hk
  iapply (recv_wait m K c (0, 2) q18 (by decide) _ rfl (credit0 2 _)) $$ [Hv02 Ho]
  · isplitr; · iexact He
    isplitl [Hv02]; · iexact Hv02
    iexact Ho
  iintro ⟨Hl02, Ht02, Ho⟩
  iapply (load_acc0 m c 4 0 4 rfl) $$ [Ha40]
  · iexact Ha40
  iintro Ha40
  iapply (load_st0 m c 2 2 rfl) $$ [Hl02]
  · iexact Hl02
  iintro Hl02
  iapply (load_acc0 m c 4 0 4 rfl) $$ [Ha40]
  · iexact Ha40
  iintro Ha40
  iapply (store_acc0 m c 4 0 1 4 rfl ((pay23_eq _ _).trans (addRow0 m c 2 0 1 4 2 rfl rfl rfl rfl))) $$ [Ha40]
  · iexact Ha40
  iintro Ha40
  iapply (recv_wait m K c (1, 3) q18 (by decide) _ rfl (credit1 3 _)) $$ [Hv13 Ho]
  · isplitr; · iexact He
    isplitl [Hv13]; · iexact Hv13
    iexact Ho
  iintro ⟨Hl13, Ht13, Ho⟩
  rw [wp_ret]
  iapply Hk $$ [Ha40 Ho Hl02 Hl13 Ht02 Ht13]
  isplitl [Ha40]; · iexact Ha40
  isplitl [Ho]; · iexact Ho
  isplitl [Hl02]; · iexact Hl02
  isplitl [Hl13]; · iexact Hl13
  isplitl [Ht02]; · iexact Ht02
  iexact Ht13

theorem part21_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (BitVec 32) → sProp 𝕄} :
    iprop(env m K ∗ accP m c 0 1 0 ∗ slotV m c (1, 3) ∗ rv c (2, 3) ∗ owesE c q18 ∗ accP m c 0 2 0)
      ⊢ iprop((∀ v, iprop(accP m c 0 1 1 ∗ accP m c 0 2 1 ∗ owesE c q18 ∗ slotV m c (1, 3) ∗ slotV m c (2, 3) ∗ zr c (2, 3)) -∗ Q v)
        -∗ wp frame (wpE (defs₀ (F := F)) 𝒱₀ (c : Thread nD τ) none) Set.univ (k0_part21 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part21_eq_skeleton]
  unfold k0_part21_skel
  simp only [Prog.lift, Prog.bind_op, Prog.bind_ret, Prog.pure_eq_ret]
  iintro ⟨#He, Ha01, Hl13, Hv23, Ho, Ha02⟩ Hk
  iapply (load_acc1 m c 0 0 0 rfl) $$ [Ha01]
  · iexact Ha01
  iintro Ha01
  iapply (load_st1 m c 3 3 rfl) $$ [Hl13]
  · iexact Hl13
  iintro Hl13
  iapply (load_acc1 m c 0 0 0 rfl) $$ [Ha01]
  · iexact Ha01
  iintro Ha01
  iapply (store_acc1 m c 0 0 1 0 rfl ((pay24_eq _ _).trans (addRow1 m c 3 0 1 0 3 rfl rfl rfl rfl))) $$ [Ha01]
  · iexact Ha01
  iintro Ha01
  iapply (recv_wait m K c (2, 3) q18 (by decide) _ rfl (credit2 3 _)) $$ [Hv23 Ho]
  · isplitr; · iexact He
    isplitl [Hv23]; · iexact Hv23
    iexact Ho
  iintro ⟨Hl23, Ht23, Ho⟩
  iapply (load_acc2 m c 0 0 0 rfl) $$ [Ha02]
  · iexact Ha02
  iintro Ha02
  iapply (load_st2 m c 3 3 rfl) $$ [Hl23]
  · iexact Hl23
  iintro Hl23
  iapply (load_acc2 m c 0 0 0 rfl) $$ [Ha02]
  · iexact Ha02
  iintro Ha02
  iapply (store_acc2 m c 0 0 1 0 rfl ((pay25_eq _ _).trans (addRow2 m c 3 0 1 0 3 rfl rfl rfl rfl))) $$ [Ha02]
  · iexact Ha02
  iintro Ha02
  rw [wp_ret]
  iapply Hk $$ [Ha01 Ha02 Ho Hl13 Hl23 Ht23]
  isplitl [Ha01]; · iexact Ha01
  isplitl [Ha02]; · iexact Ha02
  isplitl [Ho]; · iexact Ho
  isplitl [Hl13]; · iexact Hl13
  isplitl [Hl23]; · iexact Hl23
  iexact Ht23

theorem part22_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) (v572 : BitVec 32) {Q : (Vec F S1x512x640 .bf16) → sProp 𝕄} :
    iprop(env m K ∗ rv c (0, 3) ∗ owesE c q18 ∗ accP m c 0 0 0 ∗ rv c (1, 4) ∗ accP m c 1 1 1)
      ⊢ iprop((iprop(accP m c 0 0 1 ∗ accP m c 1 1 1 ∗ owesE c q18 ∗ slotV m c (0, 3) ∗ slotV m c (1, 4) ∗ zr c (0, 3) ∗ zr c (1, 4)) -∗ Q ((accW.access (accR1 1 inb_S8x512x2048_S1x512x640_1_0_768)).read (Elt F) (AB m 1 c)))
        -∗ wp frame (wpE (defs₀ (F := F)) 𝒱₀ (c : Thread nD τ) none) Set.univ (k0_part22 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2 v572) Q) := by
  rw [k0_part22_eq_skeleton]
  unfold k0_part22_skel
  simp only [Prog.lift, Prog.bind_op, Prog.bind_ret, Prog.pure_eq_ret]
  iintro ⟨#He, Hv03, Ho, Ha00, Hv14, Ha11⟩ Hk
  iapply (recv_wait m K c (0, 3) q18 (by decide) _ rfl (credit0 3 _)) $$ [Hv03 Ho]
  · isplitr; · iexact He
    isplitl [Hv03]; · iexact Hv03
    iexact Ho
  iintro ⟨Hl03, Ht03, Ho⟩
  iapply (load_acc0 m c 0 0 0 rfl) $$ [Ha00]
  · iexact Ha00
  iintro Ha00
  iapply (load_st0 m c 3 3 rfl) $$ [Hl03]
  · iexact Hl03
  iintro Hl03
  iapply (load_acc0 m c 0 0 0 rfl) $$ [Ha00]
  · iexact Ha00
  iintro Ha00
  iapply (store_acc0 m c 0 0 1 0 rfl ((pay26_eq _ _).trans (addRow0 m c 3 0 1 0 3 rfl rfl rfl rfl))) $$ [Ha00]
  · iexact Ha00
  iintro Ha00
  iapply (recv_wait m K c (1, 4) q18 (by decide) _ rfl (credit1 4 _)) $$ [Hv14 Ho]
  · isplitr; · iexact He
    isplitl [Hv14]; · iexact Hv14
    iexact Ho
  iintro ⟨Hl14, Ht14, Ho⟩
  iapply (load_acc1 m c 1 1 1 rfl) $$ [Ha11]
  · iexact Ha11
  iintro Ha11
  rw [wp_ret]
  iapply Hk $$ [Ha00 Ha11 Ho Hl03 Hl14 Ht03 Ht14]
  isplitl [Ha00]; · iexact Ha00
  isplitl [Ha11]; · iexact Ha11
  isplitl [Ho]; · iexact Ho
  isplitl [Hl03]; · iexact Hl03
  isplitl [Hl14]; · iexact Hl14
  isplitl [Ht03]; · iexact Ht03
  iexact Ht14

theorem part23_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ slotV m c (1, 4) ∗ accP m c 1 1 1 ∗ owesE c q18 ∗ sd c (1, 6) ∗ rv c (2, 4))
      ⊢ iprop((iprop(owesE c q19 ∗ slotV m c (1, 4) ∗ slotV m c (2, 4) ∗ sn c (1, 6) ∗ zr c (2, 4)) -∗ Q ⟨⟩)
        -∗ wp frame (wpE (defs₀ (F := F)) 𝒱₀ (c : Thread nD τ) none) Set.univ (k0_part23 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2 ((accW.access (accR1 1 inb_S8x512x2048_S1x512x640_1_0_768)).read (Elt F) (AB m 1 c))) Q) := by
  rw [k0_part23_eq_skeleton]
  unfold k0_part23_skel
  simp only [Prog.lift, Prog.bind_op, Prog.bind_ret, Prog.pure_eq_ret]
  iintro ⟨#He, Hl14, Ha11, Ho, Hd16, Hv24⟩ Hk
  iapply (load_st1 m c 4 4 rfl) $$ [Hl14]
  · iexact Hl14
  iintro Hl14
  iapply (load_acc1 m c 1 1 1 rfl) $$ [Ha11]
  · iexact Ha11
  iintro Ha11
  iapply (store_acc1 m c 1 1 2 1 rfl ((pay27_eq _ _).trans (addRow1 m c 4 1 2 1 4 rfl rfl rfl rfl))) $$ [Ha11]
  · iexact Ha11
  iintro Ha11
  iapply (send1 m K c _ 6 6 1 q19 (dev22_eq c) rfl rfl rfl rfl) $$ [Hd16 Ha11 Ho]
  · isplitr; · iexact He
    isplitl [Hd16]; · iexact Hd16
    isplitl [Ha11]; · iexact Ha11
    iexact Ho
  iintro ⟨Hn16, Ho⟩
  iapply (recv_wait m K c (2, 4) q19 (by decide) _ rfl (credit2 4 _)) $$ [Hv24 Ho]
  · isplitr; · iexact He
    isplitl [Hv24]; · iexact Hv24
    iexact Ho
  iintro ⟨Hl24, Ht24, Ho⟩
  rw [wp_ret]
  iapply Hk $$ [Ho Hl14 Hl24 Hn16 Ht24]
  isplitl [Ho]; · iexact Ho
  isplitl [Hl14]; · iexact Hl14
  isplitl [Hl24]; · iexact Hl24
  isplitl [Hn16]; · iexact Hn16
  iexact Ht24

theorem part24_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ accP m c 3 2 1 ∗ slotV m c (2, 4) ∗ owesE c q19 ∗ sd c (2, 6) ∗ rv c (0, 4))
      ⊢ iprop((iprop(owesE c q20 ∗ slotV m c (0, 4) ∗ slotV m c (2, 4) ∗ sn c (2, 6) ∗ zr c (0, 4)) -∗ Q ⟨⟩)
        -∗ wp frame (wpE (defs₀ (F := F)) 𝒱₀ (c : Thread nD τ) none) Set.univ (k0_part24 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2) Q) := by
  rw [k0_part24_eq_skeleton]
  unfold k0_part24_skel
  simp only [Prog.lift, Prog.bind_op, Prog.bind_ret, Prog.pure_eq_ret]
  iintro ⟨#He, Ha32, Hl24, Ho, Hd26, Hv04⟩ Hk
  iapply (load_acc2 m c 3 1 3 rfl) $$ [Ha32]
  · iexact Ha32
  iintro Ha32
  iapply (load_st2 m c 4 4 rfl) $$ [Hl24]
  · iexact Hl24
  iintro Hl24
  iapply (load_acc2 m c 3 1 3 rfl) $$ [Ha32]
  · iexact Ha32
  iintro Ha32
  iapply (store_acc2 m c 3 1 2 3 rfl ((pay28_eq _ _).trans (addRow2 m c 4 1 2 3 4 rfl rfl rfl rfl))) $$ [Ha32]
  · iexact Ha32
  iintro Ha32
  iapply (send2 m K c _ 6 6 3 q20 (dev23_eq c) rfl rfl rfl rfl) $$ [Hd26 Ha32 Ho]
  · isplitr; · iexact He
    isplitl [Hd26]; · iexact Hd26
    isplitl [Ha32]; · iexact Ha32
    iexact Ho
  iintro ⟨Hn26, Ho⟩
  iapply (recv_wait m K c (0, 4) q20 (by decide) _ rfl (credit0 4 _)) $$ [Hv04 Ho]
  · isplitr; · iexact He
    isplitl [Hv04]; · iexact Hv04
    iexact Ho
  iintro ⟨Hl04, Ht04, Ho⟩
  rw [wp_ret]
  iapply Hk $$ [Ho Hl04 Hl24 Hn26 Ht04]
  isplitl [Ho]; · iexact Ho
  isplitl [Hl04]; · iexact Hl04
  isplitl [Hl24]; · iexact Hl24
  isplitl [Hn26]; · iexact Hn26
  iexact Ht04

end Cert.Butterfly
-- ==== Proof.PartsE.lean ====
module

public import proofs.«01_k».proof.Proof.Pays

/-!
# The body, parts 25 to 30

The last phase, the activation and the copies to the result. Each part from what it needs to what it leaves.
-/

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ)

set_option maxRecDepth 65536

theorem part25_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ accP m c 4 0 1 ∗ slotV m c (0, 4) ∗ owesE c q20 ∗ sd c (0, 6))
      ⊢ iprop((iprop(owesE c q21 ∗ slotV m c (0, 4) ∗ sn c (0, 6)) -∗ Q ⟨⟩)
        -∗ wp frame (wpE (defs₀ (F := F)) 𝒱₀ (c : Thread nD τ) none) Set.univ (k0_part25 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 c v2) Q) := by
  rw [k0_part25_eq_skeleton]
  unfold k0_part25_skel
  simp only [Prog.lift, Prog.bind_op, Prog.bind_ret, Prog.pure_eq_ret]
  iintro ⟨#He, Ha40, Hl04, Ho, Hd06⟩ Hk
  iapply (load_acc0 m c 4 1 4 rfl) $$ [Ha40]
  · iexact Ha40
  iintro Ha40
  iapply (load_st0 m c 4 4 rfl) $$ [Hl04]
  · iexact Hl04
  iintro Hl04
  iapply (load_acc0 m c 4 1 4 rfl) $$ [Ha40]
  · iexact Ha40
  iintro Ha40
  iapply (store_acc0 m c 4 1 2 4 rfl ((pay29_eq _ _).trans (addRow0 m c 4 1 2 4 4 rfl rfl rfl rfl))) $$ [Ha40]
  · iexact Ha40
  iintro Ha40
  iapply (send0 m K c _ 6 6 4 q21 (dev24_eq c) rfl rfl rfl rfl) $$ [Hd06 Ha40 Ho]
  · isplitr; · iexact He
    isplitl [Hd06]; · iexact Hd06
    isplitl [Ha40]; · iexact Ha40
    iexact Ho
  iintro ⟨Hn06, Ho⟩
  rw [wp_ret]
  iapply Hk $$ [Ho Hl04 Hn06]
  isplitl [Ho]; · iexact Ho
  isplitl [Hl04]; · iexact Hl04
  iexact Hn06

theorem part26_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (BitVec 32) → sProp 𝕄} :
    iprop(env m K ∗ rv c (1, 5) ∗ owesE c q21 ∗ accP m c 0 1 1 ∗ rv c (2, 5) ∗ accP m c 0 2 1)
      ⊢ iprop((∀ v, iprop(accP m c 0 1 2 ∗ accP m c 0 2 2 ∗ owesE c q21 ∗ slotV m c (1, 5) ∗ slotV m c (2, 5) ∗ zr c (1, 5) ∗ zr c (2, 5)) -∗ Q v)
        -∗ wp frame (wpE (defs₀ (F := F)) 𝒱₀ (c : Thread nD τ) none) Set.univ (k0_part26 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part26_eq_skeleton]
  unfold k0_part26_skel
  simp only [Prog.lift, Prog.bind_op, Prog.bind_ret, Prog.pure_eq_ret]
  iintro ⟨#He, Hv15, Ho, Ha01, Hv25, Ha02⟩ Hk
  iapply (recv_wait m K c (1, 5) q21 (by decide) _ rfl (credit1 5 _)) $$ [Hv15 Ho]
  · isplitr; · iexact He
    isplitl [Hv15]; · iexact Hv15
    iexact Ho
  iintro ⟨Hl15, Ht15, Ho⟩
  iapply (load_acc1 m c 0 1 0 rfl) $$ [Ha01]
  · iexact Ha01
  iintro Ha01
  iapply (load_st1 m c 5 5 rfl) $$ [Hl15]
  · iexact Hl15
  iintro Hl15
  iapply (load_acc1 m c 0 1 0 rfl) $$ [Ha01]
  · iexact Ha01
  iintro Ha01
  iapply (store_acc1 m c 0 1 2 0 rfl ((pay30_eq _ _).trans (addRow1 m c 5 1 2 0 5 rfl rfl rfl rfl))) $$ [Ha01]
  · iexact Ha01
  iintro Ha01
  iapply (recv_wait m K c (2, 5) q21 (by decide) _ rfl (credit2 5 _)) $$ [Hv25 Ho]
  · isplitr; · iexact He
    isplitl [Hv25]; · iexact Hv25
    iexact Ho
  iintro ⟨Hl25, Ht25, Ho⟩
  iapply (load_acc2 m c 0 1 0 rfl) $$ [Ha02]
  · iexact Ha02
  iintro Ha02
  iapply (load_st2 m c 5 5 rfl) $$ [Hl25]
  · iexact Hl25
  iintro Hl25
  iapply (load_acc2 m c 0 1 0 rfl) $$ [Ha02]
  · iexact Ha02
  iintro Ha02
  iapply (store_acc2 m c 0 1 2 0 rfl ((pay31_eq _ _).trans (addRow2 m c 5 1 2 0 5 rfl rfl rfl rfl))) $$ [Ha02]
  · iexact Ha02
  iintro Ha02
  rw [wp_ret]
  iapply Hk $$ [Ha01 Ha02 Ho Hl15 Hl25 Ht15 Ht25]
  isplitl [Ha01]; · iexact Ha01
  isplitl [Ha02]; · iexact Ha02
  isplitl [Ho]; · iexact Ho
  isplitl [Hl15]; · iexact Hl15
  isplitl [Hl25]; · iexact Hl25
  isplitl [Ht15]; · iexact Ht15
  iexact Ht25

theorem part27_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) (c3_i32_743 : BitVec 32) {Q : (PUnit) → sProp 𝕄} :
    iprop(env m K ∗ rv c (0, 5) ∗ owesE c q21 ∗ accP m c 0 0 1 ∗ rv c (1, 6))
      ⊢ iprop((iprop(accP m c 0 0 2 ∗ owesE c q21 ∗ slotV m c (0, 5) ∗ slotV m c (1, 6) ∗ zr c (0, 5) ∗ zr c (1, 6)) -∗ Q ⟨⟩)
        -∗ wp frame (wpE (defs₀ (F := F)) 𝒱₀ (c : Thread nD τ) none) Set.univ (k0_part27 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2 c3_i32_743) Q) := by
  rw [k0_part27_eq_skeleton]
  unfold k0_part27_skel
  simp only [Prog.lift, Prog.bind_op, Prog.bind_ret, Prog.pure_eq_ret]
  iintro ⟨#He, Hv05, Ho, Ha00, Hv16⟩ Hk
  iapply (recv_wait m K c (0, 5) q21 (by decide) _ rfl (credit0 5 _)) $$ [Hv05 Ho]
  · isplitr; · iexact He
    isplitl [Hv05]; · iexact Hv05
    iexact Ho
  iintro ⟨Hl05, Ht05, Ho⟩
  iapply (load_acc0 m c 0 1 0 rfl) $$ [Ha00]
  · iexact Ha00
  iintro Ha00
  iapply (load_st0 m c 5 5 rfl) $$ [Hl05]
  · iexact Hl05
  iintro Hl05
  iapply (load_acc0 m c 0 1 0 rfl) $$ [Ha00]
  · iexact Ha00
  iintro Ha00
  iapply (store_acc0 m c 0 1 2 0 rfl ((pay32_eq _ _).trans (addRow0 m c 5 1 2 0 5 rfl rfl rfl rfl))) $$ [Ha00]
  · iexact Ha00
  iintro Ha00
  iapply (recv_wait m K c (1, 6) q21 (by decide) _ rfl (credit1 6 _)) $$ [Hv16 Ho]
  · isplitr; · iexact He
    isplitl [Hv16]; · iexact Hv16
    iexact Ho
  iintro ⟨Hl16, Ht16, Ho⟩
  rw [wp_ret]
  iapply Hk $$ [Ha00 Ho Hl05 Hl16 Ht05 Ht16]
  isplitl [Ha00]; · iexact Ha00
  isplitl [Ho]; · iexact Ho
  isplitl [Hl05]; · iexact Hl05
  isplitl [Hl16]; · iexact Hl16
  isplitl [Ht05]; · iexact Ht05
  iexact Ht16

theorem part28_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ accP m c 0 1 2 ∗ slotV m c (1, 6) ∗ obU c 1 ∗ ovU c 1 ∗ zo c 1)
      ⊢ iprop((iprop(accP m c 0 1 3 ∗ oFl m c 1 ∗ slotV m c (1, 6)) -∗ Q ⟨⟩)
        -∗ wp frame (wpE (defs₀ (F := F)) 𝒱₀ (c : Thread nD τ) none) Set.univ (k0_part28 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part28_eq_skeleton]
  unfold k0_part28_skel
  simp only [Prog.lift, Prog.bind_op, Prog.bind_ret, Prog.pure_eq_ret]
  iintro ⟨#He, Ha01, Hl16, Hob1, Hov1, Hk1x⟩ Hk
  iapply (load_acc1 m c 0 2 0 rfl) $$ [Ha01]
  · iexact Ha01
  iintro Ha01
  iapply (load_st1 m c 6 6 rfl) $$ [Hl16]
  · iexact Hl16
  iintro Hl16
  iapply (load_acc1 m c 0 2 0 rfl) $$ [Ha01]
  · iexact Ha01
  iintro Ha01
  iapply (store_acc1 m c 0 2 3 0 rfl ((pay33_eq _ _).trans (addRow1 m c 6 2 3 0 6 rfl rfl rfl rfl))) $$ [Ha01]
  · iexact Ha01
  iintro Ha01
  iapply (load_acc1 m c 0 3 0 rfl) $$ [Ha01]
  · iexact Ha01
  iintro Ha01
  iapply (load_ob1 c) $$ [Hob1]
  · iexact Hob1
  iintro %v Hob1
  iapply (store_ob1 m c (actRow1 m c _)) $$ [Hob1]
  · iexact Hob1
  iintro Hob1
  iapply (out_copy1 m c rfl) $$ [Hob1 Hov1 Hk1x]
  · isplitl [Hob1]; · iexact Hob1
    isplitl [Hov1]; · iexact Hov1
    iexact Hk1x
  iintro Hg1
  rw [wp_ret]
  iapply Hk $$ [Ha01 Hg1 Hl16]
  isplitl [Ha01]; · iexact Ha01
  isplitl [Hg1]; · iexact Hg1
  iexact Hl16

theorem part29_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ rv c (2, 6) ∗ owesE c q21 ∗ accP m c 0 2 2 ∗ obU c 2 ∗ ovU c 2 ∗ zo c 2)
      ⊢ iprop((iprop(accP m c 0 2 3 ∗ oFl m c 2 ∗ owesE c q21 ∗ slotV m c (2, 6) ∗ zr c (2, 6)) -∗ Q ⟨⟩)
        -∗ wp frame (wpE (defs₀ (F := F)) 𝒱₀ (c : Thread nD τ) none) Set.univ (k0_part29 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part29_eq_skeleton]
  unfold k0_part29_skel
  simp only [Prog.lift, Prog.bind_op, Prog.bind_ret, Prog.pure_eq_ret]
  iintro ⟨#He, Hv26, Ho, Ha02, Hob2, Hov2, Hk2x⟩ Hk
  iapply (recv_wait m K c (2, 6) q21 (by decide) _ rfl (credit2 6 _)) $$ [Hv26 Ho]
  · isplitr; · iexact He
    isplitl [Hv26]; · iexact Hv26
    iexact Ho
  iintro ⟨Hl26, Ht26, Ho⟩
  iapply (load_acc2 m c 0 2 0 rfl) $$ [Ha02]
  · iexact Ha02
  iintro Ha02
  iapply (load_st2 m c 6 6 rfl) $$ [Hl26]
  · iexact Hl26
  iintro Hl26
  iapply (load_acc2 m c 0 2 0 rfl) $$ [Ha02]
  · iexact Ha02
  iintro Ha02
  iapply (store_acc2 m c 0 2 3 0 rfl ((pay35_eq _ _).trans (addRow2 m c 6 2 3 0 6 rfl rfl rfl rfl))) $$ [Ha02]
  · iexact Ha02
  iintro Ha02
  iapply (load_acc2 m c 0 3 0 rfl) $$ [Ha02]
  · iexact Ha02
  iintro Ha02
  iapply (load_ob2 c) $$ [Hob2]
  · iexact Hob2
  iintro %v Hob2
  iapply (store_ob2 m c (actRow2 m c _)) $$ [Hob2]
  · iexact Hob2
  iintro Hob2
  iapply (out_copy2 m c rfl) $$ [Hob2 Hov2 Hk2x]
  · isplitl [Hob2]; · iexact Hob2
    isplitl [Hov2]; · iexact Hov2
    iexact Hk2x
  iintro Hg2
  rw [wp_ret]
  iapply Hk $$ [Ha02 Hg2 Ho Hl26 Ht26]
  isplitl [Ha02]; · iexact Ha02
  isplitl [Hg2]; · iexact Hg2
  isplitl [Ho]; · iexact Ho
  isplitl [Hl26]; · iexact Hl26
  iexact Ht26

theorem part30_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ rv c (0, 6) ∗ owesE c q21 ∗ accP m c 0 0 2 ∗ obU c 0 ∗ ovU c 0 ∗ zo c 0)
      ⊢ iprop((iprop(accP m c 0 0 3 ∗ obV m c 0 ∗ ovV m c 0 ∗ owesE c q21 ∗ slotV m c (0, 6) ∗ zo c 0 ∗ zr c (0, 6)) -∗ Q ⟨⟩)
        -∗ wp frame (wpE (defs₀ (F := F)) 𝒱₀ (c : Thread nD τ) none) Set.univ (k0_part30 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part30_eq_skeleton]
  unfold k0_part30_skel
  simp only [Prog.lift, Prog.bind_op, Prog.bind_ret, Prog.pure_eq_ret]
  iintro ⟨#He, Hv06, Ho, Ha00, Hob0, Hov0, Hk0x⟩ Hk
  iapply (recv_wait m K c (0, 6) q21 (by decide) _ rfl (credit0 6 _)) $$ [Hv06 Ho]
  · isplitr; · iexact He
    isplitl [Hv06]; · iexact Hv06
    iexact Ho
  iintro ⟨Hl06, Ht06, Ho⟩
  iapply (load_acc0 m c 0 2 0 rfl) $$ [Ha00]
  · iexact Ha00
  iintro Ha00
  iapply (load_st0 m c 6 6 rfl) $$ [Hl06]
  · iexact Hl06
  iintro Hl06
  iapply (load_acc0 m c 0 2 0 rfl) $$ [Ha00]
  · iexact Ha00
  iintro Ha00
  iapply (store_acc0 m c 0 2 3 0 rfl ((pay37_eq _ _).trans (addRow0 m c 6 2 3 0 6 rfl rfl rfl rfl))) $$ [Ha00]
  · iexact Ha00
  iintro Ha00
  iapply (load_acc0 m c 0 3 0 rfl) $$ [Ha00]
  · iexact Ha00
  iintro Ha00
  iapply (load_ob0 c) $$ [Hob0]
  · iexact Hob0
  iintro %v Hob0
  iapply (store_ob0 m c (actRow0 m c _)) $$ [Hob0]
  · iexact Hob0
  iintro Hob0
  iapply (out_copy0 m c rfl) $$ [Hob0 Hov0 Hk0x]
  · isplitl [Hob0]; · iexact Hob0
    isplitl [Hov0]; · iexact Hov0
    iexact Hk0x
  iintro Hg0
  iapply (out_wait m K c 0 q21 _ rfl rfl) $$ [Hg0 Ho]
  · isplitr; · iexact He
    isplitl [Hg0]; · iexact Hg0
    iexact Ho
  iintro ⟨Hov0, Hob0, Hk0x, Ho⟩
  rw [wp_ret]
  iapply Hk $$ [Ha00 Hob0 Hov0 Ho Hl06 Hk0x Ht06]
  isplitl [Ha00]; · iexact Ha00
  isplitl [Hob0]; · iexact Hob0
  isplitl [Hov0]; · iexact Hov0
  isplitl [Ho]; · iexact Ho
  isplitl [Hl06]; · iexact Hl06
  isplitl [Hk0x]; · iexact Hk0x
  iexact Ht06

end Cert.Butterfly
-- ==== Proof.PartsF.lean ====
module

public import proofs.«01_k».proof.Proof.Pays

/-!
# The body, parts 31 to 36

The waits for the sends and for the copies out. Each part from what it needs to what it leaves.
-/

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ)

set_option maxRecDepth 65536

theorem part31_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ sn c (0, 0) ∗ owesE c q21 ∗ sn c (0, 1) ∗ sn c (0, 2))
      ⊢ iprop((iprop(accP m c 2 0 0 ∗ accP m c 5 0 0 ∗ accP m c 6 0 0 ∗ owesE c q21 ∗ zs c (0, 0) ∗ zs c (0, 1) ∗ zs c (0, 2)) -∗ Q ⟨⟩)
        -∗ wp frame (wpE (defs₀ (F := F)) 𝒱₀ (c : Thread nD τ) none) Set.univ (k0_part31 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part31_eq_skeleton]
  unfold k0_part31_skel
  simp only [Prog.lift, Prog.bind_op, Prog.bind_ret, Prog.pure_eq_ret]
  iintro ⟨#He, Hn00, Ho, Hn01, Hn02⟩ Hk
  iapply (send_wait m K c (0, 0) q21 _ rfl (acredit0 2 _)) $$ [Hn00 Ho]
  · isplitr; · iexact He
    isplitl [Hn00]; · iexact Hn00
    iexact Ho
  iintro ⟨Ha20, Hs00, Ho⟩
  iapply (send_wait m K c (0, 1) q21 _ rfl (acredit0 6 _)) $$ [Hn01 Ho]
  · isplitr; · iexact He
    isplitl [Hn01]; · iexact Hn01
    iexact Ho
  iintro ⟨Ha60, Hs01, Ho⟩
  iapply (send_wait m K c (0, 2) q21 _ rfl (acredit0 5 _)) $$ [Hn02 Ho]
  · isplitr; · iexact He
    isplitl [Hn02]; · iexact Hn02
    iexact Ho
  iintro ⟨Ha50, Hs02, Ho⟩
  rw [wp_ret]
  iapply Hk $$ [Ha20 Ha50 Ha60 Ho Hs00 Hs01 Hs02]
  isplitl [Ha20]; · iexact Ha20
  isplitl [Ha50]; · iexact Ha50
  isplitl [Ha60]; · iexact Ha60
  isplitl [Ho]; · iexact Ho
  isplitl [Hs00]; · iexact Hs00
  isplitl [Hs01]; · iexact Hs01
  iexact Hs02

theorem part32_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ sn c (0, 3) ∗ owesE c q21 ∗ sn c (0, 4) ∗ sn c (0, 5))
      ⊢ iprop((iprop(accP m c 1 0 0 ∗ accP m c 3 0 1 ∗ accP m c 7 0 1 ∗ owesE c q21 ∗ zs c (0, 3) ∗ zs c (0, 4) ∗ zs c (0, 5)) -∗ Q ⟨⟩)
        -∗ wp frame (wpE (defs₀ (F := F)) 𝒱₀ (c : Thread nD τ) none) Set.univ (k0_part32 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part32_eq_skeleton]
  unfold k0_part32_skel
  simp only [Prog.lift, Prog.bind_op, Prog.bind_ret, Prog.pure_eq_ret]
  iintro ⟨#He, Hn03, Ho, Hn04, Hn05⟩ Hk
  iapply (send_wait m K c (0, 3) q21 _ rfl (acredit0 1 _)) $$ [Hn03 Ho]
  · isplitr; · iexact He
    isplitl [Hn03]; · iexact Hn03
    iexact Ho
  iintro ⟨Ha10, Hs03, Ho⟩
  iapply (send_wait m K c (0, 4) q21 _ rfl (acredit0 7 _)) $$ [Hn04 Ho]
  · isplitr; · iexact He
    isplitl [Hn04]; · iexact Hn04
    iexact Ho
  iintro ⟨Ha70, Hs04, Ho⟩
  iapply (send_wait m K c (0, 5) q21 _ rfl (acredit0 3 _)) $$ [Hn05 Ho]
  · isplitr; · iexact He
    isplitl [Hn05]; · iexact Hn05
    iexact Ho
  iintro ⟨Ha30, Hs05, Ho⟩
  rw [wp_ret]
  iapply Hk $$ [Ha10 Ha30 Ha70 Ho Hs03 Hs04 Hs05]
  isplitl [Ha10]; · iexact Ha10
  isplitl [Ha30]; · iexact Ha30
  isplitl [Ha70]; · iexact Ha70
  isplitl [Ho]; · iexact Ho
  isplitl [Hs03]; · iexact Hs03
  isplitl [Hs04]; · iexact Hs04
  iexact Hs05

theorem part33_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ sn c (0, 6) ∗ owesE c q21 ∗ oFl m c 1 ∗ sn c (1, 0) ∗ sn c (1, 1))
      ⊢ iprop((iprop(accP m c 4 0 2 ∗ accP m c 6 1 0 ∗ accP m c 7 1 0 ∗ obV m c 1 ∗ ovV m c 1 ∗ owesE c q21 ∗ zo c 1 ∗ zs c (0, 6) ∗ zs c (1, 0) ∗ zs c (1, 1)) -∗ Q ⟨⟩)
        -∗ wp frame (wpE (defs₀ (F := F)) 𝒱₀ (c : Thread nD τ) none) Set.univ (k0_part33 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part33_eq_skeleton]
  unfold k0_part33_skel
  simp only [Prog.lift, Prog.bind_op, Prog.bind_ret, Prog.pure_eq_ret]
  iintro ⟨#He, Hn06, Ho, Hg1, Hn10, Hn11⟩ Hk
  iapply (send_wait m K c (0, 6) q21 _ rfl (acredit0 4 _)) $$ [Hn06 Ho]
  · isplitr; · iexact He
    isplitl [Hn06]; · iexact Hn06
    iexact Ho
  iintro ⟨Ha40, Hs06, Ho⟩
  iapply (out_wait m K c 1 q21 _ rfl rfl) $$ [Hg1 Ho]
  · isplitr; · iexact He
    isplitl [Hg1]; · iexact Hg1
    iexact Ho
  iintro ⟨Hov1, Hob1, Hk1x, Ho⟩
  iapply (send_wait m K c (1, 0) q21 _ rfl (acredit1 7 _)) $$ [Hn10 Ho]
  · isplitr; · iexact He
    isplitl [Hn10]; · iexact Hn10
    iexact Ho
  iintro ⟨Ha71, Hs10, Ho⟩
  iapply (send_wait m K c (1, 1) q21 _ rfl (acredit1 6 _)) $$ [Hn11 Ho]
  · isplitr; · iexact He
    isplitl [Hn11]; · iexact Hn11
    iexact Ho
  iintro ⟨Ha61, Hs11, Ho⟩
  rw [wp_ret]
  iapply Hk $$ [Ha40 Ha61 Ha71 Hob1 Hov1 Ho Hk1x Hs06 Hs10 Hs11]
  isplitl [Ha40]; · iexact Ha40
  isplitl [Ha61]; · iexact Ha61
  isplitl [Ha71]; · iexact Ha71
  isplitl [Hob1]; · iexact Hob1
  isplitl [Hov1]; · iexact Hov1
  isplitl [Ho]; · iexact Ho
  isplitl [Hk1x]; · iexact Hk1x
  isplitl [Hs06]; · iexact Hs06
  isplitl [Hs10]; · iexact Hs10
  iexact Hs11

theorem part34_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ sn c (1, 2) ∗ owesE c q21 ∗ sn c (1, 3) ∗ sn c (1, 4))
      ⊢ iprop((iprop(accP m c 2 1 0 ∗ accP m c 3 1 0 ∗ accP m c 5 1 1 ∗ owesE c q21 ∗ zs c (1, 2) ∗ zs c (1, 3) ∗ zs c (1, 4)) -∗ Q ⟨⟩)
        -∗ wp frame (wpE (defs₀ (F := F)) 𝒱₀ (c : Thread nD τ) none) Set.univ (k0_part34 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part34_eq_skeleton]
  unfold k0_part34_skel
  simp only [Prog.lift, Prog.bind_op, Prog.bind_ret, Prog.pure_eq_ret]
  iintro ⟨#He, Hn12, Ho, Hn13, Hn14⟩ Hk
  iapply (send_wait m K c (1, 2) q21 _ rfl (acredit1 2 _)) $$ [Hn12 Ho]
  · isplitr; · iexact He
    isplitl [Hn12]; · iexact Hn12
    iexact Ho
  iintro ⟨Ha21, Hs12, Ho⟩
  iapply (send_wait m K c (1, 3) q21 _ rfl (acredit1 3 _)) $$ [Hn13 Ho]
  · isplitr; · iexact He
    isplitl [Hn13]; · iexact Hn13
    iexact Ho
  iintro ⟨Ha31, Hs13, Ho⟩
  iapply (send_wait m K c (1, 4) q21 _ rfl (acredit1 5 _)) $$ [Hn14 Ho]
  · isplitr; · iexact He
    isplitl [Hn14]; · iexact Hn14
    iexact Ho
  iintro ⟨Ha51, Hs14, Ho⟩
  rw [wp_ret]
  iapply Hk $$ [Ha21 Ha31 Ha51 Ho Hs12 Hs13 Hs14]
  isplitl [Ha21]; · iexact Ha21
  isplitl [Ha31]; · iexact Ha31
  isplitl [Ha51]; · iexact Ha51
  isplitl [Ho]; · iexact Ho
  isplitl [Hs12]; · iexact Hs12
  isplitl [Hs13]; · iexact Hs13
  iexact Hs14

theorem part35_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (PUnit) → sProp 𝕄} :
    iprop(env m K ∗ sn c (1, 5) ∗ owesE c q21 ∗ sn c (1, 6) ∗ oFl m c 2 ∗ sn c (2, 0))
      ⊢ iprop((iprop(accP m c 1 1 2 ∗ accP m c 4 1 1 ∗ accP m c 5 2 0 ∗ obV m c 2 ∗ ovV m c 2 ∗ owesE c q21 ∗ zo c 2 ∗ zs c (1, 5) ∗ zs c (1, 6) ∗ zs c (2, 0)) -∗ Q ⟨⟩)
        -∗ wp frame (wpE (defs₀ (F := F)) 𝒱₀ (c : Thread nD τ) none) Set.univ (k0_part35 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part35_eq_skeleton]
  unfold k0_part35_skel
  simp only [Prog.lift, Prog.bind_op, Prog.bind_ret, Prog.pure_eq_ret]
  iintro ⟨#He, Hn15, Ho, Hn16, Hg2, Hn20⟩ Hk
  iapply (send_wait m K c (1, 5) q21 _ rfl (acredit1 4 _)) $$ [Hn15 Ho]
  · isplitr; · iexact He
    isplitl [Hn15]; · iexact Hn15
    iexact Ho
  iintro ⟨Ha41, Hs15, Ho⟩
  iapply (send_wait m K c (1, 6) q21 _ rfl (acredit1 1 _)) $$ [Hn16 Ho]
  · isplitr; · iexact He
    isplitl [Hn16]; · iexact Hn16
    iexact Ho
  iintro ⟨Ha11, Hs16, Ho⟩
  iapply (out_wait m K c 2 q21 _ rfl rfl) $$ [Hg2 Ho]
  · isplitr; · iexact He
    isplitl [Hg2]; · iexact Hg2
    iexact Ho
  iintro ⟨Hov2, Hob2, Hk2x, Ho⟩
  iapply (send_wait m K c (2, 0) q21 _ rfl (acredit2 5 _)) $$ [Hn20 Ho]
  · isplitr; · iexact He
    isplitl [Hn20]; · iexact Hn20
    iexact Ho
  iintro ⟨Ha52, Hs20, Ho⟩
  rw [wp_ret]
  iapply Hk $$ [Ha11 Ha41 Ha52 Hob2 Hov2 Ho Hk2x Hs15 Hs16 Hs20]
  isplitl [Ha11]; · iexact Ha11
  isplitl [Ha41]; · iexact Ha41
  isplitl [Ha52]; · iexact Ha52
  isplitl [Hob2]; · iexact Hob2
  isplitl [Hov2]; · iexact Hov2
  isplitl [Ho]; · iexact Ho
  isplitl [Hk2x]; · iexact Hk2x
  isplitl [Hs15]; · iexact Hs15
  isplitl [Hs16]; · iexact Hs16
  iexact Hs20

theorem part36_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) (v2 : BitVec 32) {Q : (BitVec 32) → sProp 𝕄} :
    iprop(env m K ∗ sn c (2, 1) ∗ owesE c q21 ∗ sn c (2, 2) ∗ sn c (2, 3) ∗ sn c (2, 4))
      ⊢ iprop((∀ v, iprop(accP m c 2 2 1 ∗ accP m c 4 2 0 ∗ accP m c 6 2 0 ∗ accP m c 7 2 0 ∗ owesE c q21 ∗ zs c (2, 1) ∗ zs c (2, 2) ∗ zs c (2, 3) ∗ zs c (2, 4)) -∗ Q v)
        -∗ wp frame (wpE (defs₀ (F := F)) 𝒱₀ (c : Thread nD τ) none) Set.univ (k0_part36 xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14 v2) Q) := by
  rw [k0_part36_eq_skeleton]
  unfold k0_part36_skel
  simp only [Prog.lift, Prog.bind_op, Prog.bind_ret, Prog.pure_eq_ret]
  iintro ⟨#He, Hn21, Ho, Hn22, Hn23, Hn24⟩ Hk
  iapply (send_wait m K c (2, 1) q21 _ rfl (acredit2 6 _)) $$ [Hn21 Ho]
  · isplitr; · iexact He
    isplitl [Hn21]; · iexact Hn21
    iexact Ho
  iintro ⟨Ha62, Hs21, Ho⟩
  iapply (send_wait m K c (2, 2) q21 _ rfl (acredit2 7 _)) $$ [Hn22 Ho]
  · isplitr; · iexact He
    isplitl [Hn22]; · iexact Hn22
    iexact Ho
  iintro ⟨Ha72, Hs22, Ho⟩
  iapply (send_wait m K c (2, 3) q21 _ rfl (acredit2 4 _)) $$ [Hn23 Ho]
  · isplitr; · iexact He
    isplitl [Hn23]; · iexact Hn23
    iexact Ho
  iintro ⟨Ha42, Hs23, Ho⟩
  iapply (send_wait m K c (2, 4) q21 _ rfl (acredit2 2 _)) $$ [Hn24 Ho]
  · isplitr; · iexact He
    isplitl [Hn24]; · iexact Hn24
    iexact Ho
  iintro ⟨Ha22, Hs24, Ho⟩
  rw [wp_ret]
  iapply Hk $$ [Ha22 Ha42 Ha62 Ha72 Ho Hs21 Hs22 Hs23 Hs24]
  isplitl [Ha22]; · iexact Ha22
  isplitl [Ha42]; · iexact Ha42
  isplitl [Ha62]; · iexact Ha62
  isplitl [Ha72]; · iexact Ha72
  isplitl [Ho]; · iexact Ho
  isplitl [Hs21]; · iexact Hs21
  isplitl [Hs22]; · iexact Hs22
  isplitl [Hs23]; · iexact Hs23
  iexact Hs24

end Cert.Butterfly
-- ==== Proof.Body.lean ====
module

public import proofs.«01_k».proof.Proof.PartsA
public import proofs.«01_k».proof.Proof.PartsB
public import proofs.«01_k».proof.Proof.PartsC
public import proofs.«01_k».proof.Proof.PartsD
public import proofs.«01_k».proof.Proof.PartsE
public import proofs.«01_k».proof.Proof.PartsF

/-!
# The body

The parts one after the other: from what the device starts with to what it ends with.
-/

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ)

set_option maxRecDepth 65536

theorem ofEq {P Q : sProp 𝕄} (h : P = Q) : P ⊢ Q := by rw [h]

/-! ## A family over a finite type, member by member -/

theorem eachX (Φ : X → sProp 𝕄) : bigSep Finset.univ Φ = iprop(Φ (0, 0) ∗ Φ (0, 1) ∗ Φ (0, 2) ∗ Φ (0, 3) ∗ Φ (0, 4) ∗ Φ (0, 5) ∗ Φ (0, 6) ∗ Φ (1, 0) ∗ Φ (1, 1) ∗ Φ (1, 2) ∗ Φ (1, 3) ∗ Φ (1, 4) ∗ Φ (1, 5) ∗ Φ (1, 6) ∗ Φ (2, 0) ∗ Φ (2, 1) ∗ Φ (2, 2) ∗ Φ (2, 3) ∗ Φ (2, 4) ∗ Φ (2, 5) ∗ Φ (2, 6)) := by
  rw [bigSep_univ_eq_bigSepL ([(0, 0), (0, 1), (0, 2), (0, 3), (0, 4), (0, 5), (0, 6), (1, 0), (1, 1), (1, 2), (1, 3), (1, 4), (1, 5), (1, 6), (2, 0), (2, 1), (2, 2), (2, 3), (2, 4), (2, 5), (2, 6)] : List (X)) (by decide) (by decide)]
  rfl

theorem each8 (Φ : Fin 8 → sProp 𝕄) : bigSep Finset.univ Φ = iprop(Φ 0 ∗ Φ 1 ∗ Φ 2 ∗ Φ 3 ∗ Φ 4 ∗ Φ 5 ∗ Φ 6 ∗ Φ 7) := by
  rw [bigSep_univ_eq_bigSepL ([0, 1, 2, 3, 4, 5, 6, 7] : List (Fin 8)) (by decide) (by decide)]
  rfl

theorem each2 (Φ : Fin 2 → sProp 𝕄) : bigSep Finset.univ Φ = iprop(Φ 0 ∗ Φ 1) := by
  rw [bigSep_univ_eq_bigSepL ([0, 1] : List (Fin 2)) (by decide) (by decide)]
  rfl

theorem each3 (Φ : Fin 3 → sProp 𝕄) : bigSep Finset.univ Φ = iprop(Φ 0 ∗ Φ 1 ∗ Φ 2) := by
  rw [bigSep_univ_eq_bigSepL ([0, 1, 2] : List (Fin 3)) (by decide) (by decide)]
  rfl

theorem eachRG (Φ : Fin 8 × Fin 3 → sProp 𝕄) : bigSep Finset.univ Φ = iprop(Φ (0, 0) ∗ Φ (0, 1) ∗ Φ (0, 2) ∗ Φ (1, 0) ∗ Φ (1, 1) ∗ Φ (1, 2) ∗ Φ (2, 0) ∗ Φ (2, 1) ∗ Φ (2, 2) ∗ Φ (3, 0) ∗ Φ (3, 1) ∗ Φ (3, 2) ∗ Φ (4, 0) ∗ Φ (4, 1) ∗ Φ (4, 2) ∗ Φ (5, 0) ∗ Φ (5, 1) ∗ Φ (5, 2) ∗ Φ (6, 0) ∗ Φ (6, 1) ∗ Φ (6, 2) ∗ Φ (7, 0) ∗ Φ (7, 1) ∗ Φ (7, 2)) := by
  rw [bigSep_univ_eq_bigSepL ([(0, 0), (0, 1), (0, 2), (1, 0), (1, 1), (1, 2), (2, 0), (2, 1), (2, 2), (3, 0), (3, 1), (3, 2), (4, 0), (4, 1), (4, 2), (5, 0), (5, 1), (5, 2), (6, 0), (6, 1), (6, 2), (7, 0), (7, 1), (7, 2)] : List (Fin 8 × Fin 3)) (by decide) (by decide)]
  rfl

/-- A piece of the accumulator at the value of some step. -/
def accE (c : Dev nD) (q : Fin 8 × Fin 3) : sProp 𝕄 := iprop(∃ p, accP m c q.1 q.2 p)

/-- The slots the barrier hands over make the sends possible. -/
theorem sd_all (c : Dev nD) : iprop((bigSep Finset.univ fun x : X => slotE (F := F) (peer (mi x) c) x) ∗ (bigSep Finset.univ fun x : X => sd' (F := F) c x)) ⊢ bigSep Finset.univ fun x : X => sd (F := F) c x := by
  rw [← bigSep_sep']
  exact BI.Entails.refl _

/-- What device `c` starts the body with, and what it ends it with. -/
def bodyBeg (c : Dev nD) : sProp 𝕄 :=
  iprop((bigSep Finset.univ fun x : X => slotE c x)
    ∗ (dutyTok ER (barCell (peer 0 c)) 0 0 ∗ dutyTok ER (barCell (peer 1 c)) 0 1 ∗ dutyTok ER (barCell (peer 2 c)) 0 2)
    ∗ atPos ER (barCell c) 0 ∅ 0
    ∗ cred (tallyAt (barCell c) () 3)
    ∗ (∃ W, owes (c : Thread nD τ) (owed0 c) W)
    ∗ (bigSep Finset.univ fun x : X => sd' c x)
    ∗ (bigSep Finset.univ fun x : X => rv c x)
    ∗ (bigSep Finset.univ fun r : Fin 8 => rowU (F := F) c r)
    ∗ xArr m c
    ∗ (bigSep Finset.univ fun p : Fin 2 => xsU (F := F) c p)
    ∗ (bigSep Finset.univ fun p : Fin 2 => zx (F := F) c p)
    ∗ win m c
    ∗ w16U c
    ∗ (bigSep Finset.univ fun g : Fin 3 => obU (F := F) c g)
    ∗ (bigSep Finset.univ fun g : Fin 3 => ovU (F := F) c g)
    ∗ (bigSep Finset.univ fun g : Fin 3 => zo (F := F) c g))
def bodyEnd (c : Dev nD) : sProp 𝕄 :=
  iprop((bigSep Finset.univ fun q : Fin 8 × Fin 3 => accE m c q)
    ∗ (bigSep Finset.univ fun x : X => slotV m c x)
    ∗ (bigSep Finset.univ fun x : X => zs (F := F) c x)
    ∗ (bigSep Finset.univ fun x : X => zr (F := F) c x)
    ∗ semVal (barCell c) 0
    ∗ owesE c []
    ∗ xArr m c
    ∗ (bigSep Finset.univ fun p : Fin 2 => xsU (F := F) c p)
    ∗ (bigSep Finset.univ fun p : Fin 2 => zx (F := F) c p)
    ∗ win m c
    ∗ w16V m c
    ∗ (bigSep Finset.univ fun g : Fin 3 => obV m c g)
    ∗ (bigSep Finset.univ fun g : Fin 3 => ovV m c g)
    ∗ (bigSep Finset.univ fun g : Fin 3 => zo (F := F) c g))

theorem body_spec (c : Dev nD) (h0 : xaW.IsWhole) (h1 : wsW.IsWhole) (h2 : oaW.IsWhole) (h3 : accW.IsWhole) (h4 : stW0.IsWhole) (h5 : stW1.IsWhole) (h6 : stW2.IsWhole) (h7 : w16W.IsWhole) (h8 : xbW.IsWhole) (h9 : obW.IsWhole) {Q : PUnit → sProp 𝕄} :
    iprop(env m K ∗ bodyBeg m c)
      ⊢ iprop((bodyEnd m c -∗ Q ⟨⟩)
        -∗ wp frame (wpE (defs₀ (F := F)) 𝒱₀ (c : Thread nD τ) none) Set.univ (cc0_body xaW h0 wsW h1 oaW h2 accW h3 stW0 h4 stW1 h5 stW2 h6 w16W h7 xbW h8 obW h9 cc0_scratch7 cc0_scratch8 cc0_scratch9 cc0_scratch10 cc0_scratch11 cc0_scratch12 cc0_scratch13 cc0_scratch14) Q) := by
  rw [cc0_body_eq_skeleton]
  unfold cc0_body_skel
  rw [k0_part37_eq_skeleton]
  unfold k0_part37_skel
  simp only [Prog.lift, Prog.bind_op, Prog.bind_ret, Prog.pure_eq_ret, wp_bind]
  unfold bodyBeg
  iintro ⟨#He, Hslots, Hts, Hat, Hc, Ho, Hsd, Hrv, Hrow, Hx, Hxs, Hzx, Hw, Hq, Hob, Hov, Hzo⟩ Hk
  ihave Hxs := (ofEq (each2 fun i : Fin 2 => xsU (F := F) c i)) $$ Hxs
  icases Hxs with ⟨Hb0, Hb1⟩
  ihave Hzx := (ofEq (each2 fun i : Fin 2 => zx (F := F) c i)) $$ Hzx
  icases Hzx with ⟨Hz0, Hz1⟩
  iapply (part1_spec m K c h0 h1 h2 h3 h4 h5 h6 h7 h8 h9) $$ [Hslots Hts Hat Hc Ho Hx Hb0 Hz0 Hw Hq]
  · isplitr; · iexact He
    isplitl [Hslots]; · iexact Hslots
    isplitl [Hts]; · iexact Hts
    isplitl [Hat]; · iexact Hat
    isplitl [Hc]; · iexact Hc
    isplitl [Ho]; · iexact Ho
    isplitl [Hx]; · iexact Hx
    isplitl [Hb0]; · iexact Hb0
    isplitl [Hz0]; · iexact Hz0
    isplitl [Hw]; · iexact Hw
    iexact Hq
  iintro %v2 ⟨Hsl, Hbar, Ho, Hf0, Hw, Hq⟩
  ihave Hsd := (sd_all c) $$ [Hsl Hsd]
  · isplitl [Hsl]; · iexact Hsl
    iexact Hsd
  ihave Hsd := (ofEq (eachX fun i : X => sd (F := F) c i)) $$ Hsd
  icases Hsd with ⟨Hd00, Hd01, Hd02, Hd03, Hd04, Hd05, Hd06, Hd10, Hd11, Hd12, Hd13, Hd14, Hd15, Hd16, Hd20, Hd21, Hd22, Hd23, Hd24, Hd25, Hd26⟩
  ihave Hrv := (ofEq (eachX fun i : X => rv (F := F) c i)) $$ Hrv
  icases Hrv with ⟨Hv00, Hv01, Hv02, Hv03, Hv04, Hv05, Hv06, Hv10, Hv11, Hv12, Hv13, Hv14, Hv15, Hv16, Hv20, Hv21, Hv22, Hv23, Hv24, Hv25, Hv26⟩
  ihave Hrow := (ofEq (each8 fun i : Fin 8 => rowU (F := F) c i)) $$ Hrow
  icases Hrow with ⟨Hr0, Hr1, Hr2, Hr3, Hr4, Hr5, Hr6, Hr7⟩
  ihave Hob := (ofEq (each3 fun i : Fin 3 => obU (F := F) c i)) $$ Hob
  icases Hob with ⟨Hob0, Hob1, Hob2⟩
  ihave Hov := (ofEq (each3 fun i : Fin 3 => ovU (F := F) c i)) $$ Hov
  icases Hov with ⟨Hov0, Hov1, Hov2⟩
  ihave Hzo := (ofEq (each3 fun i : Fin 3 => zo (F := F) c i)) $$ Hzo
  icases Hzo with ⟨Hk0x, Hk1x, Hk2x⟩
  iapply (part2_spec m K c h0 h1 h2 h3 h4 h5 h6 h7 h8 h9 _) $$ [Hf0 Ho Hb1 Hz1 Hq Hr2]
  · isplitr; · iexact He
    isplitl [Hf0]; · iexact Hf0
    isplitl [Ho]; · iexact Ho
    isplitl [Hb1]; · iexact Hb1
    isplitl [Hz1]; · iexact Hz1
    isplitl [Hq]; · iexact Hq
    iexact Hr2
  iintro ⟨Ha20, Ha21, Ha22, Ho, Hq, Hf1, Hb0, Hz0⟩
  iapply (part3_spec m K c h0 h1 h2 h3 h4 h5 h6 h7 h8 h9 _) $$ [Ho Hd00 Ha20 Hf1 Hb0 Hz0 Hq Hr7]
  · isplitr; · iexact He
    isplitl [Ho]; · iexact Ho
    isplitl [Hd00]; · iexact Hd00
    isplitl [Ha20]; · iexact Ha20
    isplitl [Hf1]; · iexact Hf1
    isplitl [Hb0]; · iexact Hb0
    isplitl [Hz0]; · iexact Hz0
    isplitl [Hq]; · iexact Hq
    iexact Hr7
  iintro %w3 ⟨Ha70, Ha71, Ha72, Ho, Hn00, Hq, Hf0, Hb1, Hz1⟩
  iapply (part4_spec m K c h0 h1 h2 h3 h4 h5 h6 h7 h8 h9 _ _) $$ [Ho Hd10 Ha71 Hf0 Hb1 Hz1 Hq]
  · isplitr; · iexact He
    isplitl [Ho]; · iexact Ho
    isplitl [Hd10]; · iexact Hd10
    isplitl [Ha71]; · iexact Ha71
    isplitl [Hf0]; · iexact Hf0
    isplitl [Hb1]; · iexact Hb1
    isplitl [Hz1]; · iexact Hz1
    iexact Hq
  iintro ⟨Ho, Hn10, Hq, Hf1, Hb0, Hz0⟩
  iapply (part5_spec m K c h0 h1 h2 h3 h4 h5 h6 h7 h8 h9 _) $$ [Hr5 Ho Hd20 Hf1 Hb0 Hz0]
  · isplitr; · iexact He
    isplitl [Hr5]; · iexact Hr5
    isplitl [Ho]; · iexact Ho
    isplitl [Hd20]; · iexact Hd20
    isplitl [Hf1]; · iexact Hf1
    isplitl [Hb0]; · iexact Hb0
    iexact Hz0
  iintro ⟨Ha50, Ha51, Ho, Hn20, Hf0, Hb1, Hz1⟩
  iapply (part6_spec m K c h0 h1 h2 h3 h4 h5 h6 h7 h8 h9 _) $$ [Hq Hr6 Ho Hd01 Hd02 Ha50]
  · isplitr; · iexact He
    isplitl [Hq]; · iexact Hq
    isplitl [Hr6]; · iexact Hr6
    isplitl [Ho]; · iexact Ho
    isplitl [Hd01]; · iexact Hd01
    isplitl [Hd02]; · iexact Hd02
    iexact Ha50
  iintro %w6 ⟨Ha61, Ha62, Ho, Hn01, Hn02, Hq⟩
  iapply (part7_spec m K c h0 h1 h2 h3 h4 h5 h6 h7 h8 h9 _ _) $$ [Ho Hd11 Ha61 Hd12 Ha21]
  · isplitr; · iexact He
    isplitl [Ho]; · iexact Ho
    isplitl [Hd11]; · iexact Hd11
    isplitl [Ha61]; · iexact Ha61
    isplitl [Hd12]; · iexact Hd12
    iexact Ha21
  iintro ⟨Ho, Hn11, Hn12⟩
  iapply (part8_spec m K c h0 h1 h2 h3 h4 h5 h6 h7 h8 h9 _) $$ [Ho Hd21 Ha62 Hd22 Ha72 Hf0 Hb1 Hz1]
  · isplitr; · iexact He
    isplitl [Ho]; · iexact Ho
    isplitl [Hd21]; · iexact Hd21
    isplitl [Ha62]; · iexact Ha62
    isplitl [Hd22]; · iexact Hd22
    isplitl [Ha72]; · iexact Ha72
    isplitl [Hf0]; · iexact Hf0
    isplitl [Hb1]; · iexact Hb1
    iexact Hz1
  iintro ⟨Ho, Hn21, Hn22, Hf1, Hb0, Hz0⟩
  iapply (part9_spec m K c h0 h1 h2 h3 h4 h5 h6 h7 h8 h9 _) $$ [Hb0 Hq Hr1 Ho Hd03 Hf1]
  · isplitr; · iexact He
    isplitl [Hb0]; · iexact Hb0
    isplitl [Hq]; · iexact Hq
    isplitl [Hr1]; · iexact Hr1
    isplitl [Ho]; · iexact Ho
    isplitl [Hd03]; · iexact Hd03
    iexact Hf1
  iintro ⟨Ha11, Ha12, Ho, Hn03, Hq, Hx, Hb0, Hb1, Hz1⟩
  iapply (part10_spec m K c h0 h1 h2 h3 h4 h5 h6 h7 h8 h9 _) $$ [Hx Hb0 Hz0 Hb1 Hq Hr3 Ho Hd13]
  · isplitr; · iexact He
    isplitl [Hx]; · iexact Hx
    isplitl [Hb0]; · iexact Hb0
    isplitl [Hz0]; · iexact Hz0
    isplitl [Hb1]; · iexact Hb1
    isplitl [Hq]; · iexact Hq
    isplitl [Hr3]; · iexact Hr3
    isplitl [Ho]; · iexact Ho
    iexact Hd13
  iintro ⟨Ha30, Ha32, Ho, Hn13, Hq, Hf0, Hb1⟩
  iapply (part11_spec m K c h0 h1 h2 h3 h4 h5 h6 h7 h8 h9 _) $$ [Hf0 Ho Hb1 Hz1 Hq Hr4 Hd23]
  · isplitr; · iexact He
    isplitl [Hf0]; · iexact Hf0
    isplitl [Ho]; · iexact Ho
    isplitl [Hb1]; · iexact Hb1
    isplitl [Hz1]; · iexact Hz1
    isplitl [Hq]; · iexact Hq
    isplitl [Hr4]; · iexact Hr4
    iexact Hd23
  iintro ⟨Ha40, Ha41, Ho, Hn23, Hq, Hf1, Hb0, Hz0⟩
  iapply (part12_spec m K c h0 h1 h2 h3 h4 h5 h6 h7 h8 h9 _) $$ [Hf1 Ho Hq Hr0 Hv10 Ha41]
  · isplitr; · iexact He
    isplitl [Hf1]; · iexact Hf1
    isplitl [Ho]; · iexact Ho
    isplitl [Hq]; · iexact Hq
    isplitl [Hr0]; · iexact Hr0
    isplitl [Hv10]; · iexact Hv10
    iexact Ha41
  iintro ⟨Ha00, Ha01, Ha02, Ha41, Ho, Hl10, Hq, Hx, Hb1, Ht10, Hz1⟩
  iapply (part13_spec m K c h0 h1 h2 h3 h4 h5 h6 h7 h8 h9 _) $$ [Ha41 Hv20 Ho Ha12]
  · isplitr; · iexact He
    isplitl [Ha41]; · iexact Ha41
    isplitl [Hv20]; · iexact Hv20
    isplitl [Ho]; · iexact Ho
    iexact Ha12
  iintro ⟨Ha12, Ha41, Ho, Hl20, Ht20⟩
  iapply (part14_spec m K c h0 h1 h2 h3 h4 h5 h6 h7 h8 h9 _) $$ [Hv00 Ho Ha30 Hv11 Ha51]
  · isplitr; · iexact He
    isplitl [Hv00]; · iexact Hv00
    isplitl [Ho]; · iexact Ho
    isplitl [Ha30]; · iexact Ha30
    isplitl [Hv11]; · iexact Hv11
    iexact Ha51
  iintro ⟨Ha30, Ha51, Ho, Hl00, Hl11, Ht00, Ht11⟩
  iapply (part15_spec m K c h0 h1 h2 h3 h4 h5 h6 h7 h8 h9 _) $$ [Ha51 Ho Hd14 Hd15 Ha41]
  · isplitr; · iexact He
    isplitl [Ha51]; · iexact Ha51
    isplitl [Ho]; · iexact Ho
    isplitl [Hd14]; · iexact Hd14
    isplitl [Hd15]; · iexact Hd15
    iexact Ha41
  iintro %w15 ⟨Ho, Hn14, Hn15⟩
  iapply (part16_spec m K c h0 h1 h2 h3 h4 h5 h6 h7 h8 h9 _ _ _) $$ [Hv21 Ho Ha22 Hd24]
  · isplitr; · iexact He
    isplitl [Hv21]; · iexact Hv21
    isplitl [Ho]; · iexact Ho
    isplitl [Ha22]; · iexact Ha22
    iexact Hd24
  iintro %w16 ⟨Ho, Hl21, Hn24, Ht21⟩
  iapply (part17_spec m K c h0 h1 h2 h3 h4 h5 h6 h7 h8 h9 _ _ _) $$ [Ho Hd25 Ha12 Hv01 Ha70]
  · isplitr; · iexact He
    isplitl [Ho]; · iexact Ho
    isplitl [Hd25]; · iexact Hd25
    isplitl [Ha12]; · iexact Ha12
    isplitl [Hv01]; · iexact Hv01
    iexact Ha70
  iintro %w17 ⟨Ha70, Ho, Hl01, Hn25, Ht01⟩
  iapply (part18_spec m K c h0 h1 h2 h3 h4 h5 h6 h7 h8 h9 _ _) $$ [Ho Hd04 Ha70 Hd05 Ha30]
  · isplitr; · iexact He
    isplitl [Ho]; · iexact Ho
    isplitl [Hd04]; · iexact Hd04
    isplitl [Ha70]; · iexact Ha70
    isplitl [Hd05]; · iexact Hd05
    iexact Ha30
  iintro ⟨Ho, Hn04, Hn05⟩
  iapply (part19_spec m K c h0 h1 h2 h3 h4 h5 h6 h7 h8 h9 _) $$ [Hv12 Ho Ha11 Hv22 Ha32]
  · isplitr; · iexact He
    isplitl [Hv12]; · iexact Hv12
    isplitl [Ho]; · iexact Ho
    isplitl [Ha11]; · iexact Ha11
    isplitl [Hv22]; · iexact Hv22
    iexact Ha32
  iintro %w19 ⟨Ha11, Ha32, Ho, Hl12, Hl22, Ht12, Ht22⟩
  iapply (part20_spec m K c h0 h1 h2 h3 h4 h5 h6 h7 h8 h9 _ _) $$ [Hv02 Ho Ha40 Hv13]
  · isplitr; · iexact He
    isplitl [Hv02]; · iexact Hv02
    isplitl [Ho]; · iexact Ho
    isplitl [Ha40]; · iexact Ha40
    iexact Hv13
  iintro ⟨Ha40, Ho, Hl02, Hl13, Ht02, Ht13⟩
  iapply (part21_spec m K c h0 h1 h2 h3 h4 h5 h6 h7 h8 h9 _) $$ [Ha01 Hl13 Hv23 Ho Ha02]
  · isplitr; · iexact He
    isplitl [Ha01]; · iexact Ha01
    isplitl [Hl13]; · iexact Hl13
    isplitl [Hv23]; · iexact Hv23
    isplitl [Ho]; · iexact Ho
    iexact Ha02
  iintro %w21 ⟨Ha01, Ha02, Ho, Hl13, Hl23, Ht23⟩
  iapply (part22_spec m K c h0 h1 h2 h3 h4 h5 h6 h7 h8 h9 _ _) $$ [Hv03 Ho Ha00 Hv14 Ha11]
  · isplitr; · iexact He
    isplitl [Hv03]; · iexact Hv03
    isplitl [Ho]; · iexact Ho
    isplitl [Ha00]; · iexact Ha00
    isplitl [Hv14]; · iexact Hv14
    iexact Ha11
  iintro ⟨Ha00, Ha11, Ho, Hl03, Hl14, Ht03, Ht14⟩
  iapply (part23_spec m K c h0 h1 h2 h3 h4 h5 h6 h7 h8 h9 _) $$ [Hl14 Ha11 Ho Hd16 Hv24]
  · isplitr; · iexact He
    isplitl [Hl14]; · iexact Hl14
    isplitl [Ha11]; · iexact Ha11
    isplitl [Ho]; · iexact Ho
    isplitl [Hd16]; · iexact Hd16
    iexact Hv24
  iintro ⟨Ho, Hl14, Hl24, Hn16, Ht24⟩
  iapply (part24_spec m K c h0 h1 h2 h3 h4 h5 h6 h7 h8 h9 _) $$ [Ha32 Hl24 Ho Hd26 Hv04]
  · isplitr; · iexact He
    isplitl [Ha32]; · iexact Ha32
    isplitl [Hl24]; · iexact Hl24
    isplitl [Ho]; · iexact Ho
    isplitl [Hd26]; · iexact Hd26
    iexact Hv04
  iintro ⟨Ho, Hl04, Hl24, Hn26, Ht04⟩
  iapply (part25_spec m K c h0 h1 h2 h3 h4 h5 h6 h7 h8 h9 _) $$ [Ha40 Hl04 Ho Hd06]
  · isplitr; · iexact He
    isplitl [Ha40]; · iexact Ha40
    isplitl [Hl04]; · iexact Hl04
    isplitl [Ho]; · iexact Ho
    iexact Hd06
  iintro ⟨Ho, Hl04, Hn06⟩
  iapply (part26_spec m K c h0 h1 h2 h3 h4 h5 h6 h7 h8 h9 _) $$ [Hv15 Ho Ha01 Hv25 Ha02]
  · isplitr; · iexact He
    isplitl [Hv15]; · iexact Hv15
    isplitl [Ho]; · iexact Ho
    isplitl [Ha01]; · iexact Ha01
    isplitl [Hv25]; · iexact Hv25
    iexact Ha02
  iintro %w26 ⟨Ha01, Ha02, Ho, Hl15, Hl25, Ht15, Ht25⟩
  iapply (part27_spec m K c h0 h1 h2 h3 h4 h5 h6 h7 h8 h9 _ _) $$ [Hv05 Ho Ha00 Hv16]
  · isplitr; · iexact He
    isplitl [Hv05]; · iexact Hv05
    isplitl [Ho]; · iexact Ho
    isplitl [Ha00]; · iexact Ha00
    iexact Hv16
  iintro ⟨Ha00, Ho, Hl05, Hl16, Ht05, Ht16⟩
  iapply (part28_spec m K c h0 h1 h2 h3 h4 h5 h6 h7 h8 h9 _) $$ [Ha01 Hl16 Hob1 Hov1 Hk1x]
  · isplitr; · iexact He
    isplitl [Ha01]; · iexact Ha01
    isplitl [Hl16]; · iexact Hl16
    isplitl [Hob1]; · iexact Hob1
    isplitl [Hov1]; · iexact Hov1
    iexact Hk1x
  iintro ⟨Ha01, Hg1, Hl16⟩
  iapply (part29_spec m K c h0 h1 h2 h3 h4 h5 h6 h7 h8 h9 _) $$ [Hv26 Ho Ha02 Hob2 Hov2 Hk2x]
  · isplitr; · iexact He
    isplitl [Hv26]; · iexact Hv26
    isplitl [Ho]; · iexact Ho
    isplitl [Ha02]; · iexact Ha02
    isplitl [Hob2]; · iexact Hob2
    isplitl [Hov2]; · iexact Hov2
    iexact Hk2x
  iintro ⟨Ha02, Hg2, Ho, Hl26, Ht26⟩
  iapply (part30_spec m K c h0 h1 h2 h3 h4 h5 h6 h7 h8 h9 _) $$ [Hv06 Ho Ha00 Hob0 Hov0 Hk0x]
  · isplitr; · iexact He
    isplitl [Hv06]; · iexact Hv06
    isplitl [Ho]; · iexact Ho
    isplitl [Ha00]; · iexact Ha00
    isplitl [Hob0]; · iexact Hob0
    isplitl [Hov0]; · iexact Hov0
    iexact Hk0x
  iintro ⟨Ha00, Hob0, Hov0, Ho, Hl06, Hk0x, Ht06⟩
  iapply (part31_spec m K c h0 h1 h2 h3 h4 h5 h6 h7 h8 h9 _) $$ [Hn00 Ho Hn01 Hn02]
  · isplitr; · iexact He
    isplitl [Hn00]; · iexact Hn00
    isplitl [Ho]; · iexact Ho
    isplitl [Hn01]; · iexact Hn01
    iexact Hn02
  iintro ⟨Ha20, Ha50, Ha60, Ho, Hs00, Hs01, Hs02⟩
  iapply (part32_spec m K c h0 h1 h2 h3 h4 h5 h6 h7 h8 h9 _) $$ [Hn03 Ho Hn04 Hn05]
  · isplitr; · iexact He
    isplitl [Hn03]; · iexact Hn03
    isplitl [Ho]; · iexact Ho
    isplitl [Hn04]; · iexact Hn04
    iexact Hn05
  iintro ⟨Ha10, Ha30, Ha70, Ho, Hs03, Hs04, Hs05⟩
  iapply (part33_spec m K c h0 h1 h2 h3 h4 h5 h6 h7 h8 h9 _) $$ [Hn06 Ho Hg1 Hn10 Hn11]
  · isplitr; · iexact He
    isplitl [Hn06]; · iexact Hn06
    isplitl [Ho]; · iexact Ho
    isplitl [Hg1]; · iexact Hg1
    isplitl [Hn10]; · iexact Hn10
    iexact Hn11
  iintro ⟨Ha40, Ha61, Ha71, Hob1, Hov1, Ho, Hk1x, Hs06, Hs10, Hs11⟩
  iapply (part34_spec m K c h0 h1 h2 h3 h4 h5 h6 h7 h8 h9 _) $$ [Hn12 Ho Hn13 Hn14]
  · isplitr; · iexact He
    isplitl [Hn12]; · iexact Hn12
    isplitl [Ho]; · iexact Ho
    isplitl [Hn13]; · iexact Hn13
    iexact Hn14
  iintro ⟨Ha21, Ha31, Ha51, Ho, Hs12, Hs13, Hs14⟩
  iapply (part35_spec m K c h0 h1 h2 h3 h4 h5 h6 h7 h8 h9 _) $$ [Hn15 Ho Hn16 Hg2 Hn20]
  · isplitr; · iexact He
    isplitl [Hn15]; · iexact Hn15
    isplitl [Ho]; · iexact Ho
    isplitl [Hn16]; · iexact Hn16
    isplitl [Hg2]; · iexact Hg2
    iexact Hn20
  iintro ⟨Ha11, Ha41, Ha52, Hob2, Hov2, Ho, Hk2x, Hs15, Hs16, Hs20⟩
  iapply (part36_spec m K c h0 h1 h2 h3 h4 h5 h6 h7 h8 h9 _) $$ [Hn21 Ho Hn22 Hn23 Hn24]
  · isplitr; · iexact He
    isplitl [Hn21]; · iexact Hn21
    isplitl [Ho]; · iexact Ho
    isplitl [Hn22]; · iexact Hn22
    isplitl [Hn23]; · iexact Hn23
    iexact Hn24
  iintro %w36 ⟨Ha22, Ha42, Ha62, Ha72, Ho, Hs21, Hs22, Hs23, Hs24⟩
  iapply (send_wait m K c (2, 5) q21 _ rfl (acredit2 1 _)) $$ [Hn25 Ho]
  · isplitr; · iexact He
    isplitl [Hn25]; · iexact Hn25
    iexact Ho
  iintro ⟨Ha12, Hs25, Ho⟩
  rw [wp_ret]
  imodintro
  iapply (send_wait m K c (2, 6) q21 _ rfl (acredit2 3 _)) $$ [Hn26 Ho]
  · isplitr; · iexact He
    isplitl [Hn26]; · iexact Hn26
    iexact Ho
  iintro ⟨Ha32, Hs26, Ho⟩
  rw [wp_ret]
  imodintro
  iapply Hk
  unfold bodyEnd
  isplitl [Ha00 Ha01 Ha02 Ha10 Ha11 Ha12 Ha20 Ha21 Ha22 Ha30 Ha31 Ha32 Ha40 Ha41 Ha42 Ha50 Ha51 Ha52 Ha60 Ha61 Ha62 Ha70 Ha71 Ha72]
  · iapply (ofEq (eachRG fun i : Fin 8 × Fin 3 => accE m c i).symm)
    isplitl [Ha00]; · (unfold accE; iexists _; iexact Ha00)
    isplitl [Ha01]; · (unfold accE; iexists _; iexact Ha01)
    isplitl [Ha02]; · (unfold accE; iexists _; iexact Ha02)
    isplitl [Ha10]; · (unfold accE; iexists _; iexact Ha10)
    isplitl [Ha11]; · (unfold accE; iexists _; iexact Ha11)
    isplitl [Ha12]; · (unfold accE; iexists _; iexact Ha12)
    isplitl [Ha20]; · (unfold accE; iexists _; iexact Ha20)
    isplitl [Ha21]; · (unfold accE; iexists _; iexact Ha21)
    isplitl [Ha22]; · (unfold accE; iexists _; iexact Ha22)
    isplitl [Ha30]; · (unfold accE; iexists _; iexact Ha30)
    isplitl [Ha31]; · (unfold accE; iexists _; iexact Ha31)
    isplitl [Ha32]; · (unfold accE; iexists _; iexact Ha32)
    isplitl [Ha40]; · (unfold accE; iexists _; iexact Ha40)
    isplitl [Ha41]; · (unfold accE; iexists _; iexact Ha41)
    isplitl [Ha42]; · (unfold accE; iexists _; iexact Ha42)
    isplitl [Ha50]; · (unfold accE; iexists _; iexact Ha50)
    isplitl [Ha51]; · (unfold accE; iexists _; iexact Ha51)
    isplitl [Ha52]; · (unfold accE; iexists _; iexact Ha52)
    isplitl [Ha60]; · (unfold accE; iexists _; iexact Ha60)
    isplitl [Ha61]; · (unfold accE; iexists _; iexact Ha61)
    isplitl [Ha62]; · (unfold accE; iexists _; iexact Ha62)
    isplitl [Ha70]; · (unfold accE; iexists _; iexact Ha70)
    isplitl [Ha71]; · (unfold accE; iexists _; iexact Ha71)
    (unfold accE; iexists _; iexact Ha72)
  isplitl [Hl00 Hl01 Hl02 Hl03 Hl04 Hl05 Hl06 Hl10 Hl11 Hl12 Hl13 Hl14 Hl15 Hl16 Hl20 Hl21 Hl22 Hl23 Hl24 Hl25 Hl26]
  · iapply (ofEq (eachX fun i : X => slotV m c i).symm)
    isplitl [Hl00]; · iexact Hl00
    isplitl [Hl01]; · iexact Hl01
    isplitl [Hl02]; · iexact Hl02
    isplitl [Hl03]; · iexact Hl03
    isplitl [Hl04]; · iexact Hl04
    isplitl [Hl05]; · iexact Hl05
    isplitl [Hl06]; · iexact Hl06
    isplitl [Hl10]; · iexact Hl10
    isplitl [Hl11]; · iexact Hl11
    isplitl [Hl12]; · iexact Hl12
    isplitl [Hl13]; · iexact Hl13
    isplitl [Hl14]; · iexact Hl14
    isplitl [Hl15]; · iexact Hl15
    isplitl [Hl16]; · iexact Hl16
    isplitl [Hl20]; · iexact Hl20
    isplitl [Hl21]; · iexact Hl21
    isplitl [Hl22]; · iexact Hl22
    isplitl [Hl23]; · iexact Hl23
    isplitl [Hl24]; · iexact Hl24
    isplitl [Hl25]; · iexact Hl25
    iexact Hl26
  isplitl [Hs00 Hs01 Hs02 Hs03 Hs04 Hs05 Hs06 Hs10 Hs11 Hs12 Hs13 Hs14 Hs15 Hs16 Hs20 Hs21 Hs22 Hs23 Hs24 Hs25 Hs26]
  · iapply (ofEq (eachX fun i : X => zs (F := F) c i).symm)
    isplitl [Hs00]; · iexact Hs00
    isplitl [Hs01]; · iexact Hs01
    isplitl [Hs02]; · iexact Hs02
    isplitl [Hs03]; · iexact Hs03
    isplitl [Hs04]; · iexact Hs04
    isplitl [Hs05]; · iexact Hs05
    isplitl [Hs06]; · iexact Hs06
    isplitl [Hs10]; · iexact Hs10
    isplitl [Hs11]; · iexact Hs11
    isplitl [Hs12]; · iexact Hs12
    isplitl [Hs13]; · iexact Hs13
    isplitl [Hs14]; · iexact Hs14
    isplitl [Hs15]; · iexact Hs15
    isplitl [Hs16]; · iexact Hs16
    isplitl [Hs20]; · iexact Hs20
    isplitl [Hs21]; · iexact Hs21
    isplitl [Hs22]; · iexact Hs22
    isplitl [Hs23]; · iexact Hs23
    isplitl [Hs24]; · iexact Hs24
    isplitl [Hs25]; · iexact Hs25
    iexact Hs26
  isplitl [Ht00 Ht01 Ht02 Ht03 Ht04 Ht05 Ht06 Ht10 Ht11 Ht12 Ht13 Ht14 Ht15 Ht16 Ht20 Ht21 Ht22 Ht23 Ht24 Ht25 Ht26]
  · iapply (ofEq (eachX fun i : X => zr (F := F) c i).symm)
    isplitl [Ht00]; · iexact Ht00
    isplitl [Ht01]; · iexact Ht01
    isplitl [Ht02]; · iexact Ht02
    isplitl [Ht03]; · iexact Ht03
    isplitl [Ht04]; · iexact Ht04
    isplitl [Ht05]; · iexact Ht05
    isplitl [Ht06]; · iexact Ht06
    isplitl [Ht10]; · iexact Ht10
    isplitl [Ht11]; · iexact Ht11
    isplitl [Ht12]; · iexact Ht12
    isplitl [Ht13]; · iexact Ht13
    isplitl [Ht14]; · iexact Ht14
    isplitl [Ht15]; · iexact Ht15
    isplitl [Ht16]; · iexact Ht16
    isplitl [Ht20]; · iexact Ht20
    isplitl [Ht21]; · iexact Ht21
    isplitl [Ht22]; · iexact Ht22
    isplitl [Ht23]; · iexact Ht23
    isplitl [Ht24]; · iexact Ht24
    isplitl [Ht25]; · iexact Ht25
    iexact Ht26
  isplitl [Hbar]; · iexact Hbar
  isplitl [Ho]; · iexact Ho
  isplitl [Hx]; · iexact Hx
  isplitl [Hb0 Hb1]
  · iapply (ofEq (each2 fun i : Fin 2 => xsU (F := F) c i).symm)
    isplitl [Hb0]; · iexact Hb0
    iexact Hb1
  isplitl [Hz0 Hz1]
  · iapply (ofEq (each2 fun i : Fin 2 => zx (F := F) c i).symm)
    isplitl [Hz0]; · iexact Hz0
    iexact Hz1
  isplitl [Hw]; · iexact Hw
  isplitl [Hq]; · iexact Hq
  isplitl [Hob0 Hob1 Hob2]
  · iapply (ofEq (each3 fun i : Fin 3 => obV m c i).symm)
    isplitl [Hob0]; · iexact Hob0
    isplitl [Hob1]; · iexact Hob1
    iexact Hob2
  isplitl [Hov0 Hov1 Hov2]
  · iapply (ofEq (each3 fun i : Fin 3 => ovV m c i).symm)
    isplitl [Hov0]; · iexact Hov0
    isplitl [Hov1]; · iexact Hov1
    iexact Hov2
  · iapply (ofEq (each3 fun i : Fin 3 => zo (F := F) c i).symm)
    isplitl [Hk0x]; · iexact Hk0x
    isplitl [Hk1x]; · iexact Hk1x
    iexact Hk2x

end Cert.Butterfly
-- ==== Proof.Whole.lean ====
module

public import proofs.«01_k».proof.Proof.Body

/-!
# The buffers, whole and in pieces

At launch a device holds each of its scratch buffers and its result whole; the body works on their rows, slots, halves and
column groups. This file splits the buffers and puts them together again.
-/

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (K : Dev nD × CK → ℕ)

/-! ## A buffer and a family of index sets that partition it -/

/-- The sets of `K` are the fibres of one function: disjoint, and all of the buffer together. -/
def Fibres {A B : Type} (K : B → Finset A) : Prop := ∃ φ : A → B, ∀ b i, i ∈ K b ↔ φ i = b

theorem Fibres.disjoint {A B : Type} {K : B → Finset A} (h : Fibres K) (b b' : B) (hb : b ≠ b') : Disjoint (K b) (K b') := by
  obtain ⟨φ, hφ⟩ := h
  rw [Finset.disjoint_left]
  intro i hi hi'
  exact hb (((hφ b i).1 hi).symm.trans ((hφ b' i).1 hi'))

theorem Fibres.whole {A B : Type} [Fintype A] [DecidableEq A] [Fintype B] {K : B → Finset A} (h : Fibres K) : Finset.univ.biUnion K = Finset.univ := by
  obtain ⟨φ, hφ⟩ := h
  refine Finset.eq_univ_iff_forall.2 fun i => Finset.mem_biUnion.2 ⟨φ i, Finset.mem_univ _, (hφ _ i).2 rfl⟩

section
variable {ℓ : Loc nD τ sig} {B : Type} [Fintype B] [DecidableEq B] {K' : B → Finset (Idx ℓ)}

theorem split_at (h : Fibres K') (f : Buf (Elt F) ℓ) :
    ((ℓ ↦{fullShare} f) : sProp 𝕄) = bigSep Finset.univ fun b => ℓ ↦[K' b]{fullShare} f := by
  rw [← pointsTo_biUnion Finset.univ K' fun b _ b' _ hb => h.disjoint b b' hb, h.whole]

theorem split_some (h : Fibres K') : (iprop(∃ f : Buf (Elt F) ℓ, ℓ ↦{fullShare} f) : sProp 𝕄) ⊢ bigSep Finset.univ fun b => iprop(∃ f : Buf (Elt F) ℓ, ℓ ↦[K' b]{fullShare} f) := by
  iintro ⟨%f, H⟩
  iapply ((ofEq (split_at h f)).trans (bigSep_mono fun b _ => show ((ℓ ↦[K' b]{fullShare} f) : sProp 𝕄) ⊢ iprop(∃ f : Buf (Elt F) ℓ, ℓ ↦[K' b]{fullShare} f) by iintro H; iexists f; iexact H))
  iexact H

theorem join_some [Nonempty (Buf (Elt F) ℓ)] (h : Fibres K') : (bigSep Finset.univ fun b => iprop(∃ f : Buf (Elt F) ℓ, ℓ ↦[K' b]{fullShare} f) : sProp 𝕄) ⊢ iprop(∃ f : Buf (Elt F) ℓ, ℓ ↦{fullShare} f) := by
  iintro H
  ihave H' := (BI.bigSep_exists_pi Finset.univ (fun (b : B) (f : Buf (Elt F) ℓ) => ((ℓ ↦[K' b]{fullShare} f) : sProp 𝕄))) $$ H
  icases H' with ⟨%fs, H'⟩
  ihave H2 := (pointsTo_biUnion_join Finset.univ K' fs (Classical.arbitrary _) fun b _ b' _ hb => h.disjoint b b' hb) $$ H'
  icases H2 with ⟨%g, -, H2⟩
  iexists g
  ihave H3 := (ofEq (show ((ℓ ↦[Finset.univ.biUnion K']{fullShare} g) : sProp 𝕄) = (ℓ ↦{fullShare} g) by rw [h.whole])) $$ H2
  iexact H3
end

/-! ## The partitions -/

theorem fib_row : Fibres rowSet := ⟨fun i => (i 0 : Fin 8), fun b i => mem_rowSet.trans (Fin.ext_iff (a := (i 0 : Fin 8)) (b := b)).symm⟩
theorem fib_slot {n : ℕ} : Fibres (slotSet (n := n)) := ⟨fun i => (i 0 : Fin 7), fun b i => mem_slotSet.trans (Fin.ext_iff (a := (i 0 : Fin 7)) (b := b)).symm⟩
theorem fib_half : Fibres halfSet := ⟨fun i => (i 0 : Fin 2), fun b i => mem_halfSet.trans (Fin.ext_iff (a := (i 0 : Fin 2)) (b := b)).symm⟩
theorem fib_col : Fibres colSet := ⟨fun i => grp (i 1).val, fun b i => mem_colSet⟩
theorem fib_piece : Fibres (fun q : Fin 8 × Fin 3 => pieceSet q.1 q.2) :=
  ⟨fun i => ((i 0 : Fin 8), grp (i 2).val), fun b i => mem_pieceSet.trans ⟨fun h => Prod.ext (Fin.ext h.1) h.2, fun h => ⟨congrArg (fun q : Fin 8 × Fin 3 => q.1.val) h, congrArg Prod.snd h⟩⟩⟩

/-! ## The buffers -/

def anyOf (c : Dev nD) (b : Ref sig .tc) : sProp 𝕄 := iprop(∃ f : Buf (Elt F) ((c : Thread nD τ).loc b), ((c : Thread nD τ).loc b) ↦{fullShare} f)

theorem rows_in (c : Dev nD) : anyOf (F := F) c cc0_scratch0 ⊢ bigSep Finset.univ fun r : Fin 8 => rowU c r :=
  split_some (ℓ := (c : Thread nD τ).loc cc0_scratch0) fib_row
theorem halves_in (c : Dev nD) : anyOf (F := F) c cc0_scratch5 ⊢ bigSep Finset.univ fun p : Fin 2 => xsU c p :=
  split_some (ℓ := (c : Thread nD τ).loc cc0_scratch5) fib_half
theorem cols_in (c : Dev nD) : anyOf (F := F) c cc0_scratch6 ⊢ bigSep Finset.univ fun g : Fin 3 => obU c g :=
  split_some (ℓ := (c : Thread nD τ).loc cc0_scratch6) fib_col
theorem outs_in (c : Dev nD) : anyOf (F := F) c main_v1 ⊢ bigSep Finset.univ fun g : Fin 3 => ovU c g :=
  split_some (ℓ := (c : Thread nD τ).loc main_v1) fib_col
theorem slots_eq (Φ : X → sProp 𝕄) : bigSep Finset.univ Φ
    = iprop((bigSep Finset.univ fun j : Fin 7 => Φ (0, j)) ∗ (bigSep Finset.univ fun j : Fin 7 => Φ (1, j)) ∗ bigSep Finset.univ fun j : Fin 7 => Φ (2, j)) := by
  rw [bigSep_univ_prod, each3]
theorem slots_in (c : Dev nD) : iprop(anyOf (F := F) c cc0_scratch1 ∗ anyOf (F := F) c cc0_scratch2 ∗ anyOf (F := F) c cc0_scratch3) ⊢ bigSep Finset.univ fun x : X => slotE (F := F) c x := by
  rw [slots_eq]
  iintro ⟨H0, H1, H2⟩
  isplitl [H0]
  · iapply (show anyOf (F := F) c cc0_scratch1 ⊢ bigSep Finset.univ fun j : Fin 7 => slotE0 c j from split_some (ℓ := (c : Thread nD τ).loc cc0_scratch1) fib_slot)
    iexact H0
  isplitl [H1]
  · iapply (show anyOf (F := F) c cc0_scratch2 ⊢ bigSep Finset.univ fun j : Fin 7 => slotE1 c j from split_some (ℓ := (c : Thread nD τ).loc cc0_scratch2) fib_slot)
    iexact H1
  · iapply (show anyOf (F := F) c cc0_scratch3 ⊢ bigSep Finset.univ fun j : Fin 7 => slotE2 c j from split_some (ℓ := (c : Thread nD τ).loc cc0_scratch3) fib_slot)
    iexact H2

theorem acc_out (c : Dev nD) : (bigSep Finset.univ fun q : Fin 8 × Fin 3 => accE m c q) ⊢ anyOf (F := F) c cc0_scratch0 :=
  haveI : Nonempty (Buf (Elt F) ((c : Thread nD τ).loc cc0_scratch0)) := ⟨AB m 0 c⟩
  (bigSep_mono fun q _ => show accE m c q ⊢ iprop(∃ f : Buf (Elt F) ((c : Thread nD τ).loc cc0_scratch0), ((c : Thread nD τ).loc cc0_scratch0) ↦[pieceSet q.1 q.2]{fullShare} f) by
    unfold accE accP; iintro ⟨%p, H⟩; iexists (AB m p c); iexact H).trans (join_some (ℓ := (c : Thread nD τ).loc cc0_scratch0) fib_piece)

theorem slots_out (c : Dev nD) : (bigSep Finset.univ fun x : X => slotV m c x) ⊢ iprop(anyOf (F := F) c cc0_scratch1 ∗ anyOf (F := F) c cc0_scratch2 ∗ anyOf (F := F) c cc0_scratch3) := by
  rw [slots_eq]
  iintro ⟨H0, H1, H2⟩
  isplitl [H0]
  · unfold anyOf; iexists (SB m 0 hn0 c)
    iapply (ofEq (split_at (ℓ := (c : Thread nD τ).loc cc0_scratch1) fib_slot (SB m 0 hn0 c)).symm)
    iexact H0
  isplitl [H1]
  · unfold anyOf; iexists (SB m 1 hn1 c)
    iapply (ofEq (split_at (ℓ := (c : Thread nD τ).loc cc0_scratch2) fib_slot (SB m 1 hn1 c)).symm)
    iexact H1
  · unfold anyOf; iexists (SB m 2 hn2 c)
    iapply (ofEq (split_at (ℓ := (c : Thread nD τ).loc cc0_scratch3) fib_slot (SB m 2 hn2 c)).symm)
    iexact H2

include m in
theorem halves_out (c : Dev nD) : (bigSep Finset.univ fun p : Fin 2 => xsU (F := F) c p) ⊢ anyOf (F := F) c cc0_scratch5 := by
  haveI : Nonempty (Buf (Elt F) ((c : Thread nD τ).loc cc0_scratch5)) := ⟨XB m c 0⟩
  exact join_some (ℓ := (c : Thread nD τ).loc cc0_scratch5) fib_half
theorem cols_out (c : Dev nD) : (bigSep Finset.univ fun g : Fin 3 => obV m c g) ⊢ anyOf (F := F) c cc0_scratch6 := by
  iintro H
  unfold anyOf; iexists (OB m c)
  iapply (ofEq (split_at (ℓ := (c : Thread nD τ).loc cc0_scratch6) fib_col (OB m c)).symm)
  iexact H
theorem outs_out (c : Dev nD) : (bigSep Finset.univ fun g : Fin 3 => ovV m c g) ⊢ (((c : Thread nD τ).loc main_v1) ↦{fullShare} OB m c : sProp 𝕄) :=
  ofEq (split_at (ℓ := (c : Thread nD τ).loc main_v1) fib_col (OB m c)).symm

end Cert.Butterfly
-- ==== Proof.Deal.lean ====
module

public import proofs.«01_k».proof.Proof.Whole

/-!
# The ghost state at launch

The launch makes one round per protocol cell and one token per payment. This file makes them, puts every cell under an
invariant and deals each token to the device that pays with it: the owner of a departure cell, the partner of an arrival cell
or of a barrier.
-/

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ)

/-! ## The semaphores -/

/-- The semaphores the kernel owns: two for the blocks of `x`, three for the result, the departures and the arrivals. -/
abbrev OI : Type := (Fin 2 ⊕ Fin 3) ⊕ (X ⊕ X)
def osem : OI → SemLoc sig
  | .inl (.inl p) => .dma (xS p)
  | .inl (.inr g) => .dma (oS g)
  | .inr (.inl x) => .dma (sendS x)
  | .inr (.inr x) => .dma (recvS x)

/-- The number of the semaphore. -/
def onum : OI → ℕ
  | .inl (.inl p) => 1 + p.val
  | .inl (.inr g) => 3 + g.val
  | .inr (.inl x) => 6 + 7 * x.1.val + x.2.val
  | .inr (.inr x) => 27 + 7 * x.1.val + x.2.val
theorem osem_num (k : OI) : ∃ q : DmaSem sig, osem k = .dma q ∧ q.val = onum k := by
  rcases k with (p | g) | (x | x)
  · exact ⟨xS p, rfl, rfl⟩
  · exact ⟨oS g, rfl, rfl⟩
  · exact ⟨sendS x, rfl, rfl⟩
  · exact ⟨recvS x, rfl, rfl⟩
theorem onum_pos (k : OI) : 0 < onum k := by rcases k with (p | g) | (x | x) <;> (unfold onum; dsimp only; omega)
theorem onum_inj : Function.Injective onum := by
  rintro ((p | g) | (x | x)) ((p' | g') | (x' | x')) h <;> (unfold onum at h; dsimp only at h) <;> first
    | (exfalso; omega)
    | (rw [show p = p' from Fin.ext (by omega)])
    | (rw [show g = g' from Fin.ext (by omega)])
    | (rw [show x = x' from Prod.ext (Fin.ext (by omega)) (Fin.ext (by omega))])
theorem dmaScoped (q : DmaSem sig) : (SemLoc.dma q : SemLoc sig).isScoped .tc = true := by revert q; decide
theorem ownSemFacts : Pipeline.OwnSemFacts cfg0.spec osem where
  isScoped k := by
    obtain ⟨q, hq, -⟩ := osem_num k
    rw [hq]; exact dmaScoped q
  inj a b h := by
    obtain ⟨q, hq, hv⟩ := osem_num a
    obtain ⟨q', hq', hv'⟩ := osem_num b
    rw [hq, hq'] at h
    refine onum_inj ?_
    rw [← hv, ← hv', SemLoc.dma.inj h]
  disj k w s h := by
    obtain ⟨q, hq, hv⟩ := osem_num k
    rw [hq] at h
    have h0 : q.val = 0 := by rw [SemLoc.dma.inj h]; revert s; fin_cases w; intro s; fin_cases s; intro _; rfl
    have := onum_pos k
    omega

/-- A family over the cells of one device: the barrier, the departures, the arrivals. -/
def ckEquiv : Unit ⊕ (X ⊕ X) ≃ CK where
  toFun
    | .inl _ => none
    | .inr (.inl x) => some (false, x)
    | .inr (.inr x) => some (true, x)
  invFun
    | none => .inl ()
    | some (false, x) => .inr (.inl x)
    | some (true, x) => .inr (.inr x)
  left_inv := by rintro (_ | _ | _) <;> rfl
  right_inv := by rintro (_ | ⟨_ | _, _⟩) <;> rfl
theorem eachCK (Φ : CK → sProp 𝕄) : bigSep Finset.univ Φ
    = iprop(Φ none ∗ (bigSep Finset.univ fun x : X => Φ (some (false, x))) ∗ bigSep Finset.univ fun x : X => Φ (some (true, x))) := by
  rw [bigSep_univ_equiv ckEquiv, BI.bigSep_univ_sum, BI.bigSep_univ_sum, bigSep_univ_eq_bigSepL [()] (by decide) (by decide)]
  rfl

def sems (c : Dev nD) : sProp 𝕄 :=
  iprop((bigSep Finset.univ fun p : Fin 2 => zx c p) ∗ (bigSep Finset.univ fun g : Fin 3 => zo c g)
    ∗ (bigSep Finset.univ fun x : X => zs c x) ∗ bigSep Finset.univ fun x : X => zr c x)
theorem ownSems0_eq (c : Dev nD) : (Pipeline.ownSems0 (Ix := Unit) (Name := ℕ) (U := UU) (Lvl := ℕ) (Val := Elt F) (τ := τ) osem c : sProp 𝕄)
    = iprop(((bigSep Finset.univ fun p : Fin 2 => zx c p) ∗ (bigSep Finset.univ fun g : Fin 3 => zo c g))
      ∗ (bigSep Finset.univ fun x : X => zs c x) ∗ bigSep Finset.univ fun x : X => zr c x) := by
  unfold Pipeline.ownSems0
  rw [BI.bigSep_univ_sum, BI.bigSep_univ_sum, BI.bigSep_univ_sum]
  rfl
theorem unscopedSems0_eq (c : Dev nD) : (unscopedSems0 c : sProp 𝕄) = semVal (barCell c) 0 := by
  unfold unscopedSems0; rw [bigSep_eq_bigSepL_of_eq [SemLoc.reg barS] (by decide) (by decide)]; rfl

/-! ## Cells and tokens -/

def theCells : Finset (GSem nD τ sig) := Finset.univ.map ⟨kcell, kcell_injective⟩
theorem each_cell (Φ : GSem nD τ sig → sProp 𝕄) : bigSep theCells Φ = bigSep Finset.univ fun c : Dev nD => bigSep Finset.univ fun k : CK => Φ (kcell (c, k)) := by
  unfold theCells; rw [bigSep_map, bigSep_univ_prod]; rfl

/-- A payment into a device's cells: a unit at its barrier from one of three partners, a departure, an arrival. -/
abbrev TI : Type := Fin 3 ⊕ (X ⊕ X)
def tcell : TI → CK × Fin 3
  | .inl i => (none, i)
  | .inr (.inl x) => (some (false, x), 0)
  | .inr (.inr x) => (some (true, x), 0)
theorem tcell_inj : Function.Injective tcell := by
  rintro (i | x | x) (i' | x' | x') h <;> unfold tcell at h <;> cases h <;> rfl
def tokOf (ct : Dev nD × TI) : GSem nD τ sig × ℕ × Fin 3 := (kcell (ct.1, (tcell ct.2).1), 0, (tcell ct.2).2)
theorem tokOf_inj : Function.Injective tokOf := by
  rintro ⟨c, t⟩ ⟨c', t'⟩ h
  have h1 := kcell_injective (congrArg Prod.fst h)
  have h2 : (tcell t).2 = (tcell t').2 := congrArg (fun z : GSem nD τ sig × ℕ × Fin 3 => z.2.2) h
  have h3 : t = t' := tcell_inj (Prod.ext (congrArg Prod.snd h1) h2)
  rw [show c = c' from congrArg Prod.fst h1, h3]
def theToks : Finset (GSem nD τ sig × ℕ × Fin 3) := Finset.univ.map ⟨tokOf, tokOf_inj⟩

def u₀ : UU := (initOf (Pipeline.cells cfgs cellOf_inj) (Pipeline.launchToks cfgs cellOf_inj), (initOf theCells theToks, 1))
theorem ownU_split (a : UR sig nD τ) (b : UB) : (ownU ((a, (b, 1)) : UU) : sProp 𝕄) ⊢ iprop(BI.own (EP a) ∗ BI.own (ER b)) :=
  ownU_pair a (b, (1 : Counters))

/-- The tokens of a device's own cells, as made; -/
def toks (c : Dev nD) : sProp 𝕄 :=
  iprop((bigSep Finset.univ fun i : Fin 3 => dutyTok ER (barCell c) 0 i) ∗ (bigSep Finset.univ fun x : X => dutyTok ER (sendCell c x) 0 0)
    ∗ bigSep Finset.univ fun x : X => dutyTok ER (recvCell c x) 0 0)
/-- and those a device pays with. -/
def payToks (c : Dev nD) : sProp 𝕄 :=
  iprop((bigSep Finset.univ fun i : Fin 3 => dutyTok ER (barCell (peer i c)) 0 i) ∗ (bigSep Finset.univ fun x : X => dutyTok ER (sendCell c x) 0 0)
    ∗ bigSep Finset.univ fun x : X => dutyTok ER (recvCell (peer (mi x) c) x) 0 0)

/-- A family over devices and indices, dealt to the partner under a mask the index picks. -/
theorem deal {I : Type} [Fintype I] [DecidableEq I] (w : I → Fin 3) (Φ : Dev nD → I → sProp 𝕄) :
    (bigSep Finset.univ fun c : Dev nD => bigSep Finset.univ fun i : I => Φ c i) = bigSep Finset.univ fun c : Dev nD => bigSep Finset.univ fun i : I => Φ (peer (w i) c) i := by
  rw [← bigSep_univ_prod (fun ci : Dev nD × I => Φ ci.1 ci.2), ← bigSep_univ_prod (fun ci : Dev nD × I => Φ (peer (w ci.2) ci.1) ci.2)]
  exact bigSep_univ_equiv ⟨fun ci => (peer (w ci.2) ci.1, ci.2), fun ci => (peer (w ci.2) ci.1, ci.2), fun ci => Prod.ext (peer_peer _ _) rfl,
    fun ci => Prod.ext (peer_peer _ _) rfl⟩ fun ci : Dev nD × I => Φ ci.1 ci.2
theorem toks_dealt : (bigSep Finset.univ fun c : Dev nD => (toks c : sProp 𝕄)) = bigSep Finset.univ fun c : Dev nD => payToks c := by
  unfold toks payToks
  rw [bigSep_sep', bigSep_sep', bigSep_sep', bigSep_sep', deal (fun i => i) fun c i => dutyTok ER (barCell c) 0 i, deal mi fun c x => dutyTok ER (recvCell c x) 0 0]

/-! ## From the launch element to every device's share -/

def G (c : Dev nD) : sProp 𝕄 :=
  iprop((bigSep Finset.univ fun k : CK => roundState ER (rd m) (kcell (c, k)) 0) ∗ (bigSep Finset.univ fun k : CK => atPos ER (kcell (c, k)) 0 ∅ 0)
    ∗ (bigSep Finset.univ fun k : CK => reached ER (kcell (c, k)) 0) ∗ toks c)
theorem made : BI.own (ER (initOf theCells theToks)) ⊢ (|==> bigSep Finset.univ (G m) : sProp 𝕄) := by
  have hT : bigSep theToks (fun z => (dutyTok ER z.1 z.2.1 z.2.2 : sProp 𝕄)) = bigSep Finset.univ fun c : Dev nD => toks c := by
    unfold theToks; rw [bigSep_map, bigSep_univ_prod]
    exact bigSep_congr fun c _ => by unfold toks; rw [BI.bigSep_univ_sum, BI.bigSep_univ_sum]; rfl
  iintro H
  imod (Rounds.fund ER (rd m) theCells theToks) $$ H with ⟨Hs, Hr, Ha, Ht⟩
  imodintro
  unfold G; simp only [bigSep_sep']
  isplitl [Hs]; · iapply (ofEq (each_cell fun g => roundState ER (rd m) g 0)); iexact Hs
  isplitl [Ha]; · iapply (ofEq (each_cell fun g => atPos ER g 0 ∅ 0)); iexact Ha
  isplitl [Hr]; · iapply (ofEq (each_cell fun g => reached ER g 0)); iexact Hr
  iapply (ofEq hT); iexact Ht

/-- The records every device can keep a copy of. -/
def recs (K : Dev nD × CK → ℕ) : sProp 𝕄 :=
  iprop((bigSep Finset.univ fun ck : Dev nD × CK => cellInv ER (rd m) (K ck) (kcell ck)) ∗ bigSep Finset.univ fun ck : Dev nD × CK => reached ER (kcell ck) 0)
instance recs_persistent (K : Dev nD × CK → ℕ) : BI.Persistent (recs m K) := by unfold recs; infer_instance
/-- What is one device's alone. -/
def mine (c : Dev nD) : sProp 𝕄 :=
  iprop((bigSep Finset.univ fun k : CK => atPos ER (kcell (c, k)) 0 ∅ 0) ∗ payToks c
    ∗ (bigSep Finset.univ fun p : Fin 2 => zx c p) ∗ (bigSep Finset.univ fun g : Fin 3 => zo c g))
def G' (c : Dev nD) : sProp 𝕄 := iprop(∃ K, recs m K ∗ mine c)

/-- One device's cells, closed under their invariants. -/
theorem closed (c : Dev nD) :
    iprop(Pipeline.ownSems0 (Ix := Unit) (Name := ℕ) (U := UU) (Lvl := ℕ) (Val := Elt F) (τ := τ) osem c ∗ unscopedSems0 c ∗ G m c)
      ⊢ |={Set.univ}=> iprop((bigSep Finset.univ fun k : CK => iprop(∃ κ : ℕ, cellInv ER (rd m) κ (kcell (c, k))))
          ∗ (bigSep Finset.univ fun k : CK => reached ER (kcell (c, k)) 0)
          ∗ (bigSep Finset.univ fun k : CK => atPos ER (kcell (c, k)) 0 ∅ 0) ∗ toks c
          ∗ (bigSep Finset.univ fun p : Fin 2 => zx c p) ∗ (bigSep Finset.univ fun g : Fin 3 => zo c g)) := by
  rw [ownSems0_eq, unscopedSems0_eq]
  unfold G
  iintro ⟨⟨⟨Hx, Ho⟩, Hs, Hr⟩, Hb, Hst, Hat, Hre, Htok⟩
  ihave Hv := (ofEq (eachCK fun k => semVal (kcell (c, k)) 0).symm) $$ [Hs Hr Hb]
  · isplitl [Hb]; · iexact Hb
    isplitl [Hs]; · iexact Hs
    iexact Hr
  imod (show iprop((bigSep Finset.univ fun k : CK => semVal (kcell (c, k)) 0) ∗ bigSep Finset.univ fun k : CK => roundState ER (rd m) (kcell (c, k)) 0)
      ⊢ (|={Set.univ}=> bigSep Finset.univ fun k : CK => iprop(∃ κ : ℕ, cellInv ER (rd m) κ (kcell (c, k))) : sProp 𝕄) from by
        rw [← bigSep_sep']
        exact (bigSep_mono fun k _ => (Rounds.body_intro ER (rd m) (kcell (c, k))).trans inv_alloc).trans (bigSep_fupd _ _)) $$ [Hv Hst] with Hinv
  · isplitl [Hv] <;> iassumption
  imodintro
  isplitl [Hinv]; · iexact Hinv
  isplitl [Hre]; · iexact Hre
  isplitl [Hat]; · iexact Hat
  isplitl [Htok]; · iexact Htok
  isplitl [Hx] <;> iassumption

theorem keep {R : sProp 𝕄} [BI.Persistent R] {Φ Ψ : Dev nD → sProp 𝕄} (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem shared :
    (bigSep Finset.univ fun c : Dev nD => iprop((bigSep Finset.univ fun k : CK => iprop(∃ κ : ℕ, cellInv ER (rd m) κ (kcell (c, k))))
          ∗ (bigSep Finset.univ fun k : CK => reached ER (kcell (c, k)) 0)
          ∗ (bigSep Finset.univ fun k : CK => atPos ER (kcell (c, k)) 0 ∅ 0) ∗ toks c
          ∗ (bigSep Finset.univ fun p : Fin 2 => zx c p) ∗ (bigSep Finset.univ fun g : Fin 3 => zo c g)) : sProp 𝕄)
      ⊢ bigSep Finset.univ (G' m) := by
  rw [bigSep_sep', bigSep_sep', bigSep_sep', bigSep_sep', bigSep_sep', ← bigSep_univ_prod (fun ck : Dev nD × CK => iprop(∃ κ : ℕ, cellInv ER (rd m) κ (kcell ck))),
    ← bigSep_univ_prod (fun ck : Dev nD × CK => (reached ER (kcell ck) 0 : sProp 𝕄)), toks_dealt]
  iintro ⟨HI, #HR, Hat, Htok, Hz⟩
  ihave HK := (BI.bigSep_exists_pi Finset.univ (fun (ck : Dev nD × CK) (κ : ℕ) => (cellInv ER (rd m) κ (kcell ck) : sProp 𝕄))) $$ HI
  icases HK with ⟨%K, #HI⟩
  iapply (keep (R := recs m K) (Φ := mine) (Ψ := G' m) fun c => show iprop(recs m K ∗ mine c) ⊢ G' m c by
    unfold G'; iintro H; iexists K; iexact H)
  isplitr
  · unfold recs; isplitl; · iexact HI
    iexact HR
  · iapply (ofEq (show (bigSep Finset.univ mine : sProp 𝕄) = _ by unfold mine; rw [bigSep_sep', bigSep_sep', bigSep_sep']).symm)
    isplitl [Hat]; · iexact Hat
    isplitl [Htok]; · iexact Htok
    iexact Hz

theorem glob : (bigSep Finset.univ fun c => iprop(Pipeline.ownSems0 (Ix := Unit) (Name := ℕ) (U := UU) (Lvl := ℕ) (Val := Elt F) (τ := τ) osem c ∗ unscopedSems0 c ∗ G m c) : sProp 𝕄)
    ⊢ |={Set.univ}=> bigSep Finset.univ (G' m) :=
  ((bigSep_mono fun c _ => closed m c).trans (bigSep_fupd _ _)).trans (BI.fupd_mono (shared m))

end Cert.Butterfly
-- ==== Proof.Owed.lean ====
module

public import proofs.«01_k».proof.Proof.Deal

/-!
# The credit at launch

What all devices owe a device's barrier and its arrival cells is what that device will wait for there.
-/

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ)

theorem barCell_iff {a b : Dev nD} : Iff (barCell a = barCell b) (a = b) := ⟨fun h => congrArg (fun g : GSem nD τ sig => g.1.1) h, fun h => h ▸ rfl⟩
theorem recvCell_iff {a b : Dev nD} {x y : X} : Iff (recvCell a x = recvCell b y) (a = b ∧ x = y) := by
  constructor
  · intro h
    have h2 : (some (true, x) : CK) = some (true, y) := csem_injective (congrArg Prod.snd h)
    exact ⟨congrArg (fun g : GSem nD τ sig => g.1.1) h, (Prod.mk.inj (Option.some.inj h2)).2⟩
  · rintro ⟨rfl, rfl⟩; rfl
theorem recvCell_ne_bar (a b : Dev nD) (x : X) : recvCell a x ≠ barCell b := fun h => by
  have := congrArg Prod.snd h
  cases this

theorem peer_eq_iff {i : Fin 3} {d c : Dev nD} : Iff (c = peer i d) (d = peer i c) :=
  ⟨fun h => by rw [h, peer_peer], fun h => by rw [h, peer_peer]⟩

theorem owedL_bar (l : List X) (d c : Dev nD) : owedL l d (barCell c) () = 0 := by
  induction l with
  | nil => rfl
  | cons y l ih =>
    unfold owedL
    rw [Pi.add_apply, Finsupp.add_apply, ih, tallyAt_ne_cell (fun h => recvCell_ne_bar _ _ _ h.symm), Finsupp.zero_apply, Nat.add_zero]
theorem owedL_recv (l : List X) (d c : Dev nD) (x : X) : owedL l d (recvCell c x) () = l.count x * if d = peer (mi x) c then crd x.1 else 0 := by
  induction l with
  | nil => rw [List.count_nil, Nat.zero_mul]; rfl
  | cons y l ih =>
    unfold owedL
    rw [Pi.add_apply, Finsupp.add_apply, ih, tallyAt_apply]
    by_cases hy : y = x
    · subst hy
      rw [List.count_cons_self, Nat.succ_mul]
      congr 1
      by_cases hd : d = peer (mi y) c
      · rw [if_pos ⟨recvCell_iff.2 ⟨peer_eq_iff.2 hd, rfl⟩, rfl⟩, if_pos hd]
      · rw [if_neg (fun h => hd (peer_eq_iff.1 (recvCell_iff.1 h.1).1)), if_neg hd]
    · rw [List.count_cons_of_ne hy, if_neg (c := recvCell c x = recvCell (peer (mi y) d) y ∧ () = ()) (fun h => hy (recvCell_iff.1 h.1).2.symm), Nat.add_zero]

theorem tally_bar (i : Fin 3) (d c : Dev nD) : (tallyAt (barCell (peer i d)) () 1 : CellTallies nD τ sig Unit) (barCell c) () = if d = peer i c then 1 else 0 := by
  rw [tallyAt_apply]
  by_cases hd : d = peer i c
  · rw [if_pos ⟨barCell_iff.2 (peer_eq_iff.2 hd), rfl⟩, if_pos hd]
  · rw [if_neg (fun h => hd (peer_eq_iff.1 (barCell_iff.1 h.1))), if_neg hd]
theorem tally_recv (i : Fin 3) (d c : Dev nD) (x : X) : (tallyAt (barCell (peer i d)) () 1 : CellTallies nD τ sig Unit) (recvCell c x) () = 0 := by
  rw [tallyAt_ne_cell (recvCell_ne_bar _ _ _), Finsupp.zero_apply]

theorem owed0_bar (d c : Dev nD) : owed0 d (barCell c) () = (if d = peer 2 c then 1 else 0) + (if d = peer 1 c then 1 else 0) + if d = peer 0 c then 1 else 0 := by
  unfold owed0 owed1 owed2
  rw [Pi.add_apply, Finsupp.add_apply, Pi.add_apply, Finsupp.add_apply, Pi.add_apply, Finsupp.add_apply, owedL_bar, tally_bar, tally_bar, tally_bar, Nat.zero_add]
theorem owed0_recv (d c : Dev nD) (x : X) : owed0 d (recvCell c x) () = if d = peer (mi x) c then crd x.1 else 0 := by
  unfold owed0 owed1 owed2
  rw [Pi.add_apply, Finsupp.add_apply, Pi.add_apply, Finsupp.add_apply, Pi.add_apply, Finsupp.add_apply, owedL_recv, tally_recv, tally_recv, tally_recv,
    show sendOrder.count x = 1 by revert x; decide, Nat.one_mul]; rfl

theorem credit_bar (c : Dev nD) :
    tallyOn (barCell c) (launchCredit (Pipeline.owing owed0) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed0_bar d c, Finset.sum_add_distrib, Finset.sum_add_distrib,
    Finset.sum_ite_eq' Finset.univ (peer 0 c) fun _ => 1, Finset.sum_ite_eq' Finset.univ (peer 1 c) fun _ => 1, Finset.sum_ite_eq' Finset.univ (peer 2 c) fun _ => 1,
    if_pos (Finset.mem_univ _), if_pos (Finset.mem_univ _), if_pos (Finset.mem_univ _)]
theorem credit_recv (c : Dev nD) (x : X) :
    tallyOn (recvCell c x) (launchCredit (Pipeline.owing owed0) 0 (recvCell c x)) = (tallyAt (recvCell c x) () (crd x.1) : CellTallies nD τ sig Unit) := by
  unfold tallyAt; refine congrArg _ (Finsupp.ext fun u => ?_); cases u
  rw [Pipeline.launchCredit_owing, Finsupp.single_eq_same, Finset.sum_congr rfl fun d _ => owed0_recv d c x,
    Finset.sum_ite_eq' Finset.univ (peer (mi x) c) fun _ => crd x.1, if_pos (Finset.mem_univ _)]

/-- The semaphores a device waits at on its partners' account. -/
def waited : Option X → SemLoc sig
  | none => .reg barS
  | some x => .dma (recvS x)
theorem waited_inj : Function.Injective waited := fun a b h => by
  have key : ∀ o : Option X, waited o = csem (o.map fun x => (true, x)) := fun o => by cases o <;> rfl
  rw [key, key] at h
  exact Option.map_injective (fun x y h => (Prod.mk.inj h).2) (csem_injective h)
def optE : Unit ⊕ X ≃ Option X where
  toFun
    | .inl _ => none
    | .inr x => some x
  invFun
    | none => .inl ()
    | some x => .inr x
  left_inv := by rintro (_ | _) <;> rfl
  right_inv := by rintro (_ | _) <;> rfl

theorem creds (c : Dev nD) :
    (Pipeline.launchCred owed0 c : sProp 𝕄) ⊢ iprop(cred (tallyAt (barCell c) () 3) ∗ bigSep Finset.univ fun x : X => cred (tallyAt (recvCell c x) () (crd x.1))) := by
  unfold Pipeline.launchCred
  refine (bigSep_subset (t := Finset.univ.map ⟨waited, waited_inj⟩) (Finset.subset_univ _)).trans (ofEq ?_)
  rw [bigSep_map, bigSep_univ_equiv optE, BI.bigSep_univ_sum, bigSep_univ_eq_bigSepL [()] (by decide) (by decide)]
  show iprop(cred (tallyOn (barCell c) (launchCredit (Pipeline.owing owed0) 0 (barCell c)))
    ∗ bigSep Finset.univ fun x : X => cred (tallyOn (recvCell c x) (launchCredit (Pipeline.owing owed0) 0 (recvCell c x)))) = _
  rw [credit_bar]
  congr 1
  exact bigSep_congr fun x _ => by rw [credit_recv]

end Cert.Butterfly
-- ==== Proof.Launch.lean ====
module

public import Idealize.ShloMosaic.Lib.Pipeline.CollectiveSegs
public import proofs.«01_k».proof.Proof.Owed

/-!
# The launch

The body under the pipeline, and the run: every execution ends, with the result at `OB`, the arguments as they were and every
semaphore at zero.
-/

@[expose] public section

noncomputable section

namespace Cert.Butterfly

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds Idealize.ShloMosaic.ValueIdx

variable {F : FTy → Type} [FloatOps F]

local notation "𝕄" => MT nD τ sig Unit (Elt F) ℕ UU ℕ

variable (m : (ℓ : Loc nD τ sig) → Buf (Elt F) ℓ) (ρ : Dev nD → PrngReg)

set_option maxRecDepth 16384

/-- What a device's body starts from, its scratch buffers apart. -/
def start (c : Dev nD) : sProp 𝕄 :=
  iprop(G' m c ∗ levAts L lv ∗ cred (tallyAt (barCell c) () 3) ∗ (bigSep Finset.univ fun x : X => cred (tallyAt (recvCell c x) () (crd x.1)))
    ∗ xArr m c ∗ anyOf c main_v1)
/-- The scratch buffers, holding anything. -/
def scratch (c : Dev nD) : sProp 𝕄 :=
  iprop(anyOf c cc0_scratch0 ∗ anyOf c cc0_scratch1 ∗ anyOf c cc0_scratch2 ∗ anyOf c cc0_scratch3 ∗ anyOf c cc0_scratch4 ∗ anyOf c cc0_scratch5 ∗ anyOf c cc0_scratch6)
def Φ₀ (c : Dev nD) : sProp 𝕄 := iprop(start m c ∗ scratch c)
/-- What the run leaves outside the launch: the barrier at zero, `x` and the result. -/
def left (c : Dev nD) : sProp 𝕄 :=
  iprop(unscopedSems0 c ∗ xArr m c ∗ (((c : Thread nD τ).loc main_v1) ↦{fullShare} OB m c))
def Φ₁ (c : Dev nD) : sProp 𝕄 :=
  iprop(left m c ∗ Pipeline.ownSems0 (Ix := Unit) (Name := ℕ) (U := UU) (Lvl := ℕ) (Val := Elt F) (τ := τ) osem c ∗ scratch c)

def dats (_ : Fin 1) (c : Dev nD) : Pipeline.Dat τ (Elt F) Unit ℕ UU ℕ cfg0 c where
  A w := m ((cfg0.win w).arr.view.loc (c : Thread nD τ))
  after w _ := match w with
    | ⟨0, _⟩ => wst m c
  Φ t := match t with
    | ⟨0, _⟩ => Φ₀ m c
    | ⟨_ + 1, _⟩ => Φ₁ m c
  q _ := fullShare
  owed t := match t with
    | ⟨0, _⟩ => owed0 c
    | ⟨_ + 1, _⟩ => 0

theorem fetch_0 (t : Fin cfg0.N) : (cfg0.win (0 : Fin 1)).fetch t = true := by rw [fin_N0 t]; rfl

theorem owns_stage (c : Dev nD) (b : Ref sig .tc) (V : b.ty.Contents (Elt F)) :
    (owns (Ix := Unit) (Name := ℕ) (U := UU) (Lvl := ℕ) (c : Thread nD τ) (Memref.whole b) fullShare V : sProp 𝕄)
      = iprop(∃ f : Buf (Elt F) ((c : Thread nD τ).loc b), ⌜f = V⌝ ∗ (((c : Thread nD τ).loc b) ↦{fullShare} f)) := by
  unfold owns; simp only [Memref.view_whole, View.read_whole, View.set_whole]

/-- The staged block of `w` before and after the body. -/
abbrev stg (c : Dev nD) (V : (cc0_stg0_0 : Ref sig .tc).ty.Contents (Elt F)) : sProp 𝕄 :=
  iprop(∃ f : Buf (Elt F) ((c : Thread nD τ).loc cc0_stg0_0), ⌜f = V⌝ ∗ (((c : Thread nD τ).loc cc0_stg0_0) ↦{fullShare} f))
def before (c : Dev nD) : sProp 𝕄 :=
  iprop(Φ₀ m c ∗ (dats m 0 c).owesAt () t0_0.castSucc ∗ (∃ d, stg c ((dats m 0 c).before (0 : Fin 1) t0_0 d)))
def after (c : Dev nD) : sProp 𝕄 :=
  iprop(Φ₁ m c ∗ (dats m 0 c).owesAt () t0_0.succ ∗ stg c (wst m c))

/-- What the body takes, out of what the launch gives. -/
theorem beg_of (c : Dev nD) :
    iprop(mine c ∗ cred (tallyAt (barCell c) () 3) ∗ (bigSep Finset.univ fun x : X => cred (tallyAt (recvCell c x) () (crd x.1)))
      ∗ xArr m c ∗ anyOf c main_v1 ∗ scratch c ∗ (∃ W, owes (c : Thread nD τ) (owed0 c) W) ∗ win m c) ⊢ bodyBeg m c := by
  unfold mine payToks scratch
  iintro ⟨⟨Hat, ⟨Htb, Hts, Htr⟩, Hzx, Hzo⟩, Hcb, Hcr, Hx, Hv, ⟨H0, H1, H2, H3, H4, H5, H6⟩, Ho, Hw⟩
  ihave Hat := (ofEq (eachCK fun k => atPos ER (kcell (c, k)) 0 ∅ 0)) $$ Hat
  icases Hat with ⟨Hab, Has, Har⟩
  unfold bodyBeg
  isplitl [H1 H2 H3]
  · iapply (slots_in (F := F) c)
    isplitl [H1]; · iexact H1
    isplitl [H2] <;> iassumption
  isplitl [Htb]
  · iapply (ofEq (each3 fun i => dutyTok ER (barCell (peer i c)) 0 i)); iexact Htb
  isplitl [Hab]; · iexact Hab
  isplitl [Hcb]; · iexact Hcb
  isplitl [Ho]; · iexact Ho
  isplitl [Hts Htr Has]
  · iapply (ofEq (show (bigSep Finset.univ fun x : X => sd' (F := F) c x) = _ by unfold sd'; rw [bigSep_sep', bigSep_sep']).symm)
    isplitl [Hts]; · iexact Hts
    isplitl [Htr]; · iexact Htr
    iexact Has
  isplitl [Hcr Har]
  · iapply (ofEq (show (bigSep Finset.univ fun x : X => rv (F := F) c x) = _ by unfold rv; rw [bigSep_sep']).symm)
    isplitl [Hcr]; · iexact Hcr
    iexact Har
  isplitl [H0]; · iapply (rows_in (F := F) c); iexact H0
  isplitl [Hx]; · iexact Hx
  isplitl [H5]; · iapply (halves_in (F := F) c); iexact H5
  isplitl [Hzx]; · iexact Hzx
  isplitl [Hw]; · iexact Hw
  isplitl [H4]; · unfold w16U; unfold anyOf; iexact H4
  isplitl [H6]; · iapply (cols_in (F := F) c); iexact H6
  isplitl [Hv]; · iapply (outs_in (F := F) c); iexact Hv
  iexact Hzo

/-- What the launch takes back, out of what the body leaves. -/
theorem of_end (c : Dev nD) : bodyEnd m c ⊢ iprop(Φ₁ m c ∗ owesE c [] ∗ win m c) := by
  unfold bodyEnd Φ₁ left scratch
  rw [ownSems0_eq, unscopedSems0_eq]
  iintro ⟨Ha, Hsl, Hzs, Hzr, Hb, Ho, Hx, Hxs, Hzx, Hw, Hq, Hob, Hov, Hzo⟩
  ihave Hsl := (slots_out m c) $$ Hsl
  icases Hsl with ⟨H1, H2, H3⟩
  isplitr [Ho Hw]
  · isplitl [Hb Hx Hov]
    · isplitl [Hb]; · iexact Hb
      isplitl [Hx]; · iexact Hx
      iapply (outs_out m c); iexact Hov
    isplitl [Hzx Hzo Hzs Hzr]
    · isplitl [Hzx Hzo]
      · isplitl [Hzx] <;> iassumption
      isplitl [Hzs] <;> iassumption
    isplitl [Ha]; · iapply (acc_out m c); iexact Ha
    isplitl [H1]; · iexact H1
    isplitl [H2]; · iexact H2
    isplitl [H3]; · iexact H3
    isplitl [Hq]; · unfold anyOf w16V; iexists (W16 m c); iexact Hq
    isplitl [Hxs]; · iapply (halves_out m c); iexact Hxs
    iapply (cols_out m c); iexact Hob
  · isplitl [Ho] <;> iassumption

theorem body_obligation (c : Dev nD) : Pipeline.BodyObligation (dats m 0 c) (defs₀ (F := F)) 𝒱₀ () Set.univ := fun t => by
  rw [fin_N0 t]
  rw [bigSep_W0, bigSep_W0]
  simp only [owns_stage]
  show before m c ⊢ wp frame (wpE (defs₀ (F := F)) 𝒱₀ (c : Thread nD τ) none) Set.univ
    (cc0_body xaW (Memref.isWhole_whole _) (Memref.whole cc0_stg0_0) (Memref.isWhole_whole _) oaW (Memref.isWhole_whole _) accW (Memref.isWhole_whole _) stW0 (Memref.isWhole_whole _) stW1 (Memref.isWhole_whole _) stW2 (Memref.isWhole_whole _) w16W (Memref.isWhole_whole _) xbW (Memref.isWhole_whole _) obW (Memref.isWhole_whole _) cc0_scratch7 cc0_scratch8 cc0_scratch9 cc0_scratch10 cc0_scratch11 cc0_scratch12 cc0_scratch13 cc0_scratch14) (fun _ => after m c)
  unfold before after Φ₀ start G' Pipeline.Dat.owesAt Pipeline.owesWithin
  iintro ⟨⟨⟨⟨%K, #HR, HM⟩, #Hlev, Hcb, Hcr, Hx, Hv⟩, Hscr⟩, ⟨%W, %hW, HO⟩, ⟨%d, %f, %hf, Hw⟩⟩
  have hf' : f = wst m c := by
    rw [hf]; unfold Pipeline.Dat.before; rw [if_pos (fetch_0 t0_0)]; rfl
  subst hf'
  iapply (body_spec m K c (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _) (Memref.isWhole_whole _)) $$ [HM Hcb Hcr Hx Hv Hscr HO Hw]
  · isplitr
    · unfold env recs
      icases HR with ⟨#H1, #H2⟩
      isplitl; · iexact H1
      isplitl; · iexact H2
      iexact Hlev
    · iapply (beg_of m c)
      isplitl [HM]; · iexact HM
      isplitl [Hcb]; · iexact Hcb
      isplitl [Hcr]; · iexact Hcr
      isplitl [Hx]; · iexact Hx
      isplitl [Hv]; · iexact Hv
      isplitl [Hscr]; · iexact Hscr
      isplitl [HO]; · iexists W; iexact HO
      unfold win; iexact Hw
  iintro H
  ihave H := (of_end m c) $$ H
  unfold owesE
  icases H with ⟨HΦ, ⟨%W', HO⟩, Hw⟩
  isplitl [HΦ]; · iexact HΦ
  isplitl [HO]
  · iexists W'
    isplitr; · ipureintro; exact fun _ _ => Or.inl trivial
    iexact HO
  iexists (wst m c)
  isplitr; · ipureintro; rfl
  unfold win; iexact Hw

theorem share_eq (c : Dev nD) (w : Fin cfg0.W) : (dats m 0 c).share w = fullShare := by unfold Pipeline.Dat.share; split <;> rfl

/-! ## The run -/

theorem start_of (c : Dev nD) :
    iprop(Pipeline.unscopedRestP Pipeline.Prefetch.none cfg0.spec c (fun b => m ((c : Thread nD τ).loc b)) ∗ levAts L lv
        ∗ Pipeline.launchCred owed0 c ∗ prngReg c (ρ c) ∗ G' m c)
      ⊢ |={Set.univ}=> iprop(start m c ∗ emp) := by
  rw [Pipeline.unscopedRestP_none, unscopedRest0_eq]
  iintro ⟨⟨Hx, Hv⟩, Hlev, Hcr, -, HG⟩
  ihave Hc := (creds (F := F) c) $$ Hcr
  icases Hc with ⟨Hcb, Hcr⟩
  imodintro
  unfold start
  isplitl
  · isplitl [HG]; · iexact HG
    isplitl [Hlev]; · iexact Hlev
    isplitl [Hcb]; · iexact Hcb
    isplitl [Hcr]; · iexact Hcr
    isplitl [Hx]; · unfold xArr; iexact Hx
    unfold anyOf; iexists (m ((c : Thread nD τ).loc main_v1)); iexact Hv
  · iempintro

theorem first_of (c : Dev nD) :
    iprop(start m c ∗ Pipeline.prefHeld Pipeline.Prefetch.none c (fun _ => fullShare.right) (fun k => k.elim0) ∗ Pipeline.scopedRest cfg0.spec c)
      ⊢ (dats m 0 c).Φ 0 := by
  rw [show (dats m 0 c).Φ 0 = Φ₀ m c from rfl, scopedRest0_eq]
  unfold Φ₀
  iintro ⟨Hs, -, Hr⟩
  isplitl [Hs]; · iexact Hs
  unfold scratch anyOf; iexact Hr

theorem last_to (c : Dev nD) :
    (dats m 0 c).Φ (Fin.last cfg0.N) ⊢ iprop(left m c ∗ Pipeline.ownSems0 osem c ∗ Pipeline.scopedRest cfg0.spec c) := by
  rw [show (dats m 0 c).Φ (Fin.last cfg0.N) = Φ₁ m c from rfl, scopedRest0_eq]
  exact BI.Entails.refl _

theorem waits (c : Dev nD) : (levAts L lv : sProp 𝕄) ⊢ Pipeline.cellsWaits cfgs (dats m) () 0 c :=
  Pipeline.cellsWaits_intro cfgs (dats m) () 0 c fun w s t => by
    rcases t with ⟨_ | n, ht⟩
    · exact mayWait_owed0 c _ (by fin_cases w; revert s; decide)
    · show (levAts L lv : sProp 𝕄) ⊢ MayWait (c : Thread nD τ) _ () 0
      rw [MayWait_zero]; iintro -; iempintro

/-- What a final memory is known to hold on device `c`. -/
def Good (c : Dev nD) (s : MemSt nD τ sig (Elt F)) : Prop :=
  (∀ sm : SemLoc sig, sm.isScoped .tc = false → s.sem ((c.tc : Thread nD τ), sm) = 0)
    ∧ s.mem ((c : Thread nD τ).loc main_arg0) = m ((c : Thread nD τ).loc main_arg0)
    ∧ s.mem ((c : Thread nD τ).loc main_v1) = OB m c

theorem read_end (c : Dev nD) (s' : Phys nD τ sig (Elt F)) : iprop(left m c ∗ emp ∗ SI s') ⊢ (|={Set.univ}=> iprop(⌜Good m c s'.mem⌝ ∗ SI s') : sProp 𝕄) := by
  unfold left xArr
  iintro ⟨⟨Hs, Hx, Hv⟩, -, HSI⟩
  ihave %hx := (SI_pointsTo_agree (st := s')) $$ [HSI Hx]
  · isplitl [HSI] <;> iassumption
  ihave %hv := (SI_pointsTo_agree (st := s')) $$ [HSI Hv]
  · isplitl [HSI] <;> iassumption
  imod (Pipeline.unscopedSems0_read (X := unscopedSems0 c) (c := c) fupd_intro s') $$ [Hs HSI] with ⟨%hs, HSI⟩
  · isplitl [Hs] <;> iassumption
  imodintro
  isplitr
  · ipureintro
    exact ⟨hs, funext fun i => hx i (Finset.mem_univ i), funext fun i => hv i (Finset.mem_univ i)⟩
  iexact HSI

/-- What every final state holds. -/
def Final (r : PUnit × MemSt nD τ sig (Elt F)) : Prop :=
  (∀ c : Dev nD, r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_v1) = OB m c)
    ∧ r.2.sem = fun _ => 0

/-- At the mesh of eight devices, for any float values, from any memory with zero counters: every weakly fair execution ends
    in a state that is `Final`. -/
theorem run_main : θ_run defs (onTc (τ := τ) (main (F := F))) ⟨m, fun _ => 0, ρ⟩ (Final m) :=
  Pipeline.θ_run_region_owing_glob_pf (fun p => (cfgs p).toPCfg) (fun p => (cfgs p).toPCfg_adm) (dats m) () cellOf_inj (0 : Fin 1)
    winFacts0.to₀ ownSemFacts (Pipeline.PreFacts.none _) EP defs₀ 𝒱₀ m ρ main
    (hmain := fun _ => rfl)
    (hbody := body_obligation m) (hne := fun w => by fin_cases w <;> exact Nat.succ_pos _) (harr := arr_whole0) (hstage := stage_whole0) (hshare := share_eq m)
    (hdistinct := winFacts0.arr_inj)
    (O₀ := owed0) (howed₀ := fun _ => rfl) (howedN := fun _ => rfl)
    (L := L) (lv := lv) (hL := L_of_ne) (hwaits := waits m)
    (G := G m) (G' := G' m) (u₀ := u₀)
    (hu₀ := by
      unfold u₀
      iintro Hu
      ihave H := (ownU_split _ _) $$ Hu
      icases H with ⟨HP, HX⟩
      imod (made m) $$ HX with HG
      imodintro
      isplitl [HP] <;> iassumption)
    (hglob := glob m)
    (hA := fun _ _ => rfl) (hpf := fun _ k => k.elim0)
    (X := start m) (Y := left m) (Z := fun _ => iprop(emp))
    (hX := start_of m ρ) (hin := first_of m) (hout := last_to m)
    (QY := Good m) (hY := read_end m)
    (hQ := fun s h hs => ⟨fun c => ⟨((h c).2.2).2.1, ((h c).1 (0 : Fin 1)).trans ((dats m 0 c).arrAt_in (0 : Fin 1) rfl _), ((h c).2.2).2.2⟩, sem_eq_zero hs fun c => ((h c).2.2).1⟩)

end Cert.Butterfly
-- ==== Proof.Frames.lean ====
/-
# The runs end quietly

Both copies of the kernel, and both references, run to the end with their arguments unchanged and every counter at zero.
The kernel's run (`run_main`) is proved once, for any float values; the references declare no semaphore at all.
-/
module

public import proofs.«01_k».proof.Defs
public import proofs.«01_k».proof.Proof.Launch
public import proofs.«01_k».proof.Proof.Gen.Kernel
public import proofs.«01_k».proof.Proof.Gen.ReferenceIdeal.Run
public import proofs.«01_k».proof.Proof.Gen.ClippedIdeal.Run

@[expose] public section

noncomputable section

namespace Cert.Butterfly

open Idealize.ShloMosaic Idealize.SL.Sem

/-- The kernel's run for any float values: the arguments and the counters. -/
theorem quiet {F : FTy → Type} [FloatOps F]
    (m : (ℓ : Loc Cert.KernelIdeal.nD Cert.KernelIdeal.τ Cert.KernelIdeal.sig) → Buf (Elt F) ℓ) (ρ : Dev Cert.KernelIdeal.nD → PrngReg) :
    θ_run (Cert.KernelIdeal.defs (F := F)) (onTc (τ := Cert.KernelIdeal.τ) (Cert.KernelIdeal.main (F := F))) ⟨m, fun _ => 0, ρ⟩ fun r =>
      (∀ c : Dev Cert.KernelIdeal.nD,
        r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0 :=
  (θ_run Cert.KernelIdeal.defs _ _).mono (fun _ h => ⟨fun c => ⟨(h.1 c).1, (h.1 c).2.1⟩, h.2⟩) (run_main m ρ)

/-- The kernel over the reals. -/
theorem frame_kernelIdeal : Cert.quiescent_KernelIdeal := fun m ρ _ => quiet (F := Ideal) m ρ

/-- The two copies of the kernel have the same body table, … -/
theorem defs₀_eq : Cert.Kernel.defs₀ (F := Bits) = Cert.KernelIdeal.defs₀ (F := Bits) := by
  unfold Cert.Kernel.defs₀ Cert.KernelIdeal.defs₀
  refine congrArg Defs.onTc ?_
  funext l x
  match l, x with
  | 0, (t, s) => rfl

/-- … so the same table with the pipeline's labels. -/
theorem defs_eq : Cert.Kernel.defs (F := Bits) = Cert.KernelIdeal.defs (F := Bits) :=
  congrArg (Pipeline.defs (Cert.Kernel.pcfgs (F := Bits))) defs₀_eq

/-- The kernel over machine floats: the same program, so the same run. -/
theorem frame_kernel : Cert.quiescent_Kernel := fun m ρ _ => by
  rw [defs_eq]
  exact quiet (F := Bits) m ρ

/-- The plain reference. -/
theorem frame_reference : Cert.quiescent_ReferenceIdeal := fun m ρ _ =>
  (θ_run Cert.ReferenceIdeal.defs _ _).mono
    (fun r h => ⟨fun c => ⟨(h c).2.1, (h c).2.2⟩, sem_eq_zero_of_no_sems (by decide) r.2⟩)
    (Cert.ReferenceIdeal.Value.run (F := Ideal) m ρ)

/-- The clipped reference. -/
theorem frame_clipped : Cert.quiescent_ClippedIdeal := fun m ρ _ =>
  (θ_run Cert.ClippedIdeal.defs _ _).mono
    (fun r h => ⟨fun c => ⟨(h c).2.1, (h c).2.2⟩, sem_eq_zero_of_no_sems (by decide) r.2⟩)
    (Cert.ClippedIdeal.Value.run (F := Ideal) m ρ)

end Cert.Butterfly

end
-- ==== Proof.Value.lean ====
/-
# The result

The kernel's result over the reals is, on every device, its rows of the activation of the whole product; so are the
references'.
-/
module

public import proofs.«01_k».proof.Proof.Total
public import proofs.«01_k».proof.Proof.Silu
public import proofs.«01_k».proof.Proof.Frames

@[expose] public section

noncomputable section

namespace Cert.Butterfly

open Idealize.ShloMosaic Idealize.SL.Sem Idealize.ShloMosaic.ValueIdx
open scoped BigOperators

/-- The whole result: the activation of the product. -/
def result (X : (⟨2, ![4096, 4096]⟩ : Shape).Idx → EReal) (W : (⟨2, ![4096, 2048]⟩ : Shape).Idx → EReal) :
    (⟨2, ![4096, 2048]⟩ : Shape).Idx → EReal := fun i => silu (prod X W (i 0) (i 1))

/-- The kernel's result on a device is its rows of the whole result. -/
theorem OB_eq (m : (ℓ : Loc Cert.KernelIdeal.nD Cert.KernelIdeal.τ Cert.KernelIdeal.sig) → Buf (Elt Ideal) ℓ)
    (X : (⟨2, ![4096, 4096]⟩ : Shape).Idx → EReal) (W : (⟨2, ![4096, 2048]⟩ : Shape).Idx → EReal)
    (hX : ∀ c, xArg m c = Layout.block ⟨2, ![4096, 512]⟩ ⟨2, ![4096, 4096]⟩ 1 8 c X)
    (hW : ∀ c, wArg m c = Layout.block ⟨2, ![512, 2048]⟩ ⟨2, ![4096, 2048]⟩ 0 8 c W) (c : Fin 8) :
    OB m c = Layout.block ⟨2, ![512, 2048]⟩ ⟨2, ![4096, 2048]⟩ 0 8 c (result X W) := by
  funext i
  rw [Layout.block_apply]
  refine (act_eq (AB m 3 c (ix3 0 (i 0) (i 1)))).trans (congrArg silu ?_)
  refine (AB_prod m X W hX hW c (i 0) (i 1)).trans (congrArg₂ (prod X W) (Fin.ext ?_) (Fin.ext ?_))
  · exact (congrArg (· + (i 0).val) (Nat.mul_comm 512 c.val)).trans (Layout.idx_rows_val _ c i).1.symm
  · exact (Layout.idx_rows_val _ c i).2.symm

/-- The host's product of the whole arrays, entry by entry. -/
theorem host_prod (w : DotDims.WF ⟨2, ![4096, 4096]⟩ ⟨2, ![4096, 2048]⟩ ⟨2, ![4096, 2048]⟩ [1] [0] [0] [1] [] [])
    (X : FVec Ideal ⟨2, ![4096, 4096]⟩ .f32) (W : FVec Ideal ⟨2, ![4096, 2048]⟩ .f32) (i : (⟨2, ![4096, 2048]⟩ : Shape).Idx) :
    (Host.dotGeneral ⟨[1], [0], [0], [1], [], [], w⟩ none X W i : EReal) = prod X W (i 0) (i 1) := by
  have hi : i = ix2 (i 0) (i 1) := by
    funext d
    match d with
    | ⟨0, _⟩ => rfl
    | ⟨1, _⟩ => rfl
  rw [hi]
  exact StackMember.dotGeneral_plain_apply none X W (i 0) (i 1)

/-- Where the mask is set, the product lies within the bounds of the clip. -/
theorem in_range (X : (⟨2, ![4096, 4096]⟩ : Shape).Idx → EReal) (W : (⟨2, ![4096, 2048]⟩ : Shape).Idx → EReal)
    (i : (⟨2, ![4096, 2048]⟩ : Shape).Idx) (h : @Cert.On_in_range.fn maskFacts Ideal _ X W i = 1#1) :
    max (prod X W (i 0) (i 1)) (-prod X W (i 0) (i 1)) ≤ ((60 : ℝ) : EReal) := by
  have hp := host_prod maskFacts.dot_S4096x4096_S4096x2048_S4096x2048_1_0_0_1_n_n_wf X W i
  have h' : BitVec.ofBool (decide (max (prod X W (i 0) (i 1)) (-prod X W (i 0) (i 1)) ≤ Ideal.ofBits .f32 0x42700000#32)) = 1#1 := by
    rw [← hp]
    exact h
  rw [ofBits_60] at h'
  by_contra hn
  rw [decide_eq_false hn] at h'
  exact absurd h' (by decide)

/-- The kernel's run over the reals, read at its result and arguments. -/
theorem kernel_run (m : (ℓ : Loc Cert.KernelIdeal.nD Cert.KernelIdeal.τ Cert.KernelIdeal.sig) → Buf (Elt Ideal) ℓ)
    (ρ : Dev Cert.KernelIdeal.nD → PrngReg)
    (X : (⟨2, ![4096, 4096]⟩ : Shape).Idx → EReal) (W : (⟨2, ![4096, 2048]⟩ : Shape).Idx → EReal)
    (hX : ∀ c, xArg m c = Layout.block ⟨2, ![4096, 512]⟩ ⟨2, ![4096, 4096]⟩ 1 8 c X)
    (hW : ∀ c, wArg m c = Layout.block ⟨2, ![512, 2048]⟩ ⟨2, ![4096, 2048]⟩ 0 8 c W) :
    θ_run (Cert.KernelIdeal.defs (F := Ideal)) (onTc (τ := Cert.KernelIdeal.τ) (Cert.KernelIdeal.main (F := Ideal))) ⟨m, fun _ => 0, ρ⟩ fun r =>
      ∀ c : Dev Cert.KernelIdeal.nD,
        r.2.mem ((c.tc : Thread Cert.KernelIdeal.nD Cert.KernelIdeal.τ).loc Cert.KernelIdeal.main_v1)
            = Layout.block ⟨2, ![512, 2048]⟩ ⟨2, ![4096, 2048]⟩ 0 8 c (result X W)
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1) :=
  (θ_run Cert.KernelIdeal.defs _ _).mono
    (fun _ h c => ⟨(h.1 c).2.2.trans (OB_eq m X W hX hW c), (h.1 c).1, (h.1 c).2.1⟩) (run_main (F := Ideal) m ρ)

/-- What the references are given: the whole `x` and the whole `w`. -/
abbrev refX (m : (ℓ : Loc Cert.ReferenceIdeal.nD Cert.ReferenceIdeal.τ Cert.ReferenceIdeal.sig) → Buf (Elt Ideal) ℓ) :
    (⟨2, ![4096, 4096]⟩ : Shape).Idx → EReal :=
  m (((0 : Dev Cert.ReferenceIdeal.nD).tc : Thread Cert.ReferenceIdeal.nD Cert.ReferenceIdeal.τ).loc Cert.ReferenceIdeal.main_arg0)
abbrev refW (m : (ℓ : Loc Cert.ReferenceIdeal.nD Cert.ReferenceIdeal.τ Cert.ReferenceIdeal.sig) → Buf (Elt Ideal) ℓ) :
    (⟨2, ![4096, 2048]⟩ : Shape).Idx → EReal :=
  m (((0 : Dev Cert.ReferenceIdeal.nD).tc : Thread Cert.ReferenceIdeal.nD Cert.ReferenceIdeal.τ).loc Cert.ReferenceIdeal.main_arg1)
abbrev clipX (m : (ℓ : Loc Cert.ClippedIdeal.nD Cert.ClippedIdeal.τ Cert.ClippedIdeal.sig) → Buf (Elt Ideal) ℓ) :
    (⟨2, ![4096, 4096]⟩ : Shape).Idx → EReal :=
  m (((0 : Dev Cert.ClippedIdeal.nD).tc : Thread Cert.ClippedIdeal.nD Cert.ClippedIdeal.τ).loc Cert.ClippedIdeal.main_arg0)
abbrev clipW (m : (ℓ : Loc Cert.ClippedIdeal.nD Cert.ClippedIdeal.τ Cert.ClippedIdeal.sig) → Buf (Elt Ideal) ℓ) :
    (⟨2, ![4096, 2048]⟩ : Shape).Idx → EReal :=
  m (((0 : Dev Cert.ClippedIdeal.nD).tc : Thread Cert.ClippedIdeal.nD Cert.ClippedIdeal.τ).loc Cert.ClippedIdeal.main_arg1)

/-- The plain reference: both sides end at the whole result. -/
theorem value_reference : Cert.algebraic_KernelIdeal_ReferenceIdeal := by
  intro m g m' g' _ hin
  refine ⟨result (refX m') (refW m'), kernel_run m g _ _ (fun c => (hin c).1) (fun c => (hin c).2), ?_⟩
  refine (θ_run Cert.ReferenceIdeal.defs _ _).mono (fun r h => ⟨(h 0).1.trans ?_, (h 0).2.1, (h 0).2.2⟩)
    (Cert.ReferenceIdeal.Value.run (F := Ideal) m' g')
  funext i
  have hp := host_prod Cert.ReferenceIdeal.Gen.dot_S4096x4096_S4096x2048_S4096x2048_1_0_0_1_n_n_wf (refX m') (refW m') i
  show Ideal.div _ (Ideal.ofBits .f32 0x3F800000#32 + Ideal.exp (-_)) = _
  rw [Ideal.ofBits_one_f32]
  exact congrArg silu hp

/-- The clipped reference, where the product lies within the bounds of the clip. -/
theorem value_clipped : Cert.algebraic_KernelIdeal_ClippedIdeal_on_in_range (hOn_in_range := maskFacts) := by
  intro m g m' g' _ hin
  refine ⟨result (clipX m') (clipW m'), (θ_run Cert.KernelIdeal.defs _ _).mono
    (fun r h c => ⟨fun i _ => congrFun (h c).1 i, (h c).2.1, (h c).2.2⟩)
    (kernel_run m g _ _ (fun c => (hin c).1) (fun c => (hin c).2)), ?_⟩
  refine (θ_run Cert.ClippedIdeal.defs _ _).mono (fun r h => ⟨fun i hi => (congrFun (h 0).1 i).trans ?_, (h 0).2.1, (h 0).2.2⟩)
    (Cert.ClippedIdeal.Value.run (F := Ideal) m' g')
  have hp := host_prod Cert.ClippedIdeal.Gen.dot_S4096x4096_S4096x2048_S4096x2048_1_0_0_1_n_n_wf (clipX m') (clipW m') i
  have hle := in_range (clipX m') (clipW m') i hi
  show Ideal.div _ (Ideal.ofBits .f32 0x3F800000#32
    + Ideal.exp (-(min (Ideal.ofBits .f32 0x42700000#32) (max (Ideal.ofBits .f32 0xC2700000#32) _)))) = _
  rw [Ideal.ofBits_one_f32, ofBits_60, ofBits_neg_60]
  refine (congrArg (fun y : EReal => Ideal.div y (1 + Ideal.exp (-(min ((60 : ℝ) : EReal) (max ((-60 : ℝ) : EReal) y))))) hp).trans ?_
  show Ideal.div _ _ = silu _
  rw [clip_of_le _ hle, silu]

end Cert.Butterfly

end
-- ==== Proof.lean ====
/-
# The certificate

The claims of `Cert.Claim`, put together: the runs end quietly (`Proof/Frames.lean`), the idealised kernel has no rewrite to
justify, and its results are the references' (`Proof/Value.lean`).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ClippedIdeal
public import proofs.«01_k».proof.Proof.Gen.ClippedIdeal.Run
public import proofs.«01_k».proof.Proof.Value
public import Idealize.ShloMosaic.Adequacy
public import Idealize.ShloMosaic.Init

@[expose] public section

noncomputable section

namespace Cert.Proof

open Idealize.ShloMosaic Idealize.SL.Sem Cert.Kernel

/-- Every claim. -/
theorem claim : Cert.Claim :=
  ⟨Cert.Kernel.Gen.facts, Cert.KernelIdeal.Gen.facts, Cert.ReferenceIdeal.Gen.facts, Cert.ClippedIdeal.Gen.facts,
    Cert.Butterfly.maskFacts,
    Cert.Butterfly.frame_kernel, Cert.Butterfly.frame_kernelIdeal, Cert.Butterfly.frame_reference, Cert.Butterfly.frame_clipped,
    trivial, Cert.Butterfly.value_reference, Cert.Butterfly.value_clipped⟩

end Cert.Proof

end
